-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixAReferenceIdeal (m : (ℓ : Loc Cert.MixAReferenceIdeal.nD Cert.MixAReferenceIdeal.τ Cert.MixAReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2)
      ∧ r.2.mem ((c.tc : Thread Cert.MixA.nD Cert.MixA.τ).loc Cert.MixA.main_arg3) = m ((c.tc : Thread Cert.MixA.nD Cert.MixA.τ).loc Cert.MixA.main_arg3)
      ∧ r.2.mem ((c.tc : Thread Cert.MixA.nD Cert.MixA.τ).loc Cert.MixA.main_arg4) = m ((c.tc : Thread Cert.MixA.nD Cert.MixA.τ).loc Cert.MixA.main_arg4)
      ∧ r.2.mem ((c.tc : Thread Cert.MixA.nD Cert.MixA.τ).loc Cert.MixA.main_arg5) = m ((c.tc : Thread Cert.MixA.nD Cert.MixA.τ).loc Cert.MixA.main_arg5)
      ∧ r.2.mem ((c.tc : Thread Cert.MixA.nD Cert.MixA.τ).loc Cert.MixA.main_arg6) = m ((c.tc : Thread Cert.MixA.nD Cert.MixA.τ).loc Cert.MixA.main_arg6)
      ∧ r.2.mem ((c.tc : Thread Cert.MixA.nD Cert.MixA.τ).loc Cert.MixA.main_arg7) = m ((c.tc : Thread Cert.MixA.nD Cert.MixA.τ).loc Cert.MixA.main_arg7)
      ∧ r.2.mem ((c.tc : Thread Cert.MixA.nD Cert.MixA.τ).loc Cert.MixA.main_arg8) = m ((c.tc : Thread Cert.MixA.nD Cert.MixA.τ).loc Cert.MixA.main_arg8)
      ∧ r.2.mem ((c.tc : Thread Cert.MixA.nD Cert.MixA.τ).loc Cert.MixA.main_arg9) = m ((c.tc : Thread Cert.MixA.nD Cert.MixA.τ).loc Cert.MixA.main_arg9))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
      ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4)
      ∧ r.2.mem ((c.tc : Thread Cert.MixAIdeal.nD Cert.MixAIdeal.τ).loc Cert.MixAIdeal.main_arg5) = m ((c.tc : Thread Cert.MixAIdeal.nD Cert.MixAIdeal.τ).loc Cert.MixAIdeal.main_arg5)
      ∧ r.2.mem ((c.tc : Thread Cert.MixAIdeal.nD Cert.MixAIdeal.τ).loc Cert.MixAIdeal.main_arg6) = m ((c.tc : Thread Cert.MixAIdeal.nD Cert.MixAIdeal.τ).loc Cert.MixAIdeal.main_arg6)
      ∧ r.2.mem ((c.tc : Thread Cert.MixAIdeal.nD Cert.MixAIdeal.τ).loc Cert.MixAIdeal.main_arg7) = m ((c.tc : Thread Cert.MixAIdeal.nD Cert.MixAIdeal.τ).loc Cert.MixAIdeal.main_arg7)
      ∧ r.2.mem ((c.tc : Thread Cert.MixAIdeal.nD Cert.MixAIdeal.τ).loc Cert.MixAIdeal.main_arg8) = m ((c.tc : Thread Cert.MixAIdeal.nD Cert.MixAIdeal.τ).loc Cert.MixAIdeal.main_arg8)
      ∧ r.2.mem ((c.tc : Thread Cert.MixAIdeal.nD Cert.MixAIdeal.τ).loc Cert.MixAIdeal.main_arg9) = m ((c.tc : Thread Cert.MixAIdeal.nD Cert.MixAIdeal.τ).loc Cert.MixAIdeal.main_arg9))
      ∧ r.2.sem = fun _ => 0)

def quiescent_MixAReferenceIdeal [hMixAReferenceIdeal : Cert.MixAReferenceIdeal.Facts] : Prop :=
  ∀ (m : (ℓ : Loc Cert.MixAReferenceIdeal.nD Cert.MixAReferenceIdeal.τ Cert.MixAReferenceIdeal.sig) → Buf (Elt Ideal) ℓ) (g : Dev Cert.MixAReferenceIdeal.nD → PrngReg), Pre_MixAReferenceIdeal m →
    θ_run (Cert.MixAReferenceIdeal.defs (F := Ideal)) (onTc (τ := Cert.MixAReferenceIdeal.τ) (Cert.MixAReferenceIdeal.main (F := Ideal))) ⟨m, fun _ => 0, g⟩ (fun r => (∀ c : Dev Cert.MixAReferenceIdeal.nD,
      r.2.mem ((c.tc : Thread Cert.MixAReferenceIdeal.nD Cert.MixAReferenceIdeal.τ).loc Cert.MixAReferenceIdeal.main_arg0) = m ((c.tc : Thread Cert.MixAReferenceIdeal.nD Cert.MixAReferenceIdeal.τ).loc Cert.MixAReferenceIdeal.main_arg0)
      ∧ r.2.mem ((c.tc : Thread Cert.MixAReferenceIdeal.nD Cert.MixAReferenceIdeal.τ).loc Cert.MixAReferenceIdeal.main_arg1) = m ((c.tc : Thread Cert.MixAReferenceIdeal.nD Cert.MixAReferenceIdeal.τ).loc Cert.MixAReferenceIdeal.main_arg1)
      ∧ r.2.mem ((c.tc : Thread Cert.MixAReferenceIdeal.nD Cert.MixAReferenceIdeal.τ).loc Cert.MixAReferenceIdeal.main_arg2) = m ((c.tc : Thread Cert.MixAReferenceIdeal.nD Cert.MixAReferenceIdeal.τ).loc Cert.MixAReferenceIdeal.main_arg2)
      ∧ r.2.mem ((c.tc : Thread Cert.MixAReferenceIdeal.nD Cert.MixAReferenceIdeal.τ).loc Cert.MixAReferenceIdeal.main_arg3) = m ((c.tc : Thread Cert.MixAReferenceIdeal.nD Cert.MixAReferenceIdeal.τ).loc Cert.MixAReferenceIdeal.main_arg3)
      ∧ r.2.mem ((c.tc : Thread Cert.MixAReferenceIdeal.nD Cert.MixAReferenceIdeal.τ).loc Cert.MixAReferenceIdeal.main_arg4) = m ((c.tc : Thread Cert.MixAReferenceIdeal.nD Cert.MixAReferenceIdeal.τ).loc Cert.MixAReferenceIdeal.main_arg4)
      ∧ r.2.mem ((c.tc : Thread Cert.MixAReferenceIdeal.nD Cert.MixAReferenceIdeal.τ).loc Cert.MixAReferenceIdeal.main_arg5) = m ((c.tc : Thread Cert.MixAReferenceIdeal.nD Cert.MixAReferenceIdeal.τ).loc Cert.MixAReferenceIdeal.main_arg5)
      ∧ r.2.mem ((c.tc : Thread Cert.MixAReferenceIdeal.nD Cert.MixAReferenceIdeal.τ).loc Cert.MixAReferenceIdeal.main_arg6) = m ((c.tc : Thread Cert.MixAReferenceIdeal.nD Cert.MixAReferenceIdeal.τ).loc Cert.MixAReferenceIdeal.main_arg6)
      ∧ r.2.mem ((c.tc : Thread Cert.MixAReferenceIdeal.nD Cert.MixAReferenceIdeal.τ).loc Cert.MixAReferenceIdeal.main_arg7) = m ((c.tc : Thread Cert.MixAReferenceIdeal.nD Cert.MixAReferenceIdeal.τ).loc Cert.MixAReferenceIdeal.main_arg7)
      ∧ r.2.mem ((c.tc : Thread Cert.MixAReferenceIdeal.nD Cert.MixAReferenceIdeal.τ).loc Cert.MixAReferenceIdeal.main_arg8) = m ((c.tc : Thread Cert.MixAReferenceIdeal.nD Cert.MixAReferenceIdeal.τ).loc Cert.MixAReferenceIdeal.main_arg8)
      ∧ r.2.mem ((c.tc : Thread Cert.MixAReferenceIdeal.nD Cert.MixAReferenceIdeal.τ).loc Cert.MixAReferenceIdeal.main_arg9) = m ((c.tc : Thread Cert.MixAReferenceIdeal.nD Cert.MixAReferenceIdeal.τ).loc Cert.MixAReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.bf16_pack.Statement Cert.KernelIdeal.S512x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)) (v2 : (c : Dev Cert.FfnIdeal.nD) → Buf (Elt Ideal) ((c.tc : Thread Cert.FfnIdeal.nD Cert.FfnIdeal.τ).loc Cert.FfnIdeal.main_v3_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_v3_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v76) = v0 c
          ∧ r.2.mem ((c.tc : Thread Cert.FfnReferenceIdeal.nD Cert.FfnReferenceIdeal.τ).loc Cert.FfnReferenceIdeal.main_v77) = v1 c
          ∧ r.2.mem ((c.tc : Thread Cert.FfnReferenceIdeal.nD Cert.FfnReferenceIdeal.τ).loc Cert.FfnReferenceIdeal.main_v78) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v4) = v0 c
          ∧ r.2.mem ((c.tc : Thread Cert.MemKvReferenceIdeal.nD Cert.MemKvReferenceIdeal.τ).loc Cert.MemKvReferenceIdeal.main_v7) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v17) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_MixA_MixAIdeal : Prop :=
  True

def algebraic_MixAIdeal_MixAReferenceIdeal [hMixAIdeal : Cert.MixAIdeal.Facts] [hMixAReferenceIdeal : Cert.MixAReferenceIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixAReferenceIdeal.nD Cert.MixAReferenceIdeal.τ Cert.MixAReferenceIdeal.sig) → Buf (Elt Ideal) ℓ) (g' : Dev Cert.MixAReferenceIdeal.nD → PrngReg), Pre_MixAIdeal m →
    (∀ c : Dev Cert.MixAIdeal.nD,
      m' ((c.tc : Thread Cert.MixAReferenceIdeal.nD Cert.MixAReferenceIdeal.τ).loc Cert.MixAReferenceIdeal.main_arg0) = m ((c.tc : Thread Cert.MixAIdeal.nD Cert.MixAIdeal.τ).loc Cert.MixAIdeal.main_arg0)
      ∧ m' ((c.tc : Thread Cert.MixAReferenceIdeal.nD Cert.MixAReferenceIdeal.τ).loc Cert.MixAReferenceIdeal.main_arg1) = m ((c.tc : Thread Cert.MixAIdeal.nD Cert.MixAIdeal.τ).loc Cert.MixAIdeal.main_arg1)
      ∧ m' ((c.tc : Thread Cert.MixAReferenceIdeal.nD Cert.MixAReferenceIdeal.τ).loc Cert.MixAReferenceIdeal.main_arg2) = m ((c.tc : Thread Cert.MixAIdeal.nD Cert.MixAIdeal.τ).loc Cert.MixAIdeal.main_arg2)
      ∧ m' ((c.tc : Thread Cert.MixAReferenceIdeal.nD Cert.MixAReferenceIdeal.τ).loc Cert.MixAReferenceIdeal.main_arg3) = m ((c.tc : Thread Cert.MixAIdeal.nD Cert.MixAIdeal.τ).loc Cert.MixAIdeal.main_arg3)
      ∧ m' ((c.tc : Thread Cert.MixAReferenceIdeal.nD Cert.MixAReferenceIdeal.τ).loc Cert.MixAReferenceIdeal.main_arg4) = m ((c.tc : Thread Cert.MixAIdeal.nD Cert.MixAIdeal.τ).loc Cert.MixAIdeal.main_arg4)
      ∧ m' ((c.tc : Thread Cert.MixAReferenceIdeal.nD Cert.MixAReferenceIdeal.τ).loc Cert.MixAReferenceIdeal.main_arg5) = m ((c.tc : Thread Cert.MixAIdeal.nD Cert.MixAIdeal.τ).loc Cert.MixAIdeal.main_arg5)
      ∧ m' ((c.tc : Thread Cert.MixAReferenceIdeal.nD Cert.MixAReferenceIdeal.τ).loc Cert.MixAReferenceIdeal.main_arg6) = m ((c.tc : Thread Cert.MixAIdeal.nD Cert.MixAIdeal.τ).loc Cert.MixAIdeal.main_arg6)
      ∧ m' ((c.tc : Thread Cert.MixAReferenceIdeal.nD Cert.MixAReferenceIdeal.τ).loc Cert.MixAReferenceIdeal.main_arg7) = m ((c.tc : Thread Cert.MixAIdeal.nD Cert.MixAIdeal.τ).loc Cert.MixAIdeal.main_arg7)
      ∧ m' ((c.tc : Thread Cert.MixAReferenceIdeal.nD Cert.MixAReferenceIdeal.τ).loc Cert.MixAReferenceIdeal.main_arg8) = m ((c.tc : Thread Cert.MixAIdeal.nD Cert.MixAIdeal.τ).loc Cert.MixAIdeal.main_arg8)
      ∧ m' ((c.tc : Thread Cert.MixAReferenceIdeal.nD Cert.MixAReferenceIdeal.τ).loc Cert.MixAReferenceIdeal.main_arg9) = m ((c.tc : Thread Cert.MixAIdeal.nD Cert.MixAIdeal.τ).loc Cert.MixAIdeal.main_arg9)) →
    ∃ (v0 : (c : Dev Cert.MixAIdeal.nD) → Buf (Elt Ideal) ((c.tc : Thread Cert.MixAIdeal.nD Cert.MixAIdeal.τ).loc Cert.MixAIdeal.main_v9)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v9) = v0 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
          ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
          ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4)
          ∧ r.2.mem ((c.tc : Thread Cert.MixAIdeal.nD Cert.MixAIdeal.τ).loc Cert.MixAIdeal.main_arg5) = m ((c.tc : Thread Cert.MixAIdeal.nD Cert.MixAIdeal.τ).loc Cert.MixAIdeal.main_arg5)
          ∧ r.2.mem ((c.tc : Thread Cert.MixAIdeal.nD Cert.MixAIdeal.τ).loc Cert.MixAIdeal.main_arg6) = m ((c.tc : Thread Cert.MixAIdeal.nD Cert.MixAIdeal.τ).loc Cert.MixAIdeal.main_arg6)
          ∧ r.2.mem ((c.tc : Thread Cert.MixAIdeal.nD Cert.MixAIdeal.τ).loc Cert.MixAIdeal.main_arg7) = m ((c.tc : Thread Cert.MixAIdeal.nD Cert.MixAIdeal.τ).loc Cert.MixAIdeal.main_arg7)
          ∧ r.2.mem ((c.tc : Thread Cert.MixAIdeal.nD Cert.MixAIdeal.τ).loc Cert.MixAIdeal.main_arg8) = m ((c.tc : Thread Cert.MixAIdeal.nD Cert.MixAIdeal.τ).loc Cert.MixAIdeal.main_arg8)
          ∧ r.2.mem ((c.tc : Thread Cert.MixAIdeal.nD Cert.MixAIdeal.τ).loc Cert.MixAIdeal.main_arg9) = m ((c.tc : Thread Cert.MixAIdeal.nD Cert.MixAIdeal.τ).loc Cert.MixAIdeal.main_arg9))
      ∧ θ_run (Cert.MixAReferenceIdeal.defs (F := Ideal)) (onTc (τ := Cert.MixAReferenceIdeal.τ) (Cert.MixAReferenceIdeal.main (F := Ideal))) ⟨m', fun _ => 0, g'⟩ (fun r => ∀ c : Dev Cert.MixAReferenceIdeal.nD,
          r.2.mem ((c.tc : Thread Cert.MixAReferenceIdeal.nD Cert.MixAReferenceIdeal.τ).loc Cert.MixAReferenceIdeal.main_v104) = v0 c
          ∧ r.2.mem ((c.tc : Thread Cert.MixAReferenceIdeal.nD Cert.MixAReferenceIdeal.τ).loc Cert.MixAReferenceIdeal.main_arg0) = m' ((c.tc : Thread Cert.MixAReferenceIdeal.nD Cert.MixAReferenceIdeal.τ).loc Cert.MixAReferenceIdeal.main_arg0)
          ∧ r.2.mem ((c.tc : Thread Cert.MixAReferenceIdeal.nD Cert.MixAReferenceIdeal.τ).loc Cert.MixAReferenceIdeal.main_arg1) = m' ((c.tc : Thread Cert.MixAReferenceIdeal.nD Cert.MixAReferenceIdeal.τ).loc Cert.MixAReferenceIdeal.main_arg1)
          ∧ r.2.mem ((c.tc : Thread Cert.MixAReferenceIdeal.nD Cert.MixAReferenceIdeal.τ).loc Cert.MixAReferenceIdeal.main_arg2) = m' ((c.tc : Thread Cert.MixAReferenceIdeal.nD Cert.MixAReferenceIdeal.τ).loc Cert.MixAReferenceIdeal.main_arg2)
          ∧ r.2.mem ((c.tc : Thread Cert.MixAReferenceIdeal.nD Cert.MixAReferenceIdeal.τ).loc Cert.MixAReferenceIdeal.main_arg3) = m' ((c.tc : Thread Cert.MixAReferenceIdeal.nD Cert.MixAReferenceIdeal.τ).loc Cert.MixAReferenceIdeal.main_arg3)
          ∧ r.2.mem ((c.tc : Thread Cert.MixAReferenceIdeal.nD Cert.MixAReferenceIdeal.τ).loc Cert.MixAReferenceIdeal.main_arg4) = m' ((c.tc : Thread Cert.MixAReferenceIdeal.nD Cert.MixAReferenceIdeal.τ).loc Cert.MixAReferenceIdeal.main_arg4)
          ∧ r.2.mem ((c.tc : Thread Cert.MixAReferenceIdeal.nD Cert.MixAReferenceIdeal.τ).loc Cert.MixAReferenceIdeal.main_arg5) = m' ((c.tc : Thread Cert.MixAReferenceIdeal.nD Cert.MixAReferenceIdeal.τ).loc Cert.MixAReferenceIdeal.main_arg5)
          ∧ r.2.mem ((c.tc : Thread Cert.MixAReferenceIdeal.nD Cert.MixAReferenceIdeal.τ).loc Cert.MixAReferenceIdeal.main_arg6) = m' ((c.tc : Thread Cert.MixAReferenceIdeal.nD Cert.MixAReferenceIdeal.τ).loc Cert.MixAReferenceIdeal.main_arg6)
          ∧ r.2.mem ((c.tc : Thread Cert.MixAReferenceIdeal.nD Cert.MixAReferenceIdeal.τ).loc Cert.MixAReferenceIdeal.main_arg7) = m' ((c.tc : Thread Cert.MixAReferenceIdeal.nD Cert.MixAReferenceIdeal.τ).loc Cert.MixAReferenceIdeal.main_arg7)
          ∧ r.2.mem ((c.tc : Thread Cert.MixAReferenceIdeal.nD Cert.MixAReferenceIdeal.τ).loc Cert.MixAReferenceIdeal.main_arg8) = m' ((c.tc : Thread Cert.MixAReferenceIdeal.nD Cert.MixAReferenceIdeal.τ).loc Cert.MixAReferenceIdeal.main_arg8)
          ∧ r.2.mem ((c.tc : Thread Cert.MixAReferenceIdeal.nD Cert.MixAReferenceIdeal.τ).loc Cert.MixAReferenceIdeal.main_arg9) = m' ((c.tc : Thread Cert.MixAReferenceIdeal.nD Cert.MixAReferenceIdeal.τ).loc Cert.MixAReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemKv : Cert.MemKv.Facts) (hMemKvIdeal : Cert.MemKvIdeal.Facts) (hMemKvReferenceIdeal : Cert.MemKvReferenceIdeal.Facts) (hMixOut : Cert.MixOut.Facts) (hMixOutIdeal : Cert.MixOutIdeal.Facts) (hMixOutReferenceIdeal : Cert.MixOutReferenceIdeal.Facts) (hMixA : Cert.MixA.Facts) (hMixAIdeal : Cert.MixAIdeal.Facts) (hMixAReferenceIdeal : Cert.MixAReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixA (hMixA := hMixA)
    ∧ quiescent_MixAIdeal (hMixAIdeal := hMixAIdeal)
    ∧ quiescent_MixAReferenceIdeal (hMixAReferenceIdeal := hMixAReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_MemKv_MemKvIdeal
    ∧ algebraic_MemKvIdeal_MemKvReferenceIdeal (hMemKvIdeal := hMemKvIdeal) (hMemKvReferenceIdeal := hMemKvReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixA_MixAIdeal
    ∧ algebraic_MixAIdeal_MixAReferenceIdeal (hMixAIdeal := hMixAIdeal) (hMixAReferenceIdeal := hMixAReferenceIdeal)
-- ==== Pre_finite.lean ====
abbrev S16x2048x12x64 : Shape := ⟨4, ![16, 2048, 12, 64]⟩
abbrev S1x12 : Shape := ⟨2, ![1, 12]⟩
abbrev S_ : Shape := ⟨0, ![]⟩

class Facts : Prop where
  bcast_S_S16x2048x12x64 : S_.BroadcastsInDim S16x2048x12x64 (![] : Fin 0 → Fin S16x2048x12x64.rank)
  reducesTo_S16x2048x12x64_S_d0_1_2_3 : S16x2048x12x64.ReducesTo [0, 1, 2, 3] S_
  h_S_ : 0 < S_.numel
  bcast_S_S1x12 : S_.BroadcastsInDim S1x12 (![] : Fin 0 → Fin S1x12.rank)
  reducesTo_S1x12_S_d0_1 : S1x12.ReducesTo [0, 1] S_

variable [Facts]

def fn_part1 {F : FTy → Type} [FloatOps F] (main_arg3 : FVec F S1x12 .f32) (main_v12 : IVec S_ 1) (main_v14 : IVec S1x12 1) (main_v15 : FVec F S1x12 .f32) : IVec S_ 1 :=
  let main_v16 : IVec S1x12 1 := cmpf .olt main_arg3 main_v15
  let main_v17 : IVec S1x12 1 := andi main_v14 main_v16
  let main_c_6 : IVec S_ 1 := constantI S_ 1 1#1
  let main_v18 : IVec S_ 1 := (fun x v => Host.reduce IntOp.andi x v reducesTo_S1x12_S_d0_1 h_S_) main_v17 main_c_6
  let main_v19 : IVec S_ 1 := andi main_v12 main_v18
  main_v19

def fn {F : FTy → Type} [FloatOps F] (main_arg0 : FVec F S16x2048x12x64 .f32) (main_arg1 : FVec F S16x2048x12x64 .f32) (main_arg2 : FVec F S16x2048x12x64 .f32) (main_arg3 : FVec F S1x12 .f32) : IVec S_ 1 :=
  let main_cst : FVec F S_ .f32 := constant S_ .f32 0xFF800000#32
  let main_v0 : FVec F S16x2048x12x64 .f32 := broadcastInDim S16x2048x12x64 ![] bcast_S_S16x2048x12x64 main_cst
  let main_v1 : IVec S16x2048x12x64 1 := cmpf .ogt main_arg0 main_v0
  let main_cst_0 : FVec F S_ .f32 := constant S_ .f32 0x7F800000#32
  let main_v2 : FVec F S16x2048x12x64 .f32 := broadcastInDim S16x2048x12x64 ![] bcast_S_S16x2048x12x64 main_cst_0
  let main_v3 : IVec S16x2048x12x64 1 := cmpf .olt main_arg0 main_v2
  let main_v4 : IVec S16x2048x12x64 1 := andi main_v1 main_v3
  let main_c : IVec S_ 1 := constantI S_ 1 1#1
  let main_v5 : IVec S_ 1 := (fun x v => Host.reduce IntOp.andi x v reducesTo_S16x2048x12x64_S_d0_1_2_3 h_S_) main_v4 main_c
  let main_cst_1 : FVec F S_ .f32 := constant S_ .f32 0xFF800000#32
  let main_v6 : FVec F S16x2048x12x64 .f32 := broadcastInDim S16x2048x12x64 ![] bcast_S_S16x2048x12x64 main_cst_1
  let main_v7 : IVec S16x2048x12x64 1 := cmpf .ogt main_arg1 main_v6
  let main_cst_2 : FVec F S_ .f32 := constant S_ .f32 0x7F800000#32
  let main_v8 : FVec F S16x2048x12x64 .f32 := broadcastInDim S16x2048x12x64 ![] bcast_S_S16x2048x12x64 main_cst_2
  let main_v9 : IVec S16x2048x12x64 1 := cmpf .olt main_arg1 main_v8
  let main_v10 : IVec S16x2048x12x64 1 := andi main_v7 main_v9
  let main_c_3 : IVec S_ 1 := constantI S_ 1 1#1
  let main_v11 : IVec S_ 1 := (fun x v => Host.reduce IntOp.andi x v reducesTo_S16x2048x12x64_S_d0_1_2_3 h_S_) main_v10 main_c_3
  let main_v12 : IVec S_ 1 := andi main_v5 main_v11
  let main_cst_4 : FVec F S_ .f32 := constant S_ .f32 0xFF800000#32
  let main_v13 : FVec F S1x12 .f32 := broadcastInDim S1x12 ![] bcast_S_S1x12 main_cst_4
  let main_v14 : IVec S1x12 1 := cmpf .ogt main_arg3 main_v13
  let main_cst_5 : FVec F S_ .f32 := constant S_ .f32 0x7F800000#32
  let main_v15 : FVec F S1x12 .f32 := broadcastInDim S1x12 ![] bcast_S_S1x12 main_cst_5
  fn_part1 (F := F) main_arg3 main_v12 main_v14 main_v15
-- ==== Kernel.lean ====
abbrev S16x2048x12x64 : Shape := ⟨4, ![16, 2048, 12, 64]⟩
abbrev S1x12 : Shape := ⟨2, ![1, 12]⟩
abbrev S32768x768 : Shape := ⟨2, ![32768, 768]⟩
abbrev S_ : Shape := ⟨0, ![]⟩
abbrev S16x12x64x2048 : Shape := ⟨4, ![16, 12, 64, 2048]⟩
abbrev S12288x2048 : Shape := ⟨2, ![12288, 2048]⟩
abbrev S12 : Shape := ⟨1, ![12]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x768 : Shape := ⟨2, ![256, 768]⟩
abbrev S768x2048 : Shape := ⟨2, ![768, 2048]⟩
abbrev S2048x768 : Shape := ⟨2, ![2048, 768]⟩
abbrev S6x512x128 : Shape := ⟨3, ![6, 512, 128]⟩
abbrev S6x256x128 : Shape := ⟨3, ![6, 256, 128]⟩
abbrev S512x256 : Shape := ⟨2, ![512, 256]⟩
abbrev S256x128 : Shape := ⟨2, ![256, 128]⟩
abbrev S512x128 : Shape := ⟨2, ![512, 128]⟩
abbrev S128x256 : Shape := ⟨2, ![128, 256]⟩
abbrev S1 : Shape := ⟨1, ![1]⟩
abbrev S6144x256 : Shape := ⟨2, ![6144, 256]⟩
abbrev S1x512x128 : Shape := ⟨3, ![1, 512, 128]⟩
abbrev S256x512 : Shape := ⟨2, ![256, 512]⟩
abbrev S1x256x128 : Shape := ⟨3, ![1, 256, 128]⟩

abbrev nBuf : Space → Nat
  | .hbm => 89
  | .vmem => 15
  | .smem => 1
  | _ => 0

abbrev bufTy : (tb : Table) → Fin (tcTables nBuf tb) → BufTy
  | .hbm, ⟨0, _⟩ => ⟨S16x2048x12x64, .f32⟩
  | .hbm, ⟨1, _⟩ => ⟨S16x2048x12x64, .f32⟩
  | .hbm, ⟨2, _⟩ => ⟨S16x2048x12x64, .f32⟩
  | .hbm, ⟨3, _⟩ => ⟨S1x12, .f32⟩
  | .hbm, ⟨4, _⟩ => ⟨S32768x768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x768, .f32⟩
  | .hbm, ⟨10, _⟩ => ⟨S32768x768, .f32⟩
  | .hbm, ⟨11, _⟩ => ⟨S32768x768, .f32⟩
  | .hbm, ⟨12, _⟩ => ⟨S32768x768, .i32⟩
  | .hbm, ⟨13, _⟩ => ⟨S_, .i32⟩
  | .hbm, ⟨14, _⟩ => ⟨S32768x768, .i32⟩
  | .hbm, ⟨15, _⟩ => ⟨S32768x768, .i32⟩
  | .hbm, ⟨16, _⟩ => ⟨S_, .i32⟩
  | .hbm, ⟨17, _⟩ => ⟨S32768x768, .i32⟩
  | .hbm, ⟨18, _⟩ => ⟨S32768x768, .i32⟩
  | .hbm, ⟨19, _⟩ => ⟨S_, .i32⟩
  | .hbm, ⟨20, _⟩ => ⟨S32768x768, .i32⟩
  | .hbm, ⟨21, _⟩ => ⟨S32768x768, .i1⟩
  | .hbm, ⟨22, _⟩ => ⟨S_, .f32⟩
  | .hbm, ⟨23, _⟩ => ⟨S_, .f32⟩
  | .hbm, ⟨24, _⟩ => ⟨S32768x768, .f32⟩
  | .hbm, ⟨25, _⟩ => ⟨S32768x768, .f32⟩
  | .hbm, ⟨26, _⟩ => ⟨S32768x768, .bf16⟩
  | .hbm, ⟨27, _⟩ => ⟨S_, .f32⟩
  | .hbm, ⟨28, _⟩ => ⟨S_, .f32⟩
  | .hbm, ⟨29, _⟩ => ⟨S32768x768, .f32⟩
  | .hbm, ⟨30, _⟩ => ⟨S32768x768, .f32⟩
  | .hbm, ⟨31, _⟩ => ⟨S32768x768, .bf16⟩
  | .hbm, ⟨32, _⟩ => ⟨S_, .f32⟩
  | .hbm, ⟨33, _⟩ => ⟨S_, .f32⟩
  | .hbm, ⟨34, _⟩ => ⟨S32768x768, .f32⟩
  | .hbm, ⟨35, _⟩ => ⟨S32768x768, .f32⟩
  | .hbm, ⟨36, _⟩ => ⟨S32768x768, .bf16⟩
  | .hbm, ⟨37, _⟩ => ⟨S_, .f32⟩
  | .hbm, ⟨38, _⟩ => ⟨S_, .f32⟩
  | .hbm, ⟨39, _⟩ => ⟨S32768x768, .f32⟩
  | .hbm, ⟨40, _⟩ => ⟨S32768x768, .f32⟩
  | .hbm, ⟨41, _⟩ => ⟨S32768x768, .bf16⟩
  | .hbm, ⟨42, _⟩ => ⟨S16x12x64x2048, .f32⟩
  | .hbm, ⟨43, _⟩ => ⟨S12288x2048, .f32⟩
  | .hbm, ⟨44, _⟩ => ⟨S12288x2048, .bf16⟩
  | .hbm, ⟨45, _⟩ => ⟨S12, .f32⟩
  | .hbm, ⟨46, _⟩ => ⟨S256, .i32⟩
  | .hbm, ⟨47, _⟩ => ⟨S256x1, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S256x1, .i32⟩
  | .hbm, ⟨55, _⟩ => ⟨S256x1, .i32⟩
  | .hbm, ⟨56, _⟩ => ⟨S_, .i32⟩
  | .hbm, ⟨57, _⟩ => ⟨S256x1, .i32⟩
  | .hbm, ⟨58, _⟩ => ⟨S256x1, .i1⟩
  | .hbm, ⟨59, _⟩ => ⟨S_, .i32⟩
  | .hbm, ⟨60, _⟩ => ⟨S256x1, .i32⟩
  | .hbm, ⟨61, _⟩ => ⟨S256x1, .i1⟩
  | .hbm, ⟨62, _⟩ => ⟨S_, .i32⟩
  | .hbm, ⟨63, _⟩ => ⟨S_, .i1⟩
  | .hbm, ⟨64, _⟩ => ⟨S256x1, .i1⟩
  | .hbm, ⟨65, _⟩ => ⟨S256x1, .i1⟩
  | .hbm, ⟨66, _⟩ => ⟨S256x1, .i1⟩
  | .hbm, ⟨67, _⟩ => ⟨S256x1, .i32⟩
  | .hbm, ⟨68, _⟩ => ⟨S256x1, .i32⟩
  | .hbm, ⟨69, _⟩ => ⟨S256x1, .i32⟩
  | .hbm, ⟨70, _⟩ => ⟨S256, .i32⟩
  | .hbm, ⟨71, _⟩ => ⟨S1x256, .i32⟩
  | .hbm, ⟨72, _⟩ => ⟨S_, .i32⟩
  | .hbm, ⟨73, _⟩ => ⟨S1x256, .i32⟩
  | .hbm, ⟨74, _⟩ => ⟨S1x256, .i1⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S_, .i1⟩
  | .hbm, ⟨79, _⟩ => ⟨S256x256, .i1⟩
  | .hbm, ⟨80, _⟩ => ⟨S256x256, .i1⟩
  | .hbm, ⟨81, _⟩ => ⟨S256x256, .i1⟩
  | .hbm, ⟨82, _⟩ => ⟨S_, .f32⟩
  | .hbm, ⟨83, _⟩ => ⟨S_, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S256x256, .bf16⟩
  | .hbm, ⟨88, _⟩ => ⟨S32768x768, .bf16⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S768x2048, .bf16⟩
  | .local _ .vmem, ⟨5, _⟩ => ⟨S768x2048, .bf16⟩
  | .local _ .vmem, ⟨6, _⟩ => ⟨S2048x768, .bf16⟩
  | .local _ .vmem, ⟨7, _⟩ => ⟨S2048x768, .bf16⟩
  | .local _ .vmem, ⟨8, _⟩ => ⟨S2048x768, .bf16⟩
  | .local _ .vmem, ⟨9, _⟩ => ⟨S2048x768, .bf16⟩
  | .local _ .vmem, ⟨10, _⟩ => ⟨S256x256, .bf16⟩
  | .local _ .vmem, ⟨11, _⟩ => ⟨S256x768, .bf16⟩
  | .local _ .vmem, ⟨12, _⟩ => ⟨S256x768, .bf16⟩
  | .local _ .vmem, ⟨13, _⟩ => ⟨S6x512x128, .f32⟩
  | .local _ .vmem, ⟨14, _⟩ => ⟨S6x256x128, .f32⟩
  | .local _ .smem, ⟨0, _⟩ => ⟨S12, .f32⟩
  | _, _ => ⟨S16x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_call4_v0 : Ref sig .tc := ⟨.hbm, 49, rfl⟩
abbrev main_call4_c : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_v5 : Ref sig .tc := ⟨.hbm, 57, rfl⟩
abbrev main_call4_v6 : Ref sig .tc := ⟨.hbm, 58, rfl⟩
abbrev main_call4_c_2 : Ref sig .tc := ⟨.hbm, 59, rfl⟩
abbrev main_call4_v7 : Ref sig .tc := ⟨.hbm, 60, rfl⟩
abbrev main_call4_v8 : Ref sig .tc := ⟨.hbm, 61, rfl⟩
abbrev main_call4_c_3 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_8 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_9 : Ref sig .tc := ⟨.hbm, 78, rfl⟩
abbrev main_call5_v0 : Ref sig .tc := ⟨.hbm, 79, rfl⟩
abbrev main_call5_v1 : Ref sig .tc := ⟨.hbm, 80, rfl⟩
abbrev main_v35 : Ref sig .tc := ⟨.hbm, 81, rfl⟩
abbrev main_cst_10 : Ref sig .tc := ⟨.hbm, 82, rfl⟩
abbrev main_cst_11 : Ref sig .tc := ⟨.hbm, 83, rfl⟩
abbrev main_call6_v0 : Ref sig .tc := ⟨.hbm, 84, rfl⟩
abbrev main_call6_v1 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨2, ![16, 8], ![false, false]⟩

def k0_mult1 (i : grid0.Coords) : BitVec 32 :=
  let arg1 : BitVec 32 := BitVec.ofNat 32 (i 1).val
  let c256_i32_0 : BitVec 32 := 256#32
  let v8 : BitVec 32 := Scalar.muli arg1 c256_i32_0
  v8
def k0_off1 (i : grid0.Coords) : Fin 2 → Nat :=
  let c0_4 : Index := 0#32
  let arg1 : BitVec 32 := BitVec.ofNat 32 (i 1).val
  let c256_i32_0 : BitVec 32 := 256#32
  let v8 : BitVec 32 := Scalar.muli arg1 c256_i32_0
  let v9 : BitVec 32 := v8
  let v15 : Index := Scalar.indexCast v9
  ![0, v15.toNat]
def k0_off2 (i : grid0.Coords) : Fin 2 → Nat :=
  let c128_8 : Index := 128#32
  let arg1 : BitVec 32 := BitVec.ofNat 32 (i 1).val
  let c256_i32_0 : BitVec 32 := 256#32
  let v8 : BitVec 32 := Scalar.muli arg1 c256_i32_0
  let v9 : BitVec 32 := v8
  let v24 : Index := Scalar.indexCast v9
  ![128, v24.toNat]
def k0_off3 (i : grid0.Coords) : Fin 2 → Nat :=
  let c256_13 : Index := 256#32
  let arg1 : BitVec 32 := BitVec.ofNat 32 (i 1).val
  let c256_i32_0 : BitVec 32 := 256#32
  let v8 : BitVec 32 := Scalar.muli arg1 c256_i32_0
  let v9 : BitVec 32 := v8
  let v33 : Index := Scalar.indexCast v9
  ![256, v33.toNat]
def k0_off4 (i : grid0.Coords) : Fin 2 → Nat :=
  let c384_18 : Index := 384#32
  let arg1 : BitVec 32 := BitVec.ofNat 32 (i 1).val
  let c256_i32_0 : BitVec 32 := 256#32
  let v8 : BitVec 32 := Scalar.muli arg1 c256_i32_0
  let v9 : BitVec 32 := v8
  let v42 : Index := Scalar.indexCast v9
  ![384, v42.toNat]
def k0_off5 (i : grid0.Coords) : Fin 2 → Nat :=
  let c512_23 : Index := 512#32
  let arg1 : BitVec 32 := BitVec.ofNat 32 (i 1).val
  let c256_i32_0 : BitVec 32 := 256#32
  let v8 : BitVec 32 := Scalar.muli arg1 c256_i32_0
  let v9 : BitVec 32 := v8
  let v51 : Index := Scalar.indexCast v9
  ![512, v51.toNat]
def k0_off6 (i : grid0.Coords) : Fin 2 → Nat :=
  let c640_28 : Index := 640#32
  let arg1 : BitVec 32 := BitVec.ofNat 32 (i 1).val
  let c256_i32_0 : BitVec 32 := 256#32
  let v8 : BitVec 32 := Scalar.muli arg1 c256_i32_0
  let v9 : BitVec 32 := v8
  let v60 : Index := Scalar.indexCast v9
  ![640, v60.toNat]
def k0_off7 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v312 : Index := Scalar.indexCast v9
  let c0_87 : Index := 0#32
  ![v312.toNat, 0]
def k0_off8 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v351 : Index := Scalar.indexCast v9
  let c128_99 : Index := 128#32
  ![v351.toNat, 128]
def k0_off9 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v390 : Index := Scalar.indexCast v9
  let c256_111 : Index := 256#32
  ![v390.toNat, 256]
def k0_off10 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v429 : Index := Scalar.indexCast v9
  let c384_123 : Index := 384#32
  ![v429.toNat, 384]
def k0_off11 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v468 : Index := Scalar.indexCast v9
  let c512_135 : Index := 512#32
  ![v468.toNat, 512]
def k0_off12 (i : grid0.Coords) : Fin 2 → Nat :=
  let arg1 : BitVec 32 := BitVec.ofNat 32 (i 1).val
  let c256_i32_0 : BitVec 32 := 256#32
  let v8 : BitVec 32 := Scalar.muli arg1 c256_i32_0
  let v9 : BitVec 32 := v8
  let v507 : Index := Scalar.indexCast v9
  let c640_147 : Index := 640#32
  ![v507.toNat, 640]
@[reducible] def k0_t1_loop (i : grid0.Coords) : Scf.Loop 32 :=
  let c0_i32_153 : BitVec 32 := 0#32
  let arg1 : BitVec 32 := BitVec.ofNat 32 (i 1).val
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_154 : BitVec 32 := 1#32
  ⟨c0_i32_153, v522, c1_i32_154⟩
def k0_mult2 (i : grid0.Coords) (k0_t1 : Fin (k0_t1_loop i).trips) : BitVec 32 :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  v549
def k0_off13 (i : grid0.Coords) (k0_t1 : Fin (k0_t1_loop i).trips) : Fin 2 → Nat :=
  let c0_192 : Index := 0#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v556 : Index := Scalar.indexCast v550
  ![0, v556.toNat]
def k0_off14 (i : grid0.Coords) (k0_t1 : Fin (k0_t1_loop i).trips) : Fin 2 → Nat :=
  let c128_198 : Index := 128#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v565 : Index := Scalar.indexCast v550
  ![128, v565.toNat]
def k0_off15 (i : grid0.Coords) (k0_t1 : Fin (k0_t1_loop i).trips) : Fin 2 → Nat :=
  let c256_204 : Index := 256#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v574 : Index := Scalar.indexCast v550
  ![256, v574.toNat]
def k0_off16 (i : grid0.Coords) (k0_t1 : Fin (k0_t1_loop i).trips) : Fin 2 → Nat :=
  let c384_210 : Index := 384#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v583 : Index := Scalar.indexCast v550
  ![384, v583.toNat]
def k0_off17 (i : grid0.Coords) (k0_t1 : Fin (k0_t1_loop i).trips) : Fin 2 → Nat :=
  let c512_216 : Index := 512#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v592 : Index := Scalar.indexCast v550
  ![512, v592.toNat]
def k0_off18 (i : grid0.Coords) (k0_t1 : Fin (k0_t1_loop i).trips) : Fin 2 → Nat :=
  let c640_222 : Index := 640#32
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v601 : Index := Scalar.indexCast v550
  ![640, v601.toNat]
def k0_off19 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v839 : Index := Scalar.indexCast v550
  let c0_287 : Index := 0#32
  ![v839.toNat, 0]
def k0_off20 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v879 : Index := Scalar.indexCast v550
  let c128_302 : Index := 128#32
  ![v879.toNat, 128]
def k0_off21 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v919 : Index := Scalar.indexCast v550
  let c256_317 : Index := 256#32
  ![v919.toNat, 256]
def k0_off22 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v959 : Index := Scalar.indexCast v550
  let c384_332 : Index := 384#32
  ![v959.toNat, 384]
def k0_off23 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v999 : Index := Scalar.indexCast v550
  let c512_347 : Index := 512#32
  ![v999.toNat, 512]
def k0_off24 (i : grid0.Coords) (k0_t1 : Fin (k0_t1_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let c1_i32_154 : BitVec 32 := 1#32
  let arg12 : BitVec 32 := Scf.iv c0_i32_153 c1_i32_154 k0_t1
  let v548 : BitVec 32 := Scalar.subi v547 arg12
  let c256_i32_187 : BitVec 32 := 256#32
  let v549 : BitVec 32 := Scalar.muli v548 c256_i32_187
  let v550 : BitVec 32 := v549
  let v1039 : Index := Scalar.indexCast v550
  let c640_362 : Index := 640#32
  ![v1039.toNat, 640]
@[reducible] def k0_t2_loop (i : grid0.Coords) : Scf.Loop 32 :=
  let c0_i32_153 : BitVec 32 := 0#32
  let arg1 : BitVec 32 := BitVec.ofNat 32 (i 1).val
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let v519 : BitVec 32 := Scalar.addi c0_i32_153 v518
  let c1_i32_155 : BitVec 32 := 1#32
  ⟨v522, v519, c1_i32_155⟩
def k0_mult3 (i : grid0.Coords) (k0_t2 : Fin (k0_t2_loop i).trips) : BitVec 32 :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  v549
def k0_off25 (i : grid0.Coords) (k0_t2 : Fin (k0_t2_loop i).trips) : Fin 2 → Nat :=
  let c0_192 : Index := 0#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v556 : Index := Scalar.indexCast v550
  ![0, v556.toNat]
def k0_off26 (i : grid0.Coords) (k0_t2 : Fin (k0_t2_loop i).trips) : Fin 2 → Nat :=
  let c128_198 : Index := 128#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v565 : Index := Scalar.indexCast v550
  ![128, v565.toNat]
def k0_off27 (i : grid0.Coords) (k0_t2 : Fin (k0_t2_loop i).trips) : Fin 2 → Nat :=
  let c256_204 : Index := 256#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v574 : Index := Scalar.indexCast v550
  ![256, v574.toNat]
def k0_off28 (i : grid0.Coords) (k0_t2 : Fin (k0_t2_loop i).trips) : Fin 2 → Nat :=
  let c384_210 : Index := 384#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v583 : Index := Scalar.indexCast v550
  ![384, v583.toNat]
def k0_off29 (i : grid0.Coords) (k0_t2 : Fin (k0_t2_loop i).trips) : Fin 2 → Nat :=
  let c512_216 : Index := 512#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v592 : Index := Scalar.indexCast v550
  ![512, v592.toNat]
def k0_off30 (i : grid0.Coords) (k0_t2 : Fin (k0_t2_loop i).trips) : Fin 2 → Nat :=
  let c640_222 : Index := 640#32
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v601 : Index := Scalar.indexCast v550
  ![640, v601.toNat]
def k0_off31 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v839 : Index := Scalar.indexCast v550
  let c0_287 : Index := 0#32
  ![v839.toNat, 0]
def k0_off32 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v879 : Index := Scalar.indexCast v550
  let c128_302 : Index := 128#32
  ![v879.toNat, 128]
def k0_off33 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v919 : Index := Scalar.indexCast v550
  let c256_317 : Index := 256#32
  ![v919.toNat, 256]
def k0_off34 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v959 : Index := Scalar.indexCast v550
  let c384_332 : Index := 384#32
  ![v959.toNat, 384]
def k0_off35 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v999 : Index := Scalar.indexCast v550
  let c512_347 : Index := 512#32
  ![v999.toNat, 512]
def k0_off36 (i : grid0.Coords) (k0_t2 : Fin (k0_t2_loop i).trips) : Fin 2 → Nat :=
  let arg1 : BitVec 32 := BitVec.ofNat 32 (i 1).val
  let c1_i32_186 : BitVec 32 := 1#32
  let v547 : BitVec 32 := Scalar.subi arg1 c1_i32_186
  let c0_i32_153 : BitVec 32 := 0#32
  let v518 : BitVec 32 := Scalar.subi arg1 c0_i32_153
  let c1_i32 : BitVec 32 := 1#32
  let v520 : BitVec 32 := Scalar.divsi v518 c1_i32
  let v521 : BitVec 32 := Scalar.muli v520 c1_i32
  let v522 : BitVec 32 := Scalar.addi c0_i32_153 v521
  let c1_i32_155 : BitVec 32 := 1#32
  let arg12 : BitVec 32 := Scf.iv v522 c1_i32_155 k0_t2
  let v548 : BitVec 32 := Scalar.subi v547 arg12
  let c256_i32_187 : BitVec 32 := 256#32
  let v549 : BitVec 32 := Scalar.muli v548 c256_i32_187
  let v550 : BitVec 32 := v549
  let v1039 : Index := Scalar.indexCast v550
  let c640_362 : Index := 640#32
  ![v1039.toNat, 640]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x12x64 : Shape := ⟨4, ![16, 2048, 12, 64]⟩
abbrev S1x12 : Shape := ⟨2, ![1, 12]⟩
abbrev S12 : Shape := ⟨1, ![12]⟩
abbrev S2048 : Shape := ⟨1, ![2048]⟩
abbrev S16x12x2048x2048 : Shape := ⟨4, ![16, 12, 2048, 2048]⟩
abbrev S_ : Shape := ⟨0, ![]⟩
abbrev S1x12x1x1 : Shape := ⟨4, ![1, 12, 1, 1]⟩
abbrev S1x2048 : Shape := ⟨2, ![1, 2048]⟩
abbrev S2048x1 : Shape := ⟨2, ![2048, 1]⟩
abbrev S2048x2048 : Shape := ⟨2, ![2048, 2048]⟩
abbrev S16x12x2048x2047 : Shape := ⟨4, ![16, 12, 2048, 2047]⟩
abbrev S16x12x2048x1 : Shape := ⟨4, ![16, 12, 2048, 1]⟩
abbrev S16x12x64x2048 : Shape := ⟨4, ![16, 12, 64, 2048]⟩
abbrev S32768x768 : Shape := ⟨2, ![32768, 768]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x12x64, .f32⟩
  | .hbm, ⟨1, _⟩ => ⟨S16x2048x12x64, .f32⟩
  | .hbm, ⟨2, _⟩ => ⟨S16x2048x12x64, .f32⟩
  | .hbm, ⟨3, _⟩ => ⟨S1x12, .f32⟩
  | .hbm, ⟨4, _⟩ => ⟨S12, .f32⟩
  | .hbm, ⟨5, _⟩ => ⟨S2048, .i32⟩
  | .hbm, ⟨6, _⟩ => ⟨S16x12x2048x2048, .f32⟩
  | .hbm, ⟨7, _⟩ => ⟨S_, .f32⟩
  | .hbm, ⟨8, _⟩ => ⟨S16x12x2048x2048, .f32⟩
  | .hbm, ⟨9, _⟩ => ⟨S16x12x2048x2048, .f32⟩
  | .hbm, ⟨10, _⟩ => ⟨S1x12x1x1, .f32⟩
  | .hbm, ⟨11, _⟩ => ⟨S16x12x2048x2048, .f32⟩
  | .hbm, ⟨12, _⟩ => ⟨S16x12x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x12x2048x2048, .f32⟩
  | .hbm, ⟨19, _⟩ => ⟨S_, .f32⟩
  | .hbm, ⟨20, _⟩ => ⟨S16x12x2048x2048, .f32⟩
  | .hbm, ⟨21, _⟩ => ⟨S16x12x2048x2048, .f32⟩
  | .hbm, ⟨22, _⟩ => ⟨S16x12x2048x2048, .f32⟩
  | .hbm, ⟨23, _⟩ => ⟨S16x12x2048x2048, .f32⟩
  | .hbm, ⟨24, _⟩ => ⟨S16x12x2048x2048, .i1⟩
  | .hbm, ⟨25, _⟩ => ⟨S16x12x2048x2048, .f32⟩
  | .hbm, ⟨26, _⟩ => ⟨S16x12x2048x2048, .f32⟩
  | .hbm, ⟨27, _⟩ => ⟨S16x12x2048x2048, .f32⟩
  | .hbm, ⟨28, _⟩ => ⟨S16x12x2048x2048, .f32⟩
  | .hbm, ⟨29, _⟩ => ⟨S16x12x2048x2048, .f32⟩
  | .hbm, ⟨30, _⟩ => ⟨S16x12x2048x2048, .f32⟩
  | .hbm, ⟨31, _⟩ => ⟨S16x12x2048x2048, .f32⟩
  | .hbm, ⟨32, _⟩ => ⟨S16x12x2048x2048, .f32⟩
  | .hbm, ⟨33, _⟩ => ⟨S16x12x2048x2048, .f32⟩
  | .hbm, ⟨34, _⟩ => ⟨S16x12x2048x2048, .f32⟩
  | .hbm, ⟨35, _⟩ => ⟨S16x12x2048x2048, .f32⟩
  | .hbm, ⟨36, _⟩ => ⟨S_, .f32⟩
  | .hbm, ⟨37, _⟩ => ⟨S16x12x2048x2048, .f32⟩
  | .hbm, ⟨38, _⟩ => ⟨S16x12x2048x2048, .f32⟩
  | .hbm, ⟨39, _⟩ => ⟨S16x12x2048x2048, .f32⟩
  | .hbm, ⟨40, _⟩ => ⟨S16x12x2048x2048, .f32⟩
  | .hbm, ⟨41, _⟩ => ⟨S16x12x2048x2048, .i1⟩
  | .hbm, ⟨42, _⟩ => ⟨S16x12x2048x2048, .f32⟩
  | .hbm, ⟨43, _⟩ => ⟨S16x12x2048x2048, .f32⟩
  | .hbm, ⟨44, _⟩ => ⟨S16x12x2048x2048, .f32⟩
  | .hbm, ⟨45, _⟩ => ⟨S16x12x2048x2048, .f32⟩
  | .hbm, ⟨46, _⟩ => ⟨S16x12x2048x2048, .f32⟩
  | .hbm, ⟨47, _⟩ => ⟨S16x12x2048x2048, .f32⟩
  | .hbm, ⟨48, _⟩ => ⟨S16x12x2048x2048, .f32⟩
  | .hbm, ⟨49, _⟩ => ⟨S16x12x2048x2048, .f32⟩
  | .hbm, ⟨50, _⟩ => ⟨S16x12x2048x2048, .f32⟩
  | .hbm, ⟨51, _⟩ => ⟨S_, .f32⟩
  | .hbm, ⟨52, _⟩ => ⟨S_, .f32⟩
  | .hbm, ⟨53, _⟩ => ⟨S16x12x2048x2048, .i1⟩
  | .hbm, ⟨54, _⟩ => ⟨S16x12x2048x2048, .f32⟩
  | .hbm, ⟨55, _⟩ => ⟨S16x12x2048x2048, .f32⟩
  | .hbm, ⟨56, _⟩ => ⟨S_, .f32⟩
  | .hbm, ⟨57, _⟩ => ⟨S_, .f32⟩
  | .hbm, ⟨58, _⟩ => ⟨S16x12x2048x2048, .f32⟩
  | .hbm, ⟨59, _⟩ => ⟨S16x12x2048x2047, .f32⟩
  | .hbm, ⟨60, _⟩ => ⟨S16x12x2048x1, .f32⟩
  | .hbm, ⟨61, _⟩ => ⟨S_, .f32⟩
  | .hbm, ⟨62, _⟩ => ⟨S16x12x2048x1, .f32⟩
  | .hbm, ⟨63, _⟩ => ⟨S16x12x2048x2048, .f32⟩
  | .hbm, ⟨64, _⟩ => ⟨S16x12x2048x2048, .f32⟩
  | .hbm, ⟨65, _⟩ => ⟨S16x12x2048x2048, .f32⟩
  | .hbm, ⟨66, _⟩ => ⟨S_, .f32⟩
  | .hbm, ⟨67, _⟩ => ⟨S_, .f32⟩
  | .hbm, ⟨68, _⟩ => ⟨S16x12x2048x2048, .i1⟩
  | .hbm, ⟨69, _⟩ => ⟨S16x12x2048x2048, .f32⟩
  | .hbm, ⟨70, _⟩ => ⟨S16x12x2048x2048, .f32⟩
  | .hbm, ⟨71, _⟩ => ⟨S16x12x64x2048, .f32⟩
  | .hbm, ⟨72, _⟩ => ⟨S16x2048x12x64, .f32⟩
  | .hbm, ⟨73, _⟩ => ⟨S32768x768, .f32⟩
  | .hbm, ⟨74, _⟩ => ⟨S32768x768, .bf16⟩
  | _, _ => ⟨S16x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v15 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v16 : Ref sig .tc := ⟨.hbm, 55, rfl⟩
abbrev main_call3_cst : Ref sig .tc := ⟨.hbm, 56, rfl⟩
abbrev main_call3_v0 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_2 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩

abbrev nD : Nat := 1
abbrev τ : Topo := Topo.v7x

variable {F : FTy → Type} [FloatOps F]
-- ==== Ffn.lean ====
abbrev S16x2048x1024 : Shape := ⟨3, ![16, 2048, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S32768x1024 : Shape := ⟨2, ![32768, 1024]⟩
abbrev S512x2816 : Shape := ⟨2, ![512, 2816]⟩
abbrev S512x1024 : Shape := ⟨2, ![512, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S8x1408 : Shape := ⟨2, ![8, 1408]⟩
abbrev S520x1408 : Shape := ⟨2, ![520, 1408]⟩
abbrev S512 : Shape := ⟨1, ![512]⟩
abbrev S512x1 : Shape := ⟨2, ![512, 1]⟩
abbrev S8 : Shape := ⟨1, ![8]⟩
abbrev S8x1 : Shape := ⟨2, ![8, 1]⟩
abbrev S512x1408 : Shape := ⟨2, ![512, 1408]⟩

abbrev nBuf : Space → Nat
  | .hbm => 13
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S1x5632, .f32⟩
  | .hbm, ⟨6, _⟩ => ⟨S2816x1024, .f32⟩
  | .hbm, ⟨7, _⟩ => ⟨S32768x1024, .f32⟩
  | .hbm, ⟨8, _⟩ => ⟨S1024x5632, .bf16⟩
  | .hbm, ⟨9, _⟩ => ⟨S2816x1024, .bf16⟩
  | .hbm, ⟨10, _⟩ => ⟨S32768x1024, .f32⟩
  | .hbm, ⟨11, _⟩ => ⟨S512x2816, .f32⟩
  | .hbm, ⟨12, _⟩ => ⟨S512x2816, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S1408x1024, .bf16⟩
  | .local _ .vmem, ⟨19, _⟩ => ⟨S1408x1024, .bf16⟩
  | .local _ .vmem, ⟨20, _⟩ => ⟨S512x1024, .f32⟩
  | .local _ .vmem, ⟨21, _⟩ => ⟨S512x1024, .f32⟩
  | .local _ .vmem, ⟨22, _⟩ => ⟨S8x1408, .f32⟩
  | .local _ .vmem, ⟨23, _⟩ => ⟨S8x1408, .f32⟩
  | .local _ .vmem, ⟨24, _⟩ => ⟨S8x1408, .f32⟩
  | .local _ .vmem, ⟨25, _⟩ => ⟨S8x1408, .f32⟩
  | .local _ .vmem, ⟨26, _⟩ => ⟨S512x1024, .bf16⟩
  | .local _ .vmem, ⟨27, _⟩ => ⟨S8x1024, .bf16⟩
  | .local _ .vmem, ⟨28, _⟩ => ⟨S512x1024, .f32⟩
  | .local _ .vmem, ⟨29, _⟩ => ⟨S520x1408, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v98 : BitVec 1 := Scalar.cmpi .eq arg2 c1_i32
  let v99 : BitVec 32 := Scalar.extui v98
  let c0_i32_59 : BitVec 32 := 0#32
  let v100 : BitVec 1 := Scalar.cmpi .ne v99 c0_i32_59
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S8x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S8x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== FfnReferenceIdeal.lean ====
abbrev S16x2048x1024 : Shape := ⟨3, ![16, 2048, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2x5632 : Shape := ⟨3, ![16, 2, 5632]⟩
abbrev S16x2048x5632 : Shape := ⟨3, ![16, 2048, 5632]⟩
abbrev S16x2050x5632 : Shape := ⟨3, ![16, 2050, 5632]⟩
abbrev S5632 : Shape := ⟨1, ![5632]⟩
abbrev S1x1x5632 : Shape := ⟨3, ![1, 1, 5632]⟩
abbrev S16x2048x2816 : Shape := ⟨3, ![16, 2048, 2816]⟩
abbrev S16x4x512x5632 : Shape := ⟨4, ![16, 4, 512, 5632]⟩
abbrev S16x4x8x5632 : Shape := ⟨4, ![16, 4, 8, 5632]⟩
abbrev S512x5632 : Shape := ⟨2, ![512, 5632]⟩
abbrev S32768x1024 : Shape := ⟨2, ![32768, 1024]⟩
abbrev S512x2816 : Shape := ⟨2, ![512, 2816]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S1x5632, .f32⟩
  | .hbm, ⟨6, _⟩ => ⟨S2816x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2x5632, .f32⟩
  | .hbm, ⟨26, _⟩ => ⟨S16x2048x5632, .f32⟩
  | .hbm, ⟨27, _⟩ => ⟨S16x2050x5632, .f32⟩
  | .hbm, ⟨28, _⟩ => ⟨S5632, .f32⟩
  | .hbm, ⟨29, _⟩ => ⟨S1x5632, .f32⟩
  | .hbm, ⟨30, _⟩ => ⟨S5632, .f32⟩
  | .hbm, ⟨31, _⟩ => ⟨S16x2048x5632, .f32⟩
  | .hbm, ⟨32, _⟩ => ⟨S1x1x5632, .f32⟩
  | .hbm, ⟨33, _⟩ => ⟨S16x2048x5632, .f32⟩
  | .hbm, ⟨34, _⟩ => ⟨S16x2048x5632, .f32⟩
  | .hbm, ⟨35, _⟩ => ⟨S1x1x5632, .f32⟩
  | .hbm, ⟨36, _⟩ => ⟨S16x2048x5632, .f32⟩
  | .hbm, ⟨37, _⟩ => ⟨S16x2048x5632, .f32⟩
  | .hbm, ⟨38, _⟩ => ⟨S1x5632, .f32⟩
  | .hbm, ⟨39, _⟩ => ⟨S5632, .f32⟩
  | .hbm, ⟨40, _⟩ => ⟨S16x2048x5632, .f32⟩
  | .hbm, ⟨41, _⟩ => ⟨S1x1x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S16x2048x5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S16x2048x5632, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S_, .f32⟩
  | .hbm, ⟨65, _⟩ => ⟨S16x2048x2816, .f32⟩
  | .hbm, ⟨66, _⟩ => ⟨S16x2048x2816, .f32⟩
  | .hbm, ⟨67, _⟩ => ⟨S_, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S16x2048x1024, .f32⟩
  | .hbm, ⟨73, _⟩ => ⟨S1024, .f32⟩
  | .hbm, ⟨74, _⟩ => ⟨S16x2048x1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1, .f32⟩
  | .hbm, ⟨85, _⟩ => ⟨S16x2048x1024, .f32⟩
  | .hbm, ⟨86, _⟩ => ⟨S16x2048x1024, .f32⟩
  | .hbm, ⟨87, _⟩ => ⟨S1x1x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S16x4x512x5632, .f32⟩
  | .hbm, ⟨92, _⟩ => ⟨S16x4x8x5632, .f32⟩
  | .hbm, ⟨93, _⟩ => ⟨S512x5632, .f32⟩
  | .hbm, ⟨94, _⟩ => ⟨S32768x1024, .f32⟩
  | .hbm, ⟨95, _⟩ => ⟨S512x2816, .f32⟩
  | .hbm, ⟨96, _⟩ => ⟨S512x2816, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== MemKv.lean ====
abbrev S16x256x1024 : Shape := ⟨3, ![16, 256, 1024]⟩
abbrev S2x1024x512 : Shape := ⟨3, ![2, 1024, 512]⟩
abbrev S4096x1024 : Shape := ⟨2, ![4096, 1024]⟩
abbrev S2x512x1024 : Shape := ⟨3, ![2, 512, 1024]⟩
abbrev S8192x256 : Shape := ⟨2, ![8192, 256]⟩
abbrev S256x1024 : Shape := ⟨2, ![256, 1024]⟩
abbrev S1x512x1024 : Shape := ⟨3, ![1, 512, 1024]⟩
abbrev S256x256 : Shape := ⟨2, ![256, 256]⟩
abbrev S512x1024 : Shape := ⟨2, ![512, 1024]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S2x1024x512, .f32⟩
  | .hbm, ⟨2, _⟩ => ⟨S4096x1024, .f32⟩
  | .hbm, ⟨3, _⟩ => ⟨S2x1024x512, .bf16⟩
  | .hbm, ⟨4, _⟩ => ⟨S2x512x1024, .bf16⟩
  | .hbm, ⟨5, _⟩ => ⟨S8192x256, .f32⟩
  | .hbm, ⟨6, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvReferenceIdeal.lean ====
abbrev S16x256x1024 : Shape := ⟨3, ![16, 256, 1024]⟩
abbrev S2x1024x512 : Shape := ⟨3, ![2, 1024, 512]⟩
abbrev S2x512x16x256 : Shape := ⟨4, ![2, 512, 16, 256]⟩
abbrev S2x16x256x512 : Shape := ⟨4, ![2, 16, 256, 512]⟩
abbrev S2x16x256x256 : Shape := ⟨4, ![2, 16, 256, 256]⟩
abbrev S8192x256 : Shape := ⟨2, ![8192, 256]⟩

abbrev nBuf : Space → Nat
  | .hbm => 10
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x512, .f32⟩
  | .hbm, ⟨2, _⟩ => ⟨S2x512x16x256, .f32⟩
  | .hbm, ⟨3, _⟩ => ⟨S2x16x256x512, .f32⟩
  | .hbm, ⟨4, _⟩ => ⟨S2x16x256x256, .f32⟩
  | .hbm, ⟨5, _⟩ => ⟨S2x16x256x256, .f32⟩
  | .hbm, ⟨6, _⟩ => ⟨S8192x256, .f32⟩
  | .hbm, ⟨7, _⟩ => ⟨S2x16x256x256, .f32⟩
  | .hbm, ⟨8, _⟩ => ⟨S2x16x256x256, .f32⟩
  | .hbm, ⟨9, _⟩ => ⟨S8192x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MixOut.lean ====
abbrev S16x2048x1024 : Shape := ⟨3, ![16, 2048, 1024]⟩
abbrev S16x2048x768 : Shape := ⟨3, ![16, 2048, 768]⟩
abbrev S16x2048x256 : Shape := ⟨3, ![16, 2048, 256]⟩
abbrev S1024x1024 : Shape := ⟨2, ![1024, 1024]⟩
abbrev S1x1024 : Shape := ⟨2, ![1, 1024]⟩
abbrev S32768x1024 : Shape := ⟨2, ![32768, 1024]⟩
abbrev S32768x768 : Shape := ⟨2, ![32768, 768]⟩
abbrev S32768x256 : Shape := ⟨2, ![32768, 256]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048x768, .f32⟩
  | .hbm, ⟨2, _⟩ => ⟨S16x2048x256, .f32⟩
  | .hbm, ⟨3, _⟩ => ⟨S1024x1024, .f32⟩
  | .hbm, ⟨4, _⟩ => ⟨S1x1024, .f32⟩
  | .hbm, ⟨5, _⟩ => ⟨S32768x1024, .f32⟩
  | .hbm, ⟨6, _⟩ => ⟨S32768x768, .f32⟩
  | .hbm, ⟨7, _⟩ => ⟨S32768x768, .bf16⟩
  | .hbm, ⟨8, _⟩ => ⟨S32768x256, .f32⟩
  | .hbm, ⟨9, _⟩ => ⟨S32768x256, .bf16⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutReferenceIdeal.lean ====
abbrev S16x2048x1024 : Shape := ⟨3, ![16, 2048, 1024]⟩
abbrev S16x2048x768 : Shape := ⟨3, ![16, 2048, 768]⟩
abbrev S16x2048x256 : Shape := ⟨3, ![16, 2048, 256]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x768, .f32⟩
  | .hbm, ⟨2, _⟩ => ⟨S16x2048x256, .f32⟩
  | .hbm, ⟨3, _⟩ => ⟨S1024x1024, .f32⟩
  | .hbm, ⟨4, _⟩ => ⟨S1x1024, .f32⟩
  | .hbm, ⟨5, _⟩ => ⟨S16x2048x1024, .f32⟩
  | .hbm, ⟨6, _⟩ => ⟨S16x2048x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MixA.lean ====
abbrev S16x2048x1024 : Shape := ⟨3, ![16, 2048, 1024]⟩
abbrev S1x1024 : Shape := ⟨2, ![1, 1024]⟩
abbrev S1024x1792 : Shape := ⟨2, ![1024, 1792]⟩
abbrev S1x768 : Shape := ⟨2, ![1, 768]⟩
abbrev S6x128x128 : Shape := ⟨3, ![6, 128, 128]⟩
abbrev S6x128 : Shape := ⟨2, ![6, 128]⟩
abbrev S2x16x256x4x64 : Shape := ⟨5, ![2, 16, 256, 4, 64]⟩
abbrev S1024x1024 : Shape := ⟨2, ![1024, 1024]⟩
abbrev S6x128x1 : Shape := ⟨3, ![6, 128, 1]⟩
abbrev S32768x1024 : Shape := ⟨2, ![32768, 1024]⟩
abbrev S2x16x4x64x256 : Shape := ⟨5, ![2, 16, 4, 64, 256]⟩
abbrev S8192x256 : Shape := ⟨2, ![8192, 256]⟩
abbrev S512x1024 : Shape := ⟨2, ![512, 1024]⟩
abbrev S256x256 : Shape := ⟨2, ![256, 256]⟩
abbrev S512x768 : Shape := ⟨2, ![512, 768]⟩
abbrev S512 : Shape := ⟨1, ![512]⟩
abbrev S512x1 : Shape := ⟨2, ![512, 1]⟩
abbrev S512x1792 : Shape := ⟨2, ![512, 1792]⟩
abbrev S512x1536 : Shape := ⟨2, ![512, 1536]⟩
abbrev S128x128 : Shape := ⟨2, ![128, 128]⟩
abbrev S1x128x128 : Shape := ⟨3, ![1, 128, 128]⟩
abbrev S512x256 : Shape := ⟨2, ![512, 256]⟩
abbrev S768x1024 : Shape := ⟨2, ![768, 1024]⟩
abbrev S256x1024 : Shape := ⟨2, ![256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1024x1792, .f32⟩
  | .hbm, ⟨4, _⟩ => ⟨S1x768, .f32⟩
  | .hbm, ⟨5, _⟩ => ⟨S6x128x128, .f32⟩
  | .hbm, ⟨6, _⟩ => ⟨S6x128, .f32⟩
  | .hbm, ⟨7, _⟩ => ⟨S2x16x256x4x64, .f32⟩
  | .hbm, ⟨8, _⟩ => ⟨S2x16x256x4x64, .f32⟩
  | .hbm, ⟨9, _⟩ => ⟨S1024x1024, .f32⟩
  | .hbm, ⟨10, _⟩ => ⟨S6x128x1, .f32⟩
  | .hbm, ⟨11, _⟩ => ⟨S6x128x128, .f32⟩
  | .hbm, ⟨12, _⟩ => ⟨S32768x1024, .f32⟩
  | .hbm, ⟨13, _⟩ => ⟨S1024x1792, .bf16⟩
  | .hbm, ⟨14, _⟩ => ⟨S2x16x4x64x256, .f32⟩
  | .hbm, ⟨15, _⟩ => ⟨S8192x256, .f32⟩
  | .hbm, ⟨16, _⟩ => ⟨S2x16x4x64x256, .f32⟩
  | .hbm, ⟨17, _⟩ => ⟨S8192x256, .f32⟩
  | .hbm, ⟨18, _⟩ => ⟨S1024x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1792, .bf16⟩
  | .local _ .vmem, ⟨5, _⟩ => ⟨S1x768, .f32⟩
  | .local _ .vmem, ⟨6, _⟩ => ⟨S6x128x128, .f32⟩
  | .local _ .vmem, ⟨7, _⟩ => ⟨S6x128x128, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x768, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixAReferenceIdeal.lean ====
abbrev S16x2048x1024 : Shape := ⟨3, ![16, 2048, 1024]⟩
abbrev S1x1024 : Shape := ⟨2, ![1, 1024]⟩
abbrev S1024x1792 : Shape := ⟨2, ![1024, 1792]⟩
abbrev S1x768 : Shape := ⟨2, ![1, 768]⟩
abbrev S6x128x128 : Shape := ⟨3, ![6, 128, 128]⟩
abbrev S6x128 : Shape := ⟨2, ![6, 128]⟩
abbrev S2x16x256x4x64 : Shape := ⟨5, ![2, 16, 256, 4, 64]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1792 : Shape := ⟨3, ![16, 2048, 1792]⟩
abbrev S16x2048x1536 : Shape := ⟨3, ![16, 2048, 1536]⟩
abbrev S16x2048x768 : Shape := ⟨3, ![16, 2048, 768]⟩
abbrev S768 : Shape := ⟨1, ![768]⟩
abbrev S1x1x768 : Shape := ⟨3, ![1, 1, 768]⟩
abbrev S16x16x128x6x128 : Shape := ⟨5, ![16, 16, 128, 6, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S6x16x16x128x128 : Shape := ⟨5, ![6, 16, 16, 128, 128]⟩
abbrev S128x6 : Shape := ⟨2, ![128, 6]⟩
abbrev S1x1x128x6x1 : Shape := ⟨5, ![1, 1, 128, 6, 1]⟩
abbrev S16x2048x256 : Shape := ⟨3, ![16, 2048, 256]⟩
abbrev S16x2048x4x64 : Shape := ⟨4, ![16, 2048, 4, 64]⟩
abbrev S1x16x256x4x64 : Shape := ⟨5, ![1, 16, 256, 4, 64]⟩
abbrev S16x256x4x64 : Shape := ⟨4, ![16, 256, 4, 64]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩
abbrev S32768x1024 : Shape := ⟨2, ![32768, 1024]⟩

abbrev nBuf : Space → Nat
  | .hbm => 134
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024, .f32⟩
  | 3 => ⟨S1024x1792, .f32⟩
  | 4 => ⟨S1x768, .f32⟩
  | 5 => ⟨S6x128x128, .f32⟩
  | 6 => ⟨S6x128, .f32⟩
  | 7 => ⟨S2x16x256x4x64, .f32⟩
  | 8 => ⟨S2x16x256x4x64, .f32⟩
  | 9 => ⟨S1024x1024, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x1792, .f32⟩
  | 28 => ⟨S16x2048x1536, .f32⟩
  | 29 => ⟨S16x2048x1536, .f32⟩
  | 30 => ⟨S16x2048x1536, .f32⟩
  | 31 => ⟨S_, .f32⟩
  | 32 => ⟨S16x2048x1536, .f32⟩
  | 33 => ⟨S16x2048x1536, .f32⟩
  | 34 => ⟨S16x2048x1536, .f32⟩
  | 35 => ⟨S_, .f32⟩
  | 36 => ⟨S16x2048x1536, .f32⟩
  | 37 => ⟨S16x2048x1536, .f32⟩
  | 38 => ⟨S16x2048x1536, .f32⟩
  | 39 => ⟨S_, .f32⟩
  | 40 => ⟨S16x2048x1536, .f32⟩
  | 41 => ⟨S16x2048x1536, .f32⟩
  | 42 => ⟨S_, .f32⟩
  | 43 => ⟨S16x2048x1536, .f32⟩
  | 44 => ⟨S16x2048x1536, .f32⟩
  | 45 => ⟨S16x2048x1536, .f32⟩
  | 46 => ⟨S16x2048x768, .f32⟩
  | 47 => ⟨S16x2048x768, .f32⟩
  | 48 => ⟨S768, .f32⟩
  | 49 => ⟨S16x2048x768, .f32⟩
  | 50 => ⟨S_, .f32⟩
  | 51 => ⟨S16x2048, .f32⟩
  | 52 => ⟨S16x2048x1, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x1, .f32⟩
  | 60 => ⟨S16x2048x768, .f32⟩
  | 61 => ⟨S16x2048x768, .f32⟩
  | 62 => ⟨S1x1x768, .f32⟩
  | 63 => ⟨S16x2048x768, .f32⟩
  | 64 => ⟨S16x2048x768, .f32⟩
  | 65 => ⟨S16x16x128x6x128, .f32⟩
  | 66 => ⟨S128, .i32⟩
  | 67 => ⟨S1x128, .i32⟩
  | 68 => ⟨S128, .i32⟩
  | 69 => ⟨S128x1, .i32⟩
  | 70 => ⟨S128x128, .i32⟩
  | 71 => ⟨S128x128, .i32⟩
  | 72 => ⟨S128x128, .i1⟩
  | 73 => ⟨S1x128x128, .i1⟩
  | 74 => ⟨S_, .f32⟩
  | 75 => ⟨S6x128x128, .f32⟩
  | 76 => ⟨S6x128x128, .i1⟩
  | 77 => ⟨S6x128x128, .f32⟩
  | 78 => ⟨S6x16x16x128x128, .f32⟩
  | 79 => ⟨S16x16x128x6x128, .f32⟩
  | 80 => ⟨S128x6, .f32⟩
  | 81 => ⟨S1x1x128x6x1, .f32⟩
  | 82 => ⟨S16x16x128x6x128, .f32⟩
  | 83 => ⟨S16x16x128x6x128, .f32⟩
  | 84 => ⟨S16x2048x768, .f32⟩
  | 85 => ⟨S16x2048x768, .f32⟩
  | 86 => ⟨S16x2048x256, .f32⟩
  | 87 => ⟨S16x2048x4x64, .f32⟩
  | 88 => ⟨S1x16x256x4x64, .f32⟩
  | 89 => ⟨S16x256x4x64, .f32⟩
  | 90 => ⟨S16x4x2048x256, .f32⟩
  | 91 => ⟨S_, .f32⟩
  | 92 => ⟨S16x4x2048x256, .f32⟩
  | 93 => ⟨S16x4x2048x256, .f32⟩
  | 94 => ⟨S_, .f32⟩
  | 95 => ⟨S16x4x2048, .f32⟩
  | 96 => ⟨S_, .f32⟩
  | 97 => ⟨S16x4x2048, .f32⟩
  | 98 => ⟨S16x4x2048, .f32⟩
  | 99 => ⟨S16x4x2048x1, .f32⟩
  | 100 => ⟨S16x4x2048x256, .f32⟩
  | 101 => ⟨S16x4x2048x256, .f32⟩
  | 102 => ⟨S16x4x2048x256, .f32⟩
  | 103 => ⟨S_, .f32⟩
  | 104 => ⟨S16x4x2048, .f32⟩
  | 105 => ⟨S16x4x2048x1, .f32⟩
  | 106 => ⟨S16x4x2048x256, .f32⟩
  | 107 => ⟨S16x4x2048x256, .f32⟩
  | 108 => ⟨S1x16x256x4x64, .f32⟩
  | 109 => ⟨S16x256x4x64, .f32⟩
  | 110 => ⟨S16x4x64x2048, .f32⟩
  | 111 => ⟨S16x2048x4x64, .f32⟩
  | 112 => ⟨S16x2048x256, .f32⟩
  | 113 => ⟨S16x2048x1024, .f32⟩
  | 114 => ⟨S16x2048x1024, .f32⟩
  | 115 => ⟨S1024, .f32⟩
  | 116 => ⟨S16x2048x1024, .f32⟩
  | 117 => ⟨S_, .f32⟩
  | 118 => ⟨S16x2048, .f32⟩
  | 119 => ⟨S16x2048x1, .f32⟩
  | 120 => ⟨S_, .f32⟩
  | 121 => ⟨S16x2048x1, .f32⟩
  | 122 => ⟨S16x2048x1, .f32⟩
  | 123 => ⟨S_, .f32⟩
  | 124 => ⟨S16x2048x1, .f32⟩
  | 125 => ⟨S16x2048x1, .f32⟩
  | 126 => ⟨S16x2048x1, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S1x1x1024, .f32⟩
  | 2 => ⟨S16x2048x1024, .f32⟩
  | 3 => ⟨S16x2048x1024, .f32⟩
  | 4 => ⟨S16x2048x1024, .f32⟩
  | 5 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_call0_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== Proof.FfnSpec.lean ====
/- The feed-forward sub-layer with its causal convolution, in closed form over the extended reals. A row is
   `2048 * batch + place`; a column of the convolution is one of `5632`, the gates from `2816` on. -/
module

public import Idealize.ShloMosaic.Lib.Pointwise

@[expose] public section

noncomputable section

namespace Cert.FfnSpec

open Idealize.ShloMosaic

variable (X : ℕ → Fin 1024 → EReal) (g2 g3 : Fin 1024 → EReal) (Wu : Fin 1024 → ℕ → EReal) (cw : Fin 3 → ℕ → EReal) (cb : ℕ → EReal)
  (Wd : ℕ → Fin 1024 → EReal)

/-- A row over the root of its mean square, scaled by the gain. -/
def rms (f g : Fin 1024 → EReal) (d : Fin 1024) : EReal :=
  f d * Ideal.rsqrt (Ideal.div (∑ k, f k * f k) (Ideal.ofBits .f32 0x44800000#32) + Ideal.ofBits .f32 0x358637BD#32) * g d

/-- The normed row `R` times column `n` of the up projection. -/
def up (R n : ℕ) : EReal := ∑ d, rms (X R) g2 d * Wu d n

/-- The up projection `j` rows back in the same sequence, zero before its start. -/
def lag (j R n : ℕ) : EReal := if j ≤ R % 2048 then up X g2 Wu (R - j) n else 0

/-- The causal convolution of three taps. -/
def conv (R n : ℕ) : EReal :=
  cb n + cw 0 n * lag X g2 Wu 2 R n + cw 1 n * lag X g2 Wu 1 R n + cw 2 n * up X g2 Wu R n

/-- The Gaussian error linear unit by its hyperbolic tangent. -/
def gelu (c : EReal) : EReal :=
  c * (Ideal.ofBits .f32 0x3F000000#32 * (Ideal.ofBits .f32 0x3F800000#32
    + Ideal.tanh (Ideal.ofBits .f32 0x3F4C422A#32 * (c + Ideal.ofBits .f32 0x3D372713#32 * (c * (c * c))))))

/-- The gated activation. -/
def act (R n : ℕ) : EReal := gelu (conv X g2 Wu cw cb R n) * conv X g2 Wu cw cb R (2816 + n)

/-- The down projection. -/
def down (R : ℕ) (d : Fin 1024) : EReal := ∑ n : Fin 2816, act X g2 Wu cw cb R n.val * Wd n.val d

/-- The sub-layer: the row plus its normed down projection. -/
def out (R : ℕ) (d : Fin 1024) : EReal := X R d + rms (down X g2 Wu cw cb Wd R) g3 d

/-- The down projection's sum in its two halves. -/
theorem down_halves (R : ℕ) (d : Fin 1024) : down X g2 Wu cw cb Wd R d
    = (∑ n : Fin 1408, act X g2 Wu cw cb R n.val * Wd n.val d)
      + ∑ n : Fin 1408, act X g2 Wu cw cb R (1408 + n.val) * Wd (1408 + n.val) d :=
  Fin.sum_univ_add (a := 1408) (b := 1408) fun n => act X g2 Wu cw cb R n.val * Wd n.val d

end Cert.FfnSpec

end
-- ==== Proof.FfnPay.lean ====
/- The body's payloads of the feed-forward kernel read at an index, over the extended reals, and the loads that
   read a block of rows with the rows before it. -/
module

public import proofs.«01_k».proof.Proof.FfnSpec
public import proofs.«01_k».proof.Proof.Gen.FfnIdeal.Skeleton
public import Idealize.ShloMosaic.Lib.WordCmp
public import Idealize.ShloMosaic.Lib.Pipeline.ValueKit.Acc

@[expose] public section

set_option maxRecDepth 16384

noncomputable section

namespace Cert.FfnPay

open Cert.FfnIdeal Cert.FfnIdeal.Gen Idealize.ShloMosaic Idealize.ShloMosaic.TcCoe Cert.FfnSpec

/-- The normed block of rows. -/
theorem norm_apply (x : S512x1024.Idx → EReal) (g : S1x1024.Idx → EReal) (r : Fin 512) (d : Fin 1024) :
    (k0_pay1 (F := Ideal) x g : S512x1024.Idx → EReal) (ix2 r d) = rms (fun k => x (ix2 r k)) (fun k => g (ix2 0 k)) d := by
  unfold k0_pay1 rms
  pointwise

/-- The normed rows before the block. -/
theorem before_apply (x : S8x1024.Idx → EReal) (g : S1x1024.Idx → EReal) (r : Fin 8) (d : Fin 1024) :
    (k0_pay4 (k0_pay3 (F := Ideal) x g) : S8x1024.Idx → EReal) (ix2 r d) = rms (fun k => x (ix2 r k)) (fun k => g (ix2 0 k)) d := by
  unfold k0_pay4 k0_pay3 rms
  pointwise

/-- The block times the up projection's columns. -/
theorem up_apply (h : S512x1024.Idx → EReal) (w : S1024x1408.Idx → EReal) (r : Fin 512) (n : Fin 1408) :
    (k0_pay5 (F := Ideal) h w : S512x1408.Idx → EReal) (ix2 r n) = ∑ k : Fin 1024, h (ix2 r k) * w (ix2 k n) := by
  unfold k0_pay5
  pointwise

theorem gate_eq (h : S512x1024.Idx → EReal) (w : S1024x1408.Idx → EReal) : k0_pay10 (F := Ideal) h w = k0_pay5 (F := Ideal) h w := rfl
theorem gate_tail_eq (h : S512x1024.Idx → EReal) (w : S1024x1408.Idx → EReal) : k0_pay11 (F := Ideal) h w = k0_pay6 (F := Ideal) h w := rfl
theorem gate_kept_eq (h : S512x1024.Idx → EReal) (w : S1024x1408.Idx → EReal) : k0_pay12 (F := Ideal) h w = k0_pay7 (F := Ideal) h w := rfl
theorem gate_halo_eq (i : grid0.Coords) (h : S8x1024.Idx → EReal) (w : S1024x1408.Idx → EReal) :
    k0_pay13 (F := Ideal) (BitVec.ofNat 32 (i 1).val) h w = k0_pay8 (F := Ideal) i h w := rfl

/-- Its last eight rows. -/
theorem tail_apply (h : S512x1024.Idx → EReal) (w : S1024x1408.Idx → EReal) (r : Fin 8) (n : Fin 1408) :
    (k0_pay6 (F := Ideal) h w : S8x1408.Idx → EReal) (ix2 r n) = (k0_pay5 (F := Ideal) h w : S512x1408.Idx → EReal) (ix2 ⟨504 + r.val, by omega⟩ n) := by
  unfold k0_pay6
  pointwise

/-- The block kept with the rows before it. -/
theorem kept_eq (h : S512x1024.Idx → EReal) (w : S1024x1408.Idx → EReal) : k0_pay7 (F := Ideal) h w = k0_pay5 (F := Ideal) h w := by
  unfold k0_pay7
  funext y
  pointwise

/-- The eight rows before the block, zero at a sequence's first block. -/
theorem halo_apply (i : grid0.Coords) (h : S8x1024.Idx → EReal) (w : S1024x1408.Idx → EReal) (r : Fin 8) (n : Fin 1408) :
    (k0_pay8 (F := Ideal) i h w : S8x1408.Idx → EReal) (ix2 r n) = if (i 1).val = 0 then 0 else ∑ k : Fin 1024, h (ix2 r k) * w (ix2 k n) := by
  unfold k0_pay8
  pointwise
  have hw : ∀ q : Fin 4, Scalar.cmpi .sgt (BitVec.ofNat 32 q.val) 0#32 = if q.val = 0 then 0#1 else 1#1 := by decide
  rw [hw (i 1)]
  by_cases h0 : (i 1).val = 0
  · rw [if_pos h0, if_pos h0]; rfl
  · rw [if_neg h0, if_neg h0]; rfl

/-- The convolution of the first half. -/
theorem conv_apply (u m1 m2 : S512x1408.Idx → EReal) (cw : S3x1408.Idx → EReal) (cb : S1x1408.Idx → EReal) (r : Fin 512) (n : Fin 1408) :
    (k0_pay9 (F := Ideal) u m1 m2 cw cb : S512x1408.Idx → EReal) (ix2 r n)
      = cb (ix2 0 n) + cw (ix2 0 n) * m2 (ix2 r n) + cw (ix2 1 n) * m1 (ix2 r n) + cw (ix2 2 n) * u (ix2 r n) := by
  unfold k0_pay9
  pointwise

/-- The accumulator with the gated activation's product added. -/
theorem acc_apply (ca u m1 m2 : S512x1408.Idx → EReal) (cw : S3x1408.Idx → EReal) (cb : S1x1408.Idx → EReal)
    (a : S512x1024.Idx → EReal) (w : S1408x1024.Idx → EReal) (r : Fin 512) (d : Fin 1024) :
    (k0_pay14 (F := Ideal) ca u m1 m2 cw cb a w : S512x1024.Idx → EReal) (ix2 r d)
      = a (ix2 r d) + ∑ n : Fin 1408, gelu (ca (ix2 r n)) * (k0_pay9 (F := Ideal) u m1 m2 cw cb : S512x1408.Idx → EReal) (ix2 r n) * w (ix2 n d) := by
  unfold k0_pay14 gelu k0_pay9
  pointwise

/-- The output: the rows plus the accumulator normed. -/
theorem out_apply (x a : S512x1024.Idx → EReal) (g : S1x1024.Idx → EReal) (r : Fin 512) (d : Fin 1024) :
    (k0_pay15 (F := Ideal) x a g : S512x1024.Idx → EReal) (ix2 r d)
      = x (ix2 r d) + rms (fun k => a (ix2 r k)) (fun k => g (ix2 0 k)) d := by
  unfold k0_pay15 rms
  pointwise

/-- A load of the 512 rows from row `k` on, of eight rows stored before 512 rows. -/
theorem load_apply {sig : RefSig} {κ : Kind} {sp : Space} (v : View sig κ sp S520x1408 .f32) (p0 : S8x1408.Idx → EReal) (p8 : S512x1408.Idx → EReal)
    (L : List (View.Piece (Elt Ideal) S520x1408 .f32)) (k : ℕ) (hk : k ≤ 8) (i0 i8 ik) (r : Fin 512) (n : Fin 1408) :
    v.readCov ((⟨Rect.unit ![0, 0] ![8, 1408] i0, p0⟩ : View.Piece (Elt Ideal) S520x1408 .f32) :: ⟨Rect.unit ![8, 0] ![512, 1408] i8, p8⟩ :: L)
        (Rect.unit (s := S520x1408) ![k, 0] ![512, 1408] ik).toLoadRect (ix2 r n : S512x1408.Idx)
      = if h : k + r.val < 8 then p0 (ix2 ⟨k + r.val, h⟩ n) else p8 (ix2 ⟨k + r.val - 8, by have := r.isLt; omega⟩ n) := by
  rw [View.readCov_eq_canon']
  by_cases h : k + r.val < 8
  · rw [dif_pos h]
    have e : (Rect.unit (s := S520x1408) ![k, 0] ![512, 1408] ik).toLoadRect.idx (ix2 r n : S512x1408.Idx) = (Rect.unit (s := S520x1408) ![0, 0] ![8, 1408] i0).emb (ix2 ⟨k + r.val, h⟩ n) := by
      funext a; apply Fin.ext
      match a with
      | ⟨0, _⟩ => show k + 1 * r.val = 0 + 1 * (k + r.val); omega
      | ⟨1, _⟩ => show 0 + 1 * n.val = 0 + 1 * n.val; omega
    show View.canon _ _ = _
    rw [e, View.canon_cons_emb]
  · rw [dif_neg h]
    have hr := r.isLt
    have e : (Rect.unit (s := S520x1408) ![k, 0] ![512, 1408] ik).toLoadRect.idx (ix2 r n : S512x1408.Idx) = (Rect.unit (s := S520x1408) ![8, 0] ![512, 1408] i8).emb (ix2 ⟨k + r.val - 8, by omega⟩ n) := by
      funext a; apply Fin.ext
      match a with
      | ⟨0, _⟩ => show k + 1 * r.val = 8 + 1 * (k + r.val - 8); omega
      | ⟨1, _⟩ => show 0 + 1 * n.val = 0 + 1 * n.val; omega
    show View.canon _ _ = _
    rw [View.canon_cons_of_not_mem, e, View.canon_cons_emb]
    rw [e, Rect.mem_set_unit]
    intro hc
    have h1 : 8 + 1 * (k + r.val - 8) < 0 + 8 := (hc 0).2
    omega

/-- Row `k + r` of the eight rows before a block followed by the block, times a column: eight rows back is zero at a
sequence's first block. -/
def upRow (first : Prop) [Decidable first] (h : S512x1024.Idx → EReal) (hh : S8x1024.Idx → EReal) (w : S1024x1408.Idx → EReal)
    (k : ℕ) (hk : k ≤ 8) (r : Fin 512) (n : Fin 1408) : EReal :=
  if hr : k + r.val < 8 then (if first then 0 else ∑ e : Fin 1024, hh (ix2 ⟨k + r.val, hr⟩ e) * w (ix2 e n))
  else ∑ e : Fin 1024, h (ix2 ⟨k + r.val - 8, by have := r.isLt; omega⟩ e) * w (ix2 e n)

/-- A column's convolution over a block and the rows before it. -/
def convRow (first : Prop) [Decidable first] (h : S512x1024.Idx → EReal) (hh : S8x1024.Idx → EReal) (w : S1024x1408.Idx → EReal)
    (cw : S3x1408.Idx → EReal) (cb : S1x1408.Idx → EReal) (r : Fin 512) (n : Fin 1408) : EReal :=
  cb (ix2 0 n) + cw (ix2 0 n) * upRow first h hh w 6 (by norm_num) r n + cw (ix2 1 n) * upRow first h hh w 7 (by norm_num) r n
    + cw (ix2 2 n) * upRow first h hh w 8 (by norm_num) r n

section Step

variable (i : grid0.Coords) (h : S512x1024.Idx → EReal) (hh : S8x1024.Idx → EReal)

/-- The load of the rows from `k` on, of the up projection kept with the rows before it. -/
theorem load_up {sig : RefSig} {κ : Kind} {sp : Space} (v : View sig κ sp S520x1408 .f32) (w : S1024x1408.Idx → EReal)
    (L : List (View.Piece (Elt Ideal) S520x1408 .f32)) (k : ℕ) (hk : k ≤ 8) (i0 i8 ik) (r : Fin 512) (n : Fin 1408) :
    v.readCov ((⟨Rect.unit ![0, 0] ![8, 1408] i0, k0_pay8 (F := Ideal) i hh w⟩ : View.Piece (Elt Ideal) S520x1408 .f32)
          :: ⟨Rect.unit ![8, 0] ![512, 1408] i8, k0_pay7 (F := Ideal) h w⟩ :: L)
        (Rect.unit (s := S520x1408) ![k, 0] ![512, 1408] ik).toLoadRect (ix2 r n : S512x1408.Idx)
      = upRow ((i 1).val = 0) h hh w k hk r n := by
  rw [load_apply v _ _ L k hk]
  unfold upRow
  rw [kept_eq]
  by_cases hr : k + r.val < 8
  · rw [dif_pos hr, dif_pos hr, halo_apply]
  · rw [dif_neg hr, dif_neg hr, up_apply]

/-- The convolution of the body, over the two loads. -/
theorem conv_step {sig : RefSig} {κ : Kind} {sp : Space} (v : View sig κ sp S520x1408 .f32) (w : S1024x1408.Idx → EReal)
    (cw : S3x1408.Idx → EReal) (cb : S1x1408.Idx → EReal)
    (L : List (View.Piece (Elt Ideal) S520x1408 .f32)) (i0 i8 i6 i7) (r : Fin 512) (n : Fin 1408) :
    (k0_pay9 (F := Ideal) (k0_pay5 (F := Ideal) h w)
      (v.readCov ((⟨Rect.unit ![0, 0] ![8, 1408] i0, k0_pay8 (F := Ideal) i hh w⟩ : View.Piece (Elt Ideal) S520x1408 .f32)
          :: ⟨Rect.unit ![8, 0] ![512, 1408] i8, k0_pay7 (F := Ideal) h w⟩ :: L)
        (Rect.unit (s := S520x1408) ![7, 0] ![512, 1408] i7).toLoadRect)
      (v.readCov ((⟨Rect.unit ![0, 0] ![8, 1408] i0, k0_pay8 (F := Ideal) i hh w⟩ : View.Piece (Elt Ideal) S520x1408 .f32)
          :: ⟨Rect.unit ![8, 0] ![512, 1408] i8, k0_pay7 (F := Ideal) h w⟩ :: L)
        (Rect.unit (s := S520x1408) ![6, 0] ![512, 1408] i6).toLoadRect) cw cb : S512x1408.Idx → EReal) (ix2 r n)
      = convRow ((i 1).val = 0) h hh w cw cb r n := by
  refine (conv_apply _ _ _ cw cb r n).trans ?_
  unfold convRow
  rw [load_up i h hh v w L 6 (by norm_num), load_up i h hh v w L 7 (by norm_num), up_apply]
  unfold upRow
  rw [dif_neg (show ¬8 + r.val < 8 by omega)]
  simp only [Nat.add_sub_cancel_left]

/-- The whole step: the accumulator with the half's gated activation times its rows of the down projection. -/
theorem acc_step {sig : RefSig} {κ : Kind} {sp : Space} (v : View sig κ sp S520x1408 .f32) (wa wg : S1024x1408.Idx → EReal)
    (cwa cwg : S3x1408.Idx → EReal) (cba cbg : S1x1408.Idx → EReal) (a : S512x1024.Idx → EReal) (wd : S1408x1024.Idx → EReal)
    (L : List (View.Piece (Elt Ideal) S520x1408 .f32)) (i0 i8 i6 i7) (r : Fin 512) (d : Fin 1024) :
    (k0_pay14 (F := Ideal)
      (k0_pay9 (F := Ideal) (k0_pay5 (F := Ideal) h wa)
        (v.readCov [(⟨Rect.unit ![0, 0] ![8, 1408] i0, k0_pay8 (F := Ideal) i hh wa⟩ : View.Piece (Elt Ideal) S520x1408 .f32),
            ⟨Rect.unit ![8, 0] ![512, 1408] i8, k0_pay7 (F := Ideal) h wa⟩]
          (Rect.unit (s := S520x1408) ![7, 0] ![512, 1408] i7).toLoadRect)
        (v.readCov [(⟨Rect.unit ![0, 0] ![8, 1408] i0, k0_pay8 (F := Ideal) i hh wa⟩ : View.Piece (Elt Ideal) S520x1408 .f32),
            ⟨Rect.unit ![8, 0] ![512, 1408] i8, k0_pay7 (F := Ideal) h wa⟩]
          (Rect.unit (s := S520x1408) ![6, 0] ![512, 1408] i6).toLoadRect) cwa cba)
      (k0_pay10 (F := Ideal) h wg)
      (v.readCov ((⟨Rect.unit ![0, 0] ![8, 1408] i0, k0_pay13 (F := Ideal) (BitVec.ofNat 32 (i 1).val) hh wg⟩ : View.Piece (Elt Ideal) S520x1408 .f32)
          :: ⟨Rect.unit ![8, 0] ![512, 1408] i8, k0_pay12 (F := Ideal) h wg⟩ :: L)
        (Rect.unit (s := S520x1408) ![7, 0] ![512, 1408] i7).toLoadRect)
      (v.readCov ((⟨Rect.unit ![0, 0] ![8, 1408] i0, k0_pay13 (F := Ideal) (BitVec.ofNat 32 (i 1).val) hh wg⟩ : View.Piece (Elt Ideal) S520x1408 .f32)
          :: ⟨Rect.unit ![8, 0] ![512, 1408] i8, k0_pay12 (F := Ideal) h wg⟩ :: L)
        (Rect.unit (s := S520x1408) ![6, 0] ![512, 1408] i6).toLoadRect) cwg cbg a wd : S512x1024.Idx → EReal) (ix2 r d)
      = a (ix2 r d) + ∑ n : Fin 1408, gelu (convRow ((i 1).val = 0) h hh wa cwa cba r n)
          * convRow ((i 1).val = 0) h hh wg cwg cbg r n * wd (ix2 n d) := by
  refine (acc_apply _ _ _ _ cwg cbg a wd r d).trans ?_
  refine congrArg (a (ix2 r d) + ·) (Finset.sum_congr rfl fun n _ => ?_)
  refine congrArg (· * wd (ix2 n d)) (congrArg₂ (· * ·) (congrArg gelu (conv_step i h hh v wa cwa cba [] i0 i8 i6 i7 r n)) ?_)
  exact conv_step i h hh v wg cwg cbg L i0 i8 i6 i7 r n

end Step

section Lag

variable (X : ℕ → Fin 1024 → EReal) (g2 : Fin 1024 → EReal) (Wu : Fin 1024 → ℕ → EReal) (cwf : Fin 3 → ℕ → EReal) (cbf : ℕ → EReal)
variable {first : Prop} [Decidable first] {h : S512x1024.Idx → EReal} {hh : S8x1024.Idx → EReal} {w : S1024x1408.Idx → EReal}
  {cw : S3x1408.Idx → EReal} {cb : S1x1408.Idx → EReal} {q n0 : ℕ}

/-- Block `q`'s rows and the rows before it: a row of the two is the up projection some places back. -/
theorem upRow_eq (hf : first ↔ q % 4 = 0) (h1 : ∀ (r : Fin 512) d, h (ix2 r d) = rms (X (512 * q + r.val)) g2 d)
    (h2 : ¬first → ∀ (r : Fin 8) d, hh (ix2 r d) = rms (X (512 * q - 8 + r.val)) g2 d) (h3 : ∀ d (n : Fin 1408), w (ix2 d n) = Wu d (n0 + n.val))
    (k : ℕ) (hk : k ≤ 8) (h6 : 6 ≤ k) (r : Fin 512) (n : Fin 1408) :
    upRow first h hh w k hk r n = lag X g2 Wu (8 - k) (512 * q + r.val) (n0 + n.val) := by
  have hr := r.isLt
  unfold upRow lag up
  by_cases hkr : k + r.val < 8
  · rw [dif_pos hkr]
    by_cases hfi : first
    · rw [if_pos hfi, if_neg]
      have := hf.mp hfi
      omega
    · rw [if_neg hfi, if_pos (by have : ¬q % 4 = 0 := fun e => hfi (hf.mpr e); omega)]
      have : ¬q % 4 = 0 := fun e => hfi (hf.mpr e)
      refine Finset.sum_congr rfl fun d _ => ?_
      rw [h2 hfi, h3]
      congr 2
      show X (512 * q - 8 + (k + r.val)) = _
      congr 1
      omega
  · rw [dif_neg hkr, if_pos (by omega)]
    refine Finset.sum_congr rfl fun d _ => ?_
    rw [h1, h3]
    congr 2
    show X (512 * q + (k + r.val - 8)) = _
    congr 1
    omega

/-- So the column's convolution is the closed form's. -/
theorem convRow_eq (hf : first ↔ q % 4 = 0) (h1 : ∀ (r : Fin 512) d, h (ix2 r d) = rms (X (512 * q + r.val)) g2 d)
    (h2 : ¬first → ∀ (r : Fin 8) d, hh (ix2 r d) = rms (X (512 * q - 8 + r.val)) g2 d) (h3 : ∀ d (n : Fin 1408), w (ix2 d n) = Wu d (n0 + n.val))
    (h4 : ∀ j (n : Fin 1408), cw (ix2 j n) = cwf j (n0 + n.val)) (h5 : ∀ n : Fin 1408, cb (ix2 0 n) = cbf (n0 + n.val)) (r : Fin 512) (n : Fin 1408) :
    convRow first h hh w cw cb r n = conv X g2 Wu cwf cbf (512 * q + r.val) (n0 + n.val) := by
  unfold convRow conv
  rw [h4, h4, h4, h5, upRow_eq X g2 Wu hf h1 h2 h3 6 _ (by norm_num), upRow_eq X g2 Wu hf h1 h2 h3 7 _ (by norm_num),
    upRow_eq X g2 Wu hf h1 h2 h3 8 _ (by norm_num)]
  rfl

end Lag

end Cert.FfnPay

end
-- ==== Proof.FfnCase.lean ====
/- What one grid point of the feed-forward kernel leaves in its blocks and in the scratch it carries, over its
   input blocks: at an even point the first half of the columns, at an odd one the second half and the output. -/
module

public import proofs.«01_k».proof.Proof.FfnPay
public import proofs.«01_k».proof.Proof.Gen.FfnIdeal.Frame
public import Idealize.ShloMosaic.Lib.Pipeline.ReadBack

@[expose] public section

set_option maxRecDepth 16384

noncomputable section

namespace Cert.FfnCase

open Cert.FfnIdeal Cert.FfnIdeal.Gen Idealize.ShloMosaic Idealize.ShloMosaic.TcCoe Cert.FfnSpec Cert.FfnPay

variable (m : (ℓ : Loc nD τ sig) → Buf (Elt Ideal) ℓ) (c : Dev nD)

/-- The input blocks of a point. -/
abbrev bX (t : Fin cfg0.N) : S512x1024.Idx → EReal := iblk m c 0 t
abbrev bH (t : Fin cfg0.N) : S8x1024.Idx → EReal := iblk m c 1 t
abbrev bN2 (t : Fin cfg0.N) : S1x1024.Idx → EReal := iblk m c 2 t
abbrev bN3 (t : Fin cfg0.N) : S1x1024.Idx → EReal := iblk m c 3 t
abbrev bWa (t : Fin cfg0.N) : S1024x1408.Idx → EReal := iblk m c 4 t
abbrev bWg (t : Fin cfg0.N) : S1024x1408.Idx → EReal := iblk m c 5 t
abbrev bCa (t : Fin cfg0.N) : S3x1408.Idx → EReal := iblk m c 6 t
abbrev bCg (t : Fin cfg0.N) : S3x1408.Idx → EReal := iblk m c 7 t
abbrev bBa (t : Fin cfg0.N) : S1x1408.Idx → EReal := iblk m c 8 t
abbrev bBg (t : Fin cfg0.N) : S1x1408.Idx → EReal := iblk m c 9 t
abbrev bWd (t : Fin cfg0.N) : S1408x1024.Idx → EReal := iblk m c 10 t

/-- What a point leaves: the output's block, the two tails', the normed rows, those before them, the accumulator. -/
abbrev sX (n : ℕ) (hn : n < cfg0.N) : S512x1024.Idx → EReal := (outsAt0 m c n hn).1
abbrev sA (n : ℕ) (hn : n < cfg0.N) : S8x1408.Idx → EReal := (outsAt0 m c n hn).2.1
abbrev sG (n : ℕ) (hn : n < cfg0.N) : S8x1408.Idx → EReal := (outsAt0 m c n hn).2.2.1
abbrev sRows (n : ℕ) (hn : n < cfg0.N) : S512x1024.Idx → EReal := (outsAt0 m c n hn).2.2.2.1
abbrev sBefore (n : ℕ) (hn : n < cfg0.N) : S8x1024.Idx → EReal := (outsAt0 m c n hn).2.2.2.2.1
abbrev sAcc (n : ℕ) (hn : n < cfg0.N) : S512x1024.Idx → EReal := (outsAt0 m c n hn).2.2.2.2.2

/-- A half's gated activation times its rows of the down projection, over the normed rows `h` and those before. -/
def halfSum (t : Fin cfg0.N) (h : S512x1024.Idx → EReal) (hh : S8x1024.Idx → EReal) (r : Fin 512) (d : Fin 1024) : EReal :=
  ∑ n : Fin 1408, gelu (convRow ((grid0.coords t 1).val = 0) h hh (bWa m c t) (bCa m c t) (bBa m c t) r n)
    * convRow ((grid0.coords t 1).val = 0) h hh (bWg m c t) (bCg m c t) (bBg m c t) r n * bWd m c t (ix2 n d)

variable (t : Fin cfg0.N)

section Even

variable (h0 : t.val % 2 = 0) (h1 : ¬t.val % 2 = 1)
include h0 h1

theorem tail_a_even : sA m c t.val t.isLt = k0_pay6 (F := Ideal) (k0_pay1 (F := Ideal) (bX m c t) (bN2 m c t)) (bWa m c t) := by
  unfold sA
  rw [outsAt0_A m c t h0 h1]
  frame_out

theorem tail_g_even : sG m c t.val t.isLt = k0_pay11 (F := Ideal) (k0_pay1 (F := Ideal) (bX m c t) (bN2 m c t)) (bWg m c t) := by
  unfold sG
  rw [outsAt0_A m c t h0 h1]
  frame_out

theorem rows_even : sRows m c t.val t.isLt = k0_pay1 (F := Ideal) (bX m c t) (bN2 m c t) := by
  unfold sRows
  rw [outsAt0_A m c t h0 h1]
  frame_out

theorem before_even : sBefore m c t.val t.isLt = k0_pay4 (F := Ideal) (k0_pay3 (F := Ideal) (bH m c t) (bN2 m c t)) := by
  unfold sBefore
  rw [outsAt0_A m c t h0 h1]
  frame_out

theorem acc_even (r : Fin 512) (d : Fin 1024) : sAcc m c t.val t.isLt (ix2 r d)
    = halfSum m c t (k0_pay1 (F := Ideal) (bX m c t) (bN2 m c t)) (k0_pay4 (F := Ideal) (k0_pay3 (F := Ideal) (bH m c t) (bN2 m c t))) r d := by
  unfold sAcc
  rw [outsAt0_A m c t h0 h1]
  frame_out
  refine (acc_step (grid0.coords t) _ _ _ _ _ _ _ _ _ _ _ _ _ _ _ _ r d).trans ?_
  refine (congrArg (· + _) ?_).trans (zero_add _)
  unfold k0_pay2
  pointwise

end Even

section Odd

variable (h0 : ¬t.val % 2 = 0) (h1 : t.val % 2 = 1)
include h0 h1

theorem tail_a_odd : sA m c t.val t.isLt
    = k0_pay6 (F := Ideal) (sRows m c (t.val - 1) (Nat.lt_of_le_of_lt (Nat.sub_le _ _) t.isLt)) (bWa m c t) := by
  unfold sA
  rw [outsAt0_B m c t h0 h1]
  frame_out
  simp only [read_unread_whole]

theorem tail_g_odd : sG m c t.val t.isLt
    = k0_pay11 (F := Ideal) (sRows m c (t.val - 1) (Nat.lt_of_le_of_lt (Nat.sub_le _ _) t.isLt)) (bWg m c t) := by
  unfold sG
  rw [outsAt0_B m c t h0 h1]
  frame_out
  simp only [read_unread_whole]

theorem out_odd (r : Fin 512) (d : Fin 1024) : sX m c t.val t.isLt (ix2 r d)
    = bX m c t (ix2 r d) + rms (fun k => sAcc m c (t.val - 1) (Nat.lt_of_le_of_lt (Nat.sub_le _ _) t.isLt) (ix2 r k)
        + halfSum m c t (sRows m c (t.val - 1) (Nat.lt_of_le_of_lt (Nat.sub_le _ _) t.isLt))
            (sBefore m c (t.val - 1) (Nat.lt_of_le_of_lt (Nat.sub_le _ _) t.isLt)) r k) (fun k => bN3 m c t (ix2 0 k)) d := by
  unfold sX
  rw [outsAt0_B m c t h0 h1]
  frame_out
  simp only [read_unread_whole]
  refine (out_apply _ _ _ r d).trans ?_
  refine congrArg (bX m c t (ix2 r d) + ·) (congrArg (fun f => rms f (fun k => bN3 m c t (ix2 0 k)) d) (funext fun k => ?_))
  exact acc_step (grid0.coords t) _ _ _ _ _ _ _ _ _ _ _ _ _ _ _ _ r k

end Odd

end Cert.FfnCase

end
-- ==== Proof.FfnRef.lean ====
/- The reference of the feed-forward sub-layer read at an index: the closed form of FfnSpec.lean. -/
module

public import proofs.«01_k».proof.Proof.FfnSpec
public import proofs.«01_k».proof.Proof.Gen.FfnReferenceIdeal.Read

@[expose] public section

set_option maxRecDepth 16384

noncomputable section

namespace Cert.FfnRef

open Cert.FfnReferenceIdeal Cert.FfnReferenceIdeal.Gen Cert.FfnReferenceIdeal.Read Idealize.ShloMosaic Cert.FfnSpec

variable (x : S16x2048x1024.Idx → EReal) (n2 n3 : S1x1024.Idx → EReal) (wu : S1024x5632.Idx → EReal) (cw : S3x5632.Idx → EReal)
  (cb : S1x5632.Idx → EReal) (wd : S2816x1024.Idx → EReal)

/-- The rows of the activations, the sequences one after another. -/
def rows (R : ℕ) (d : Fin 1024) : EReal := x (ix3 ⟨R / 2048 % 16, Nat.mod_lt _ (by norm_num)⟩ ⟨R % 2048, Nat.mod_lt _ (by norm_num)⟩ d)

/-- A gain's one row. -/
def gain (d : Fin 1024) : EReal := n2 (ix2 0 d)

/-- The up projection's columns. -/
def wup (d : Fin 1024) (n : ℕ) : EReal := wu (ix2 d ⟨n % 5632, Nat.mod_lt _ (by norm_num)⟩)

/-- The taps' columns. -/
def taps (j : Fin 3) (n : ℕ) : EReal := cw (ix2 j ⟨n % 5632, Nat.mod_lt _ (by norm_num)⟩)

/-- The bias's columns. -/
def bias (n : ℕ) : EReal := cb (ix2 0 ⟨n % 5632, Nat.mod_lt _ (by norm_num)⟩)

/-- The down projection's rows. -/
def wdn (n : ℕ) (d : Fin 1024) : EReal := wd (ix2 ⟨n % 2816, Nat.mod_lt _ (by norm_num)⟩ d)

/-- The place of a row in its sequence. -/
theorem rows_eq (b : Fin 16) (s : Fin 2048) (d : Fin 1024) : rows x (2048 * b.val + s.val) d = x (ix3 b s d) := by
  have hb := b.isLt
  have hs := s.isLt
  unfold rows
  congr 1
  funext a; apply Fin.ext
  match a with
  | ⟨0, _⟩ => show (2048 * b.val + s.val) / 2048 % 16 = b.val; omega
  | ⟨1, _⟩ => show (2048 * b.val + s.val) % 2048 = s.val; omega
  | ⟨2, _⟩ => rfl

/-- The normed rows. -/
theorem norm_apply (b : Fin 16) (s : Fin 2048) (d : Fin 1024) :
    val_main_v13 (F := Ideal) x n2 (ix3 b s d) = rms (rows x (2048 * b.val + s.val)) (gain n2) d := by
  simp only [val_main_v13_apply, val_main_v10_apply, val_main_v9_apply, val_main_v8_apply, val_main_v7_apply, val_main_v6_apply,
    val_main_v5_apply, val_main_v4_apply, val_main_v3_apply, val_main_v2_apply, val_main_v1_apply, val_main_cst_apply,
    val_main_cst_0_apply, val_main_cst_1_apply, val_main_v12_apply, val_main_v11_apply, val_main_v0_apply, Ideal.mulf_def,
    Ideal.addf_def, Ideal.hostDivf_def, Ideal.hostUnary_rsqrt_def, Ideal.ofBits_def, Ideal.ofBits_zero_f32, zero_add]
  have e1 : ∀ k : Fin 1024, idx_main_v2 (idx_main_v3 (idx_main_v9 (ix3 b s d))) k = ix3 b s k := by
    intro k; funext a; match a with
      | ⟨0, _⟩ => rfl
      | ⟨1, _⟩ => rfl
      | ⟨2, _⟩ => rfl
  have e2 : idx_main_v0 (idx_main_v11 (idx_main_v12 (ix3 b s d))) = ix2 0 d := by
    funext a; apply Fin.ext; match a with
      | ⟨0, _⟩ => rfl
      | ⟨1, _⟩ => exact Nat.mod_eq_of_lt d.isLt
  simp only [e1, e2]
  unfold rms gain
  simp only [rows_eq]

/-- The up projection. -/
theorem up_apply (b : Fin 16) (s : Fin 2048) (n : Fin 5632) :
    val_main_v15 (F := Ideal) x n2 wu (ix3 b s n) = up (rows x) (gain n2) (wup wu) (2048 * b.val + s.val) n.val := by
  rw [val_main_v15_apply]
  unfold up wup
  refine Finset.sum_congr rfl fun d _ => ?_
  have el : lidx_main_v15 (ix3 b s n) d = ix3 b s d := by
    funext a; match a with
      | ⟨0, _⟩ => rfl
      | ⟨1, _⟩ => rfl
      | ⟨2, _⟩ => rfl
  have er : ridx_main_v15 (ix3 b s n) d = ix2 d ⟨n.val % 5632, Nat.mod_lt _ (by norm_num)⟩ := by
    funext a; apply Fin.ext; match a with
      | ⟨0, _⟩ => rfl
      | ⟨1, _⟩ => exact (Nat.mod_eq_of_lt n.isLt).symm
  rw [el, er, norm_apply]

/-- The up projection behind two rows of zeros. -/
theorem padded_apply (b : Fin 16) (q : Fin 2050) (n : Fin 5632) :
    val_main_v16 (F := Ideal) x n2 wu (ix3 b q n)
      = if 2 ≤ q.val then up (rows x) (gain n2) (wup wu) (2048 * b.val + (q.val - 2)) n.val else 0 := by
  unfold val_main_v16
  pointwise
  by_cases h : q.val < 2
  · rw [dif_pos h, if_neg (by omega), val_main_v14_apply, val_main_cst_2_apply]
    exact Ideal.ofBits_zero_f32
  · rw [dif_neg h]
    exact (up_apply x n2 wu b ⟨q.val - 2, by have := q.isLt; omega⟩ n).trans (if_pos (by omega)).symm

/-- The padded rows are the rows some places back. -/
theorem padded_lag (b : Fin 16) (s : Fin 2048) (n : Fin 5632) (j : ℕ) (hj : j ≤ 2) :
    val_main_v16 (F := Ideal) x n2 wu (ix3 b ⟨s.val + (2 - j), by have := s.isLt; omega⟩ n)
      = lag (rows x) (gain n2) (wup wu) j (2048 * b.val + s.val) n.val := by
  have hs := s.isLt
  rw [padded_apply]
  unfold lag
  rw [show (2048 * b.val + s.val) % 2048 = s.val by omega]
  by_cases h : j ≤ s.val
  · rw [if_pos h, if_pos (by show 2 ≤ s.val + (2 - j); omega)]
    congr 1
    show 2048 * b.val + (s.val + (2 - j) - 2) = _
    omega
  · rw [if_neg h, if_neg (by show ¬2 ≤ s.val + (2 - j); omega)]

/-- The causal convolution. -/
theorem conv_apply (b : Fin 16) (s : Fin 2048) (n : Fin 5632) :
    val_main_v40 (F := Ideal) x n2 wu cw cb (ix3 b s n)
      = conv (rows x) (gain n2) (wup wu) (taps cw) (bias cb) (2048 * b.val + s.val) n.val := by
  have hn : n.val % 5632 = n.val := Nat.mod_eq_of_lt n.isLt
  have hs := s.isLt
  have p (j : ℕ) (hj : j ≤ 2) (i : S16x2050x5632.Idx) (e0 : (i 0).val = b.val) (e1 : (i 1).val = s.val + (2 - j)) (e2 : (i 2).val = n.val) :
      val_main_v16 (F := Ideal) x n2 wu i = lag (rows x) (gain n2) (wup wu) j (2048 * b.val + s.val) n.val := by
    rw [← padded_lag x n2 wu b s n j hj]
    congr 1
    funext a; apply Fin.ext
    match a with
    | ⟨0, _⟩ => exact e0
    | ⟨1, _⟩ => exact e1
    | ⟨2, _⟩ => exact e2
  have w (j : Fin 3) (i : S3x5632.Idx) (e0 : (i 0).val = j.val) (e1 : (i 1).val = n.val % 5632) : cw i = taps cw j n.val := by
    unfold taps
    congr 1
    funext a; apply Fin.ext
    match a with
    | ⟨0, _⟩ => exact e0
    | ⟨1, _⟩ => exact e1
  have z : lag (rows x) (gain n2) (wup wu) 0 (2048 * b.val + s.val) n.val = up (rows x) (gain n2) (wup wu) (2048 * b.val + s.val) n.val :=
    if_pos (Nat.zero_le _)
  simp only [val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    Ideal.mulf_def, Ideal.addf_def]
  rw [p 2 (by norm_num) (idx_main_v20 (ix3 b s n)) rfl rfl rfl,
    p 1 (by norm_num) (idx_main_v29 (ix3 b s n)) rfl (Nat.add_comm _ _) rfl,
    p 0 (by norm_num) (idx_main_v36 (ix3 b s n)) rfl (Nat.add_comm _ _) rfl, z,
    w 0 (idx_main_v18 (idx_main_v19 (idx_main_v21 (idx_main_v22 (ix3 b s n))))) rfl rfl,
    w 1 (idx_main_v27 (idx_main_v28 (idx_main_v30 (idx_main_v31 (ix3 b s n))))) rfl rfl,
    w 2 (idx_main_v34 (idx_main_v35 (idx_main_v37 (idx_main_v38 (ix3 b s n))))) rfl rfl]
  have eb : cb (idx_main_v17 (idx_main_v24 (idx_main_v25 (ix3 b s n)))) = bias cb n.val := by
    unfold bias
    congr 1
    funext a; apply Fin.ext
    match a with
    | ⟨0, _⟩ => rfl
    | ⟨1, _⟩ => rfl
  rw [eb]
  rfl

/-- The gated activation. -/
theorem act_apply (b : Fin 16) (s : Fin 2048) (n : Fin 2816) :
    val_main_v56 (F := Ideal) x n2 wu cw cb (ix3 b s n)
      = act (rows x) (gain n2) (wup wu) (taps cw) (bias cb) (2048 * b.val + s.val) n.val := by
  have hn := n.isLt
  have ea : val_main_v40 (F := Ideal) x n2 wu cw cb (idx_main_v41 (ix3 b s n))
      = conv (rows x) (gain n2) (wup wu) (taps cw) (bias cb) (2048 * b.val + s.val) n.val := by
    rw [← conv_apply x n2 wu cw cb b s ⟨n.val, by omega⟩]
    congr 1
    funext a; match a with
      | ⟨0, _⟩ => rfl
      | ⟨1, _⟩ => rfl
      | ⟨2, _⟩ => rfl
  have eg : val_main_v40 (F := Ideal) x n2 wu cw cb (idx_main_v42 (ix3 b s n))
      = conv (rows x) (gain n2) (wup wu) (taps cw) (bias cb) (2048 * b.val + s.val) (2816 + n.val) := by
    rw [← conv_apply x n2 wu cw cb b s ⟨2816 + n.val, by omega⟩]
    congr 1
    funext a; match a with
      | ⟨0, _⟩ => rfl
      | ⟨1, _⟩ => rfl
      | ⟨2, _⟩ => rfl
  simp only [val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, ea, eg, val_main_cst_3_apply, val_main_cst_4_apply,
    val_main_cst_5_apply, val_main_cst_6_apply, Ideal.mulf_def, Ideal.addf_def, Ideal.hostUnary_tanh_def, Ideal.ofBits_def]
  unfold act gelu
  rw [mul_comm (_ * _) (conv (rows x) (gain n2) (wup wu) (taps cw) (bias cb) (2048 * b.val + s.val) n.val)]

/-- The down projection. -/
theorem down_apply (b : Fin 16) (s : Fin 2048) (d : Fin 1024) :
    val_main_v57 (F := Ideal) x n2 wu cw cb wd (ix3 b s d)
      = down (rows x) (gain n2) (wup wu) (taps cw) (bias cb) (wdn wd) (2048 * b.val + s.val) d := by
  rw [val_main_v57_apply]
  unfold down wdn
  refine Finset.sum_congr rfl fun n _ => ?_
  have el : lidx_main_v57 (ix3 b s d) n = ix3 b s n := by
    funext a; match a with
      | ⟨0, _⟩ => rfl
      | ⟨1, _⟩ => rfl
      | ⟨2, _⟩ => rfl
  have er : ridx_main_v57 (ix3 b s d) n = ix2 ⟨n.val % 2816, Nat.mod_lt _ (by norm_num)⟩ d := by
    funext a; apply Fin.ext; match a with
      | ⟨0, _⟩ => exact (Nat.mod_eq_of_lt n.isLt).symm
      | ⟨1, _⟩ => rfl
  rw [el, er, act_apply]

/-- The sub-layer's rows. -/
theorem out_apply (b : Fin 16) (s : Fin 2048) (d : Fin 1024) :
    val_main_v72 (F := Ideal) x n2 n3 wu cw cb wd (ix3 b s d)
      = out (rows x) (gain n2) (gain n3) (wup wu) (taps cw) (bias cb) (wdn wd) (2048 * b.val + s.val) d := by
  simp only [val_main_v72_apply, val_main_v71_apply, val_main_v70_apply, val_main_v69_apply, val_main_v68_apply, val_main_v67_apply,
    val_main_v66_apply, val_main_v65_apply, val_main_v64_apply, val_main_v63_apply, val_main_v62_apply, val_main_v61_apply,
    val_main_v60_apply, val_main_v59_apply, val_main_v58_apply, val_main_cst_7_apply, val_main_cst_8_apply, val_main_cst_9_apply,
    Ideal.mulf_def, Ideal.addf_def, Ideal.hostDivf_def, Ideal.hostUnary_rsqrt_def, Ideal.ofBits_def, Ideal.ofBits_zero_f32, zero_add]
  have e1 : ∀ k : Fin 1024, idx_main_v60 (idx_main_v61 (idx_main_v67 (ix3 b s d))) k = ix3 b s k := by
    intro k; funext a; match a with
      | ⟨0, _⟩ => rfl
      | ⟨1, _⟩ => rfl
      | ⟨2, _⟩ => rfl
  have e2 : idx_main_v58 (idx_main_v69 (idx_main_v70 (ix3 b s d))) = ix2 0 d := by
    funext a; apply Fin.ext; match a with
      | ⟨0, _⟩ => rfl
      | ⟨1, _⟩ => exact Nat.mod_eq_of_lt d.isLt
  simp only [e1, e2, down_apply]
  unfold out rms gain
  simp only [rows_eq]

/-- The first result, the rows of all the sequences. -/
theorem result_x (R : Fin 32768) (d : Fin 1024) :
    val_main_v76 (F := Ideal) x n2 n3 wu cw cb wd (ix2 R d)
      = out (rows x) (gain n2) (gain n3) (wup wu) (taps cw) (bias cb) (wdn wd) R.val d := by
  have hR := R.isLt
  have hd := d.isLt
  have e : idx_main_v76 (ix2 R d) = ix3 ⟨R.val / 2048, by omega⟩ ⟨R.val % 2048, by omega⟩ d := by
    funext a; apply Fin.ext; match a with
      | ⟨0, _⟩ => show (R.val * 1024 + d.val) / 2097152 = R.val / 2048; omega
      | ⟨1, _⟩ => show (R.val * 1024 + d.val) / 1024 % 2048 = R.val % 2048; omega
      | ⟨2, _⟩ => show (R.val * 1024 + d.val) % 1024 = d.val; omega
  rw [val_main_v76_apply, e, out_apply]
  congr 1
  show 2048 * (R.val / 2048) + R.val % 2048 = R.val
  omega

/-- The last eight rows of every block of 512: row `i` of the tails is row `512 * (i / 8) + 504 + i % 8`. -/
theorem tails_apply (i : Fin 512) (n : Fin 5632) :
    val_main_v75 (F := Ideal) x n2 wu (ix2 i n)
      = up (rows x) (gain n2) (wup wu) (512 * (i.val / 8) + 504 + i.val % 8) n.val := by
  have hi := i.isLt
  have hn := n.isLt
  rw [val_main_v75_apply, val_main_v74_apply, val_main_v73_apply]
  have e : idx_main_v73 (idx_main_v74 (idx_main_v75 (ix2 i n)))
      = ix3 ⟨i.val / 32, by omega⟩ ⟨512 * (i.val / 8 % 4) + 504 + i.val % 8, by omega⟩ n := by
    have g0 : (idx_main_v75 (ix2 i n) 0).val = i.val / 32 := by show (i.val * 5632 + n.val) / 180224 = _; omega
    have g1 : (idx_main_v75 (ix2 i n) 1).val = i.val / 8 % 4 := by show (i.val * 5632 + n.val) / 45056 % 4 = _; omega
    have g2 : (idx_main_v75 (ix2 i n) 2).val = i.val % 8 := by show (i.val * 5632 + n.val) / 5632 % 8 = _; omega
    have g3 : (idx_main_v75 (ix2 i n) 3).val = n.val := by show (i.val * 5632 + n.val) % 5632 = _; omega
    generalize idx_main_v75 (ix2 i n) = y at g0 g1 g2 g3
    have f0 : (idx_main_v74 y 0).val = i.val / 32 := g0
    have f1 : (idx_main_v74 y 1).val = i.val / 8 % 4 := g1
    have f2 : (idx_main_v74 y 2).val = 504 + i.val % 8 := congrArg (504 + ·) g2
    have f3 : (idx_main_v74 y 3).val = n.val := g3
    generalize idx_main_v74 y = w at f0 f1 f2 f3
    funext a; apply Fin.ext
    match a with
    | ⟨0, _⟩ =>
      show (((((w 0).val * 4 + (w 1).val) * 512 + (w 2).val) * 5632 + (w 3).val) / 11534336) = i.val / 32
      rw [f0, f1, f2, f3]; omega
    | ⟨1, _⟩ =>
      show (((((w 0).val * 4 + (w 1).val) * 512 + (w 2).val) * 5632 + (w 3).val) / 5632 % 2048) = 512 * (i.val / 8 % 4) + 504 + i.val % 8
      rw [f0, f1, f2, f3]; omega
    | ⟨2, _⟩ =>
      show (((((w 0).val * 4 + (w 1).val) * 512 + (w 2).val) * 5632 + (w 3).val) % 5632) = n.val
      rw [f0, f1, f2, f3]; omega
  rw [e, up_apply]
  congr 1
  show 2048 * (i.val / 32) + (512 * (i.val / 8 % 4) + 504 + i.val % 8) = _
  omega

/-- The second result: the tails' up projections. -/
theorem result_a (i : Fin 512) (n : Fin 2816) :
    val_main_v77 (F := Ideal) x n2 wu (ix2 i n)
      = up (rows x) (gain n2) (wup wu) (512 * (i.val / 8) + 504 + i.val % 8) n.val := by
  rw [val_main_v77_apply, ← tails_apply x n2 wu i ⟨n.val, by have := n.isLt; omega⟩]
  congr 1
  funext a; match a with
    | ⟨0, _⟩ => rfl
    | ⟨1, _⟩ => rfl

/-- The third result: the tails' gates. -/
theorem result_g (i : Fin 512) (n : Fin 2816) :
    val_main_v78 (F := Ideal) x n2 wu (ix2 i n)
      = up (rows x) (gain n2) (wup wu) (512 * (i.val / 8) + 504 + i.val % 8) (2816 + n.val) := by
  rw [val_main_v78_apply, ← tails_apply x n2 wu i ⟨2816 + n.val, by have := n.isLt; omega⟩]
  congr 1
  funext a; match a with
    | ⟨0, _⟩ => rfl
    | ⟨1, _⟩ => rfl

end Cert.FfnRef

end
-- ==== Proof.FfnGrid.lean ====
/- The whole grid of the feed-forward kernel: a point's blocks are those of the arguments, so its three results are
   the sub-layer's output and the last rows of the up projection. -/
module

public import proofs.«01_k».proof.Proof.Gen.FfnIdeal.Value
public import proofs.«01_k».proof.Proof.FfnCase
public import proofs.«01_k».proof.Proof.FfnRef
public import Idealize.ShloMosaic.Lib.Pipeline.ValueKit

@[expose] public section

set_option maxRecDepth 16384

noncomputable section

namespace Cert.FfnGrid

open Cert.FfnIdeal Cert.FfnIdeal.Gen Idealize.ShloMosaic Idealize.ShloMosaic.TcCoe Cert.FfnSpec Cert.FfnPay Cert.FfnCase Cert.FfnRef Idealize.SL.Sem

variable (m : (ℓ : Loc nD τ sig) → Buf (Elt Ideal) ℓ) (c : Dev nD)

/-- The arguments a memory holds: the rows, the two gains, the up projection, the taps, their bias, the down projection. -/
abbrev aX : S16x2048x1024.Idx → EReal := m ((c : Thread nD τ).loc main_arg0)
@[inherit_doc aX] abbrev aN2 : S1x1024.Idx → EReal := m ((c : Thread nD τ).loc main_arg1)
@[inherit_doc aX] abbrev aN3 : S1x1024.Idx → EReal := m ((c : Thread nD τ).loc main_arg2)
@[inherit_doc aX] abbrev aWu : S1024x5632.Idx → EReal := m ((c : Thread nD τ).loc main_arg3)
@[inherit_doc aX] abbrev aCw : S3x5632.Idx → EReal := m ((c : Thread nD τ).loc main_arg4)
@[inherit_doc aX] abbrev aCb : S1x5632.Idx → EReal := m ((c : Thread nD τ).loc main_arg5)
@[inherit_doc aX] abbrev aWd : S2816x1024.Idx → EReal := m ((c : Thread nD τ).loc main_arg6)

/-- The windows' index maps: point `t` is half `t % 2` of row block `t / 2`. -/
theorem idx : ∀ t : Fin cfg0.N, win0_0.index t = ![t.val / 2, 0] ∧ win0_1.index t = ![64 * (t.val / 2) - 1, 0]
    ∧ win0_2.index t = ![0, 0] ∧ win0_3.index t = ![0, 0] ∧ win0_4.index t = ![0, t.val % 2] ∧ win0_5.index t = ![0, 2 + t.val % 2]
    ∧ win0_6.index t = ![0, t.val % 2] ∧ win0_7.index t = ![0, 2 + t.val % 2] ∧ win0_8.index t = ![0, t.val % 2]
    ∧ win0_9.index t = ![0, 2 + t.val % 2] ∧ win0_10.index t = ![t.val % 2, 0] ∧ t.val < 128 ∧ (grid0.coords t 1).val = t.val / 2 % 4 :=
  (by decide +kernel : ∀ t : Fin grid0.N, _)

theorem idx_out : ∀ t : Fin cfg0.N, win0_11.index t = ![t.val / 2, 0] ∧ win0_12.index t = ![t.val / 2, t.val % 2]
    ∧ win0_13.index t = ![t.val / 2, t.val % 2] :=
  (by decide +kernel : ∀ t : Fin grid0.N, _)

variable (t : Fin cfg0.N)

theorem lt128 : t.val < 128 := (idx t).2.2.2.2.2.2.2.2.2.2.2.1

/-! ### The arrays behind the windows -/

theorem v_x (r : Fin 32768) (d : Fin 1024) : (V m c main_v0 : S32768x1024.Idx → EReal) (ix2 r d) = rows (aX m c) r.val d := by
  have hr := r.isLt
  have hd := d.isLt
  unfold V rows
  simp only [hostOps0, List.flatten_cons, List.flatten_nil, List.append_nil, List.cons_append, List.nil_append]
  entry_read
  pointwise
  exact congrArg (fun b : Fin 16 => aX m c (ix3 b ⟨r.val % 2048, Nat.mod_lt _ (by norm_num)⟩ d)) (Fin.ext (by show r.val / 2048 = r.val / 2048 % 16; omega))

theorem v_wu (d : Fin 1024) (n : Fin 5632) : (V m c main_v1 : S1024x5632.Idx → EReal) (ix2 d n) = aWu m c (ix2 d n) := by
  unfold V
  simp only [hostOps0, List.flatten_cons, List.flatten_nil, List.append_nil, List.cons_append, List.nil_append]
  entry_read
  pointwise

theorem v_wd (n : Fin 2816) (d : Fin 1024) : (V m c main_v2 : S2816x1024.Idx → EReal) (ix2 n d) = aWd m c (ix2 n d) := by
  unfold V
  simp only [hostOps0, List.flatten_cons, List.flatten_nil, List.append_nil, List.cons_append, List.nil_append]
  entry_read
  pointwise

theorem v_n2 : (V m c main_arg1 : S1x1024.Idx → EReal) = aN2 m c := by
  unfold V
  simp only [hostOps0, List.flatten_cons, List.flatten_nil, List.append_nil, List.cons_append, List.nil_append]
  entry_read
  rfl

theorem v_n3 : (V m c main_arg2 : S1x1024.Idx → EReal) = aN3 m c := by
  unfold V
  simp only [hostOps0, List.flatten_cons, List.flatten_nil, List.append_nil, List.cons_append, List.nil_append]
  entry_read
  rfl

theorem v_cw : (V m c main_arg4 : S3x5632.Idx → EReal) = aCw m c := by
  unfold V
  simp only [hostOps0, List.flatten_cons, List.flatten_nil, List.append_nil, List.cons_append, List.nil_append]
  entry_read
  rfl

theorem v_cb : (V m c main_arg5 : S1x5632.Idx → EReal) = aCb m c := by
  unfold V
  simp only [hostOps0, List.flatten_cons, List.flatten_nil, List.append_nil, List.cons_append, List.nil_append]
  entry_read
  rfl

/-! ### The blocks -/

theorem bX_apply (r : Fin 512) (d : Fin 1024) : bX m c t (ix2 r d) = rows (aX m c) (512 * (t.val / 2) + r.val) d := by
  obtain ⟨e, -⟩ := idx t
  have h := lt128 t
  rw [← v_x m c ⟨512 * (t.val / 2) + r.val, by have := r.isLt; omega⟩ d]
  unfold bX
  blk_ext [iblk, e]

theorem bH_apply (hq : ¬ t.val / 2 = 0) (r : Fin 8) (d : Fin 1024) : bH m c t (ix2 r d) = rows (aX m c) (512 * (t.val / 2) - 8 + r.val) d := by
  obtain ⟨-, e, -⟩ := idx t
  have h := lt128 t
  rw [← v_x m c ⟨512 * (t.val / 2) - 8 + r.val, by have := r.isLt; omega⟩ d]
  unfold bH
  blk_ext [iblk, e]

theorem bN2_apply (d : Fin 1024) : bN2 m c t (ix2 0 d) = gain (aN2 m c) d := by
  obtain ⟨-, -, e, -⟩ := idx t
  unfold gain
  rw [← v_n2]
  unfold bN2
  blk_ext [iblk, e]

theorem bN3_apply (d : Fin 1024) : bN3 m c t (ix2 0 d) = gain (aN3 m c) d := by
  obtain ⟨-, -, -, e, -⟩ := idx t
  unfold gain
  rw [← v_n3]
  unfold bN3
  blk_ext [iblk, e]

theorem bWa_apply (d : Fin 1024) (n : Fin 1408) : bWa m c t (ix2 d n) = wup (aWu m c) d (1408 * (t.val % 2) + n.val) := by
  obtain ⟨-, -, -, -, e, -⟩ := idx t
  have hn := n.isLt
  unfold wup
  rw [← v_wu]
  unfold bWa
  blk_ext [iblk, e]

theorem bWg_apply (d : Fin 1024) (n : Fin 1408) : bWg m c t (ix2 d n) = wup (aWu m c) d (2816 + 1408 * (t.val % 2) + n.val) := by
  obtain ⟨-, -, -, -, -, e, -⟩ := idx t
  have hn := n.isLt
  unfold wup
  rw [← v_wu]
  unfold bWg
  blk_ext [iblk, e]

theorem bCa_apply (j : Fin 3) (n : Fin 1408) : bCa m c t (ix2 j n) = taps (aCw m c) j (1408 * (t.val % 2) + n.val) := by
  obtain ⟨-, -, -, -, -, -, e, -⟩ := idx t
  have hn := n.isLt
  unfold taps
  rw [← v_cw]
  unfold bCa
  blk_ext [iblk, e]

theorem bCg_apply (j : Fin 3) (n : Fin 1408) : bCg m c t (ix2 j n) = taps (aCw m c) j (2816 + 1408 * (t.val % 2) + n.val) := by
  obtain ⟨-, -, -, -, -, -, -, e, -⟩ := idx t
  have hn := n.isLt
  unfold taps
  rw [← v_cw]
  unfold bCg
  blk_ext [iblk, e]

theorem bBa_apply (n : Fin 1408) : bBa m c t (ix2 0 n) = bias (aCb m c) (1408 * (t.val % 2) + n.val) := by
  obtain ⟨-, -, -, -, -, -, -, -, e, -⟩ := idx t
  have hn := n.isLt
  unfold bias
  rw [← v_cb]
  unfold bBa
  blk_ext [iblk, e]

theorem bBg_apply (n : Fin 1408) : bBg m c t (ix2 0 n) = bias (aCb m c) (2816 + 1408 * (t.val % 2) + n.val) := by
  obtain ⟨-, -, -, -, -, -, -, -, -, e, -⟩ := idx t
  have hn := n.isLt
  unfold bias
  rw [← v_cb]
  unfold bBg
  blk_ext [iblk, e]

theorem bWd_apply (n : Fin 1408) (d : Fin 1024) : bWd m c t (ix2 n d) = wdn (aWd m c) (1408 * (t.val % 2) + n.val) d := by
  obtain ⟨-, -, -, -, -, -, -, -, -, -, e, -⟩ := idx t
  have hn := n.isLt
  unfold wdn
  rw [← v_wd]
  unfold bWd
  blk_ext [iblk, e]

/-! ### The points -/

/-- The normed rows of a point's block. -/
theorem rows_apply (r : Fin 512) (d : Fin 1024) : k0_pay1 (F := Ideal) (bX m c t) (bN2 m c t) (ix2 r d)
    = rms (rows (aX m c) (512 * (t.val / 2) + r.val)) (gain (aN2 m c)) d := by
  rw [FfnPay.norm_apply]
  simp only [bX_apply, bN2_apply]

/-- The normed rows before it. -/
theorem halo_rows (hq : ¬ t.val / 2 % 4 = 0) (r : Fin 8) (d : Fin 1024) :
    k0_pay4 (F := Ideal) (k0_pay3 (F := Ideal) (bH m c t) (bN2 m c t)) (ix2 r d)
      = rms (rows (aX m c) (512 * (t.val / 2) - 8 + r.val)) (gain (aN2 m c)) d := by
  rw [before_apply]
  simp only [bH_apply m c t (fun h => hq (by rw [h])), bN2_apply]

/-- A half's sum over the normed rows of its block. -/
theorem half_apply (h : S512x1024.Idx → EReal) (hh : S8x1024.Idx → EReal)
    (h1 : ∀ (r : Fin 512) d, h (ix2 r d) = rms (rows (aX m c) (512 * (t.val / 2) + r.val)) (gain (aN2 m c)) d)
    (h2 : ¬ t.val / 2 % 4 = 0 → ∀ (r : Fin 8) d, hh (ix2 r d) = rms (rows (aX m c) (512 * (t.val / 2) - 8 + r.val)) (gain (aN2 m c)) d)
    (r : Fin 512) (d : Fin 1024) :
    halfSum m c t h hh r d = ∑ n : Fin 1408, act (rows (aX m c)) (gain (aN2 m c)) (wup (aWu m c)) (taps (aCw m c)) (bias (aCb m c))
        (512 * (t.val / 2) + r.val) (1408 * (t.val % 2) + n.val) * wdn (aWd m c) (1408 * (t.val % 2) + n.val) d := by
  have hf : (grid0.coords t 1).val = 0 ↔ t.val / 2 % 4 = 0 := by rw [(idx t).2.2.2.2.2.2.2.2.2.2.2.2]
  unfold halfSum act
  refine Finset.sum_congr rfl fun n _ => ?_
  rw [convRow_eq (rows (aX m c)) (gain (aN2 m c)) (wup (aWu m c)) (taps (aCw m c)) (bias (aCb m c)) hf h1 (fun k => h2 (fun e => k (hf.2 e)))
      (bWa_apply m c t) (bCa_apply m c t) (bBa_apply m c t),
    convRow_eq (rows (aX m c)) (gain (aN2 m c)) (wup (aWu m c)) (taps (aCw m c)) (bias (aCb m c)) hf h1 (fun k => h2 (fun e => k (hf.2 e)))
      (bWg_apply m c t) (bCg_apply m c t) (bBg_apply m c t), bWd_apply, Nat.add_assoc]

/-- The rows an odd point finds are those of its own block. -/
theorem rows_found (h0 : ¬t.val % 2 = 0) (r : Fin 512) (d : Fin 1024) :
    sRows m c (t.val - 1) (Nat.lt_of_le_of_lt (Nat.sub_le _ _) t.isLt) (ix2 r d)
      = rms (rows (aX m c) (512 * (t.val / 2) + r.val)) (gain (aN2 m c)) d := by
  rw [show t.val / 2 = (t.val - 1) / 2 by omega]
  have e := rows_even m c ⟨t.val - 1, Nat.lt_of_le_of_lt (Nat.sub_le _ _) t.isLt⟩ (by show (t.val - 1) % 2 = 0; omega) (by show ¬(t.val - 1) % 2 = 1; omega)
  exact (congrFun e _).trans (rows_apply m c ⟨t.val - 1, _⟩ r d)

theorem before_found (h0 : ¬t.val % 2 = 0) (hq : ¬ t.val / 2 % 4 = 0) (r : Fin 8) (d : Fin 1024) :
    sBefore m c (t.val - 1) (Nat.lt_of_le_of_lt (Nat.sub_le _ _) t.isLt) (ix2 r d)
      = rms (rows (aX m c) (512 * (t.val / 2) - 8 + r.val)) (gain (aN2 m c)) d := by
  have eq : t.val / 2 = (t.val - 1) / 2 := by omega
  rw [eq] at hq ⊢
  have e := before_even m c ⟨t.val - 1, Nat.lt_of_le_of_lt (Nat.sub_le _ _) t.isLt⟩ (by show (t.val - 1) % 2 = 0; omega) (by show ¬(t.val - 1) % 2 = 1; omega)
  exact (congrFun e _).trans (halo_rows m c ⟨t.val - 1, _⟩ hq r d)

theorem acc_found (h0 : ¬t.val % 2 = 0) (r : Fin 512) (d : Fin 1024) :
    sAcc m c (t.val - 1) (Nat.lt_of_le_of_lt (Nat.sub_le _ _) t.isLt) (ix2 r d)
      = ∑ n : Fin 1408, act (rows (aX m c)) (gain (aN2 m c)) (wup (aWu m c)) (taps (aCw m c)) (bias (aCb m c))
          (512 * (t.val / 2) + r.val) n.val * wdn (aWd m c) n.val d := by
  have e := acc_even m c ⟨t.val - 1, Nat.lt_of_le_of_lt (Nat.sub_le _ _) t.isLt⟩ (by show (t.val - 1) % 2 = 0; omega) (by show ¬(t.val - 1) % 2 = 1; omega) r d
  refine e.trans ((half_apply m c ⟨t.val - 1, _⟩ _ _ (rows_apply m c _) (halo_rows m c _) r d).trans ?_)
  refine Finset.sum_congr rfl fun n _ => ?_
  show act _ _ _ _ _ (512 * ((t.val - 1) / 2) + r.val) (1408 * ((t.val - 1) % 2) + n.val) * wdn _ (1408 * ((t.val - 1) % 2) + n.val) d = _
  rw [show (t.val - 1) / 2 = t.val / 2 by omega, show (t.val - 1) % 2 = 0 by omega, Nat.mul_zero, Nat.zero_add]

/-- What an odd point leaves in the output's block. -/
theorem point_x (h1 : t.val % 2 = 1) (r : Fin 512) (d : Fin 1024) : sX m c t.val t.isLt (ix2 r d)
    = out (rows (aX m c)) (gain (aN2 m c)) (gain (aN3 m c)) (wup (aWu m c)) (taps (aCw m c)) (bias (aCb m c)) (wdn (aWd m c))
        (512 * (t.val / 2) + r.val) d := by
  have h0 : ¬t.val % 2 = 0 := by omega
  rw [out_odd m c t h0 h1, bX_apply]
  unfold out
  refine congrArg (rows (aX m c) (512 * (t.val / 2) + r.val) d + ·) ?_
  have eg : (fun k => bN3 m c t (ix2 0 k)) = gain (aN3 m c) := funext (bN3_apply m c t)
  rw [eg]
  refine congrArg (fun f => rms f (gain (aN3 m c)) d) (funext fun k => ?_)
  rw [acc_found m c t h0, half_apply m c t _ _ (rows_found m c t h0) (before_found m c t h0), down_halves, h1, Nat.mul_one]

theorem tail_up (h : S512x1024.Idx → EReal) (h1 : ∀ (r : Fin 512) d, h (ix2 r d) = rms (rows (aX m c) (512 * (t.val / 2) + r.val)) (gain (aN2 m c)) d)
    (w : S1024x1408.Idx → EReal) (n0 : ℕ) (hw : ∀ d (n : Fin 1408), w (ix2 d n) = wup (aWu m c) d (n0 + n.val)) (r : Fin 8) (n : Fin 1408) :
    k0_pay6 (F := Ideal) h w (ix2 r n) = up (rows (aX m c)) (gain (aN2 m c)) (wup (aWu m c)) (512 * (t.val / 2) + 504 + r.val) (n0 + n.val) := by
  rw [tail_apply, FfnPay.up_apply]
  unfold up
  refine Finset.sum_congr rfl fun d _ => ?_
  rw [h1, hw, ← Nat.add_assoc]

/-- What a point leaves in the tails' blocks. -/
theorem point_a (r : Fin 8) (n : Fin 1408) : sA m c t.val t.isLt (ix2 r n)
    = up (rows (aX m c)) (gain (aN2 m c)) (wup (aWu m c)) (512 * (t.val / 2) + 504 + r.val) (1408 * (t.val % 2) + n.val) := by
  by_cases h0 : t.val % 2 = 0
  · rw [tail_a_even m c t h0 (by omega)]
    exact tail_up m c t _ (rows_apply m c t) _ _ (bWa_apply m c t) r n
  · rw [tail_a_odd m c t h0 (by omega)]
    exact tail_up m c t _ (rows_found m c t h0) _ _ (bWa_apply m c t) r n

theorem point_g (r : Fin 8) (n : Fin 1408) : sG m c t.val t.isLt (ix2 r n)
    = up (rows (aX m c)) (gain (aN2 m c)) (wup (aWu m c)) (512 * (t.val / 2) + 504 + r.val) (2816 + 1408 * (t.val % 2) + n.val) := by
  by_cases h0 : t.val % 2 = 0
  · rw [tail_g_even m c t h0 (by omega), gate_tail_eq]
    exact tail_up m c t _ (rows_apply m c t) _ _ (bWg_apply m c t) r n
  · rw [tail_g_odd m c t h0 (by omega), gate_tail_eq]
    exact tail_up m c t _ (rows_found m c t h0) _ _ (bWg_apply m c t) r n

/-! ### The arrays -/

/-- The sub-layer's output as one array. -/
def outArr (x : S16x2048x1024.Idx → EReal) (n2 n3 : S1x1024.Idx → EReal) (wu : S1024x5632.Idx → EReal) (cw : S3x5632.Idx → EReal)
    (cb : S1x5632.Idx → EReal) (wd : S2816x1024.Idx → EReal) (y : S32768x1024.Idx) : EReal :=
  out (rows x) (gain n2) (gain n3) (wup wu) (taps cw) (bias cb) (wdn wd) (y 0).val (y 1)

/-- The last eight rows of every 512 of the up projection, from column `n0` on. -/
def tailArr (n0 : ℕ) (x : S16x2048x1024.Idx → EReal) (n2 : S1x1024.Idx → EReal) (wu : S1024x5632.Idx → EReal) (y : S512x2816.Idx) : EReal :=
  up (rows x) (gain n2) (wup wu) (512 * ((y 0).val / 8) + 504 + (y 0).val % 8) (n0 + (y 1).val)

/-- The output is written at the odd points. -/
theorem flush_odd : ∀ t : Fin cfg0.N, (cfg0.win 11).flush t = true → t.val % 2 = 1 :=
  (by decide +kernel : ∀ t : Fin grid0.N, _)

/-- The kernel's first result is the sub-layer's output. -/
theorem result_x : (dats m 0 c).arrAt 11 cfg0.N = outArr (aX m c) (aN2 m c) (aN3 m c) (aWu m c) (aCw m c) (aCb m c) (aWd m c) := by
  refine (dats m 0 c).arrAt_eq_of_covers 11 _ (by decide +kernel) fun t hf y => ?_
  have e := (idx_out t).1
  have h0 : ((((cfg0.win 11).blk t).view.emb y) 0 : ℕ) = t.val / 2 * 512 + (y 0).val := by blk_simp [e]
  have h1 : ((((cfg0.win 11).blk t).view.emb y) 1 : ℕ) = (y 1).val := by blk_simp [e]
  have l0 : (y 0).val < 512 := (y 0).isLt
  have l1 : (y 1).val < 1024 := (y 1).isLt
  blk_simp
  rw [after0_11]
  have ey : (y : S512x1024.Idx) = ix2 (⟨(y 0).val, l0⟩ : Fin 512) (⟨(y 1).val, l1⟩ : Fin 1024) := eq_ix2 _
  refine ((congrArg _ ey).trans (point_x m c t (flush_odd t hf) ⟨(y 0).val, l0⟩ ⟨(y 1).val, l1⟩)).trans ?_
  unfold outArr
  rw [h0, show (((cfg0.win 11).blk t).view.emb y) 1 = (⟨(y 1).val, l1⟩ : Fin 1024) from Fin.ext h1, Nat.mul_comm 512]

/-- The second and third are the last rows of the up projection's two halves. -/
theorem result_a : (dats m 0 c).arrAt 12 cfg0.N = tailArr 0 (aX m c) (aN2 m c) (aWu m c) := by
  refine (dats m 0 c).arrAt_eq_of_covers 12 _ (by decide +kernel) fun t hf y => ?_
  have e := (idx_out t).2.1
  have h0 : ((((cfg0.win 12).blk t).view.emb y) 0 : ℕ) = t.val / 2 * 8 + (y 0).val := by blk_simp [e]
  have h1 : ((((cfg0.win 12).blk t).view.emb y) 1 : ℕ) = t.val % 2 * 1408 + (y 1).val := by blk_simp [e]
  have l0 : (y 0).val < 8 := (y 0).isLt
  have l1 : (y 1).val < 1408 := (y 1).isLt
  blk_simp
  rw [after0_12]
  have ey : (y : S8x1408.Idx) = ix2 (⟨(y 0).val, l0⟩ : Fin 8) (⟨(y 1).val, l1⟩ : Fin 1408) := eq_ix2 _
  refine ((congrArg _ ey).trans (point_a m c t ⟨(y 0).val, l0⟩ ⟨(y 1).val, l1⟩)).trans ?_
  unfold tailArr
  rw [h0, h1]
  congr 1 <;> dsimp only <;> omega

theorem result_g : (dats m 0 c).arrAt 13 cfg0.N = tailArr 2816 (aX m c) (aN2 m c) (aWu m c) := by
  refine (dats m 0 c).arrAt_eq_of_covers 13 _ (by decide +kernel) fun t hf y => ?_
  have e := (idx_out t).2.2
  have h0 : ((((cfg0.win 13).blk t).view.emb y) 0 : ℕ) = t.val / 2 * 8 + (y 0).val := by blk_simp [e]
  have h1 : ((((cfg0.win 13).blk t).view.emb y) 1 : ℕ) = t.val % 2 * 1408 + (y 1).val := by blk_simp [e]
  have l0 : (y 0).val < 8 := (y 0).isLt
  have l1 : (y 1).val < 1408 := (y 1).isLt
  blk_simp
  rw [after0_13]
  have ey : (y : S8x1408.Idx) = ix2 (⟨(y 0).val, l0⟩ : Fin 8) (⟨(y 1).val, l1⟩ : Fin 1408) := eq_ix2 _
  refine ((congrArg _ ey).trans (point_g m c t ⟨(y 0).val, l0⟩ ⟨(y 1).val, l1⟩)).trans ?_
  unfold tailArr
  rw [h0, h1]
  congr 1 <;> dsimp only <;> omega

end Cert.FfnGrid

end
-- ==== Proof.MemKv.lean ====
/- The memory's keys and values: the kernel's two arrays and the reference's are the products of the memory with
   the two halves of each layer's weights, each head's columns along the rows. -/
module

public import proofs.«01_k».proof.Proof.Gen.MemKvIdeal.Value
public import proofs.«01_k».proof.Proof.Gen.MemKvReferenceIdeal.Read
public import Idealize.ShloMosaic.Lib.Pipeline.ValueKit
public import Idealize.ShloMosaic.Lib.Pipeline.ValueKit.Acc

@[expose] public section

set_option maxRecDepth 16384

noncomputable section

namespace Cert.MemProof

open Cert.MemKvIdeal Cert.MemKvIdeal.Gen Idealize.ShloMosaic Idealize.ShloMosaic.TcCoe Idealize.SL.Sem

/-- Column `e` of layer `l`'s weights times row `n` of batch `b`'s memory. -/
def prod (x : S16x256x1024.Idx → EReal) (w : S2x1024x512.Idx → EReal) (l : Fin 2) (b : Fin 16) (e : Fin 512) (n : Fin 256) : EReal :=
  ∑ k : Fin 1024, w (ix3 l k e) * x (ix3 b n k)

/-- The products as one array, the columns from `e0` on: row `256 (16 l + b) + e`, column `n`. -/
def arr (e0 : ℕ) (he : e0 ≤ 256) (x : S16x256x1024.Idx → EReal) (w : S2x1024x512.Idx → EReal) (y : S8192x256.Idx) : EReal :=
  prod x w ⟨(y 0).val / 4096, by have : (y 0).val < 8192 := (y 0).isLt; omega⟩ ⟨(y 0).val / 256 % 16, by omega⟩
    ⟨e0 + (y 0).val % 256, by omega⟩ (y 1)

theorem prod_congr (x : S16x256x1024.Idx → EReal) (w : S2x1024x512.Idx → EReal) {l l' : Fin 2} {b b' : Fin 16} {e e' : Fin 512} {n n' : Fin 256}
    (hl : l.val = l'.val) (hb : b.val = b'.val) (he : e.val = e'.val) (hn : n.val = n'.val) : prod x w l b e n = prod x w l' b' e' n' := by
  rw [Fin.ext hl, Fin.ext hb, Fin.ext he, Fin.ext hn]

variable (m : (ℓ : Loc nD τ sig) → Buf (Elt Ideal) ℓ) (c : Dev nD)

/-- The memory and the weights a launch is given. -/
abbrev aX : S16x256x1024.Idx → EReal := m ((c : Thread nD τ).loc main_arg0)
@[inherit_doc aX] abbrev aW : S2x1024x512.Idx → EReal := m ((c : Thread nD τ).loc main_arg1)

/-- The windows' index maps: point `t` is layer `t / 16`, batch `t % 16`. -/
theorem idx : ∀ t : Fin cfg0.N, win0_0.index t = ![t.val % 16, 0] ∧ win0_1.index t = ![t.val / 16, 0, 0] ∧ win0_2.index t = ![t.val, 0]
    ∧ win0_3.index t = ![t.val, 0] ∧ t.val < 32 :=
  (by decide +kernel : ∀ t : Fin grid0.N, _)

theorem v_x (r : Fin 4096) (k : Fin 1024) : (V m c main_v0 : S4096x1024.Idx → EReal) (ix2 r k)
    = aX m c (ix3 ⟨r.val / 256, by omega⟩ ⟨r.val % 256, by omega⟩ k) := by
  have hr := r.isLt
  have hk := k.isLt
  unfold V
  simp only [hostOps0, List.flatten_cons, List.flatten_nil, List.append_nil, List.cons_append, List.nil_append]
  entry_read
  pointwise

theorem v_w (l : Fin 2) (e : Fin 512) (k : Fin 1024) : (V m c main_v2 : S2x512x1024.Idx → EReal) (ix3 l e k) = aW m c (ix3 l k e) := by
  unfold V
  simp only [hostOps0, List.flatten_cons, List.flatten_nil, List.append_nil, List.cons_append, List.nil_append]
  entry_read
  pointwise

variable (t : Fin cfg0.N)

/-- A point's blocks. -/
abbrev bX : S256x1024.Idx → EReal := iblk m c 0 t
@[inherit_doc bX] abbrev bW : S1x512x1024.Idx → EReal := iblk m c 1 t

theorem bX_apply (n : Fin 256) (k : Fin 1024) : bX m c t (ix2 n k) = aX m c (ix3 ⟨t.val % 16, by omega⟩ n k) := by
  obtain ⟨e, -⟩ := idx t
  have hn := n.isLt
  refine Eq.trans ?_ ((v_x m c ⟨256 * (t.val % 16) + n.val, by omega⟩ k).trans ?_)
  · unfold bX
    blk_ext [iblk, e]
  · congr 2 <;> exact Fin.ext (by dsimp only; omega)

theorem bW_apply (e : Fin 512) (k : Fin 1024) : bW m c t (ix3 0 e k)
    = aW m c (ix3 ⟨t.val / 16, by have := (idx t).2.2.2.2; omega⟩ k e) := by
  obtain ⟨-, e1, -, -, ht⟩ := idx t
  rw [← v_w]
  unfold bW
  blk_ext [iblk, e1]

theorem pay_apply (w : S1x512x1024.Idx → EReal) (x : S256x1024.Idx → EReal) (e : Fin 512) (n : Fin 256) :
    k0_pay1 (F := Ideal) w x (ix2 e n) = ∑ k : Fin 1024, w (ix3 0 e k) * x (ix2 n k) := by
  unfold k0_pay1
  pointwise

theorem pay1_point (e : Fin 512) (n : Fin 256) : k0_pay1 (F := Ideal) (bW m c t) (bX m c t) (ix2 e n)
    = prod (aX m c) (aW m c) ⟨t.val / 16, by have := (idx t).2.2.2.2; omega⟩ ⟨t.val % 16, by omega⟩ e n := by
  rw [pay_apply]
  unfold prod
  simp only [bX_apply, bW_apply]

/-- What a point leaves in its two blocks. -/
theorem point_k (e n : Fin 256) : (out0_2 (F := Ideal) (iblk m c 0 t) (iblk m c 1 t) : S256x256.Idx → EReal) (ix2 e n)
    = prod (aX m c) (aW m c) ⟨t.val / 16, by have := (idx t).2.2.2.2; omega⟩ ⟨t.val % 16, by omega⟩ ⟨e.val, by omega⟩ n := by
  unfold out0_2
  frame_out
  refine Eq.trans ?_ (pay1_point m c t ⟨e.val, by omega⟩ n)
  unfold k0_pay2
  pointwise

theorem point_v (e n : Fin 256) : (out0_3 (F := Ideal) (iblk m c 0 t) (iblk m c 1 t) : S256x256.Idx → EReal) (ix2 e n)
    = prod (aX m c) (aW m c) ⟨t.val / 16, by have := (idx t).2.2.2.2; omega⟩ ⟨t.val % 16, by omega⟩ ⟨256 + e.val, by omega⟩ n := by
  unfold out0_3
  frame_out
  refine Eq.trans ?_ (pay1_point m c t ⟨256 + e.val, by omega⟩ n)
  unfold k0_pay3
  pointwise

/-- The kernel's two arrays. -/
theorem result_k : (dats m 0 c).arrAt 2 cfg0.N = arr 0 (by norm_num) (aX m c) (aW m c) := by
  refine (dats m 0 c).arrAt_eq_of_covers 2 _ (by decide +kernel) fun t hf y => ?_
  obtain ⟨-, -, e, -, ht⟩ := idx t
  have h0 : ((((cfg0.win 2).blk t).view.emb y) 0 : ℕ) = t.val * 256 + (y 0).val := by blk_simp [e]
  have h1 : ((((cfg0.win 2).blk t).view.emb y) 1 : ℕ) = (y 1).val := by blk_simp [e]
  have l0 : (y 0).val < 256 := (y 0).isLt
  have l1 : (y 1).val < 256 := (y 1).isLt
  blk_simp
  rw [after0_2]
  have ey : (y : S256x256.Idx) = ix2 (⟨(y 0).val, l0⟩ : Fin 256) (⟨(y 1).val, l1⟩ : Fin 256) := eq_ix2 _
  refine ((congrArg _ ey).trans (point_k m c t ⟨(y 0).val, l0⟩ ⟨(y 1).val, l1⟩)).trans ?_
  refine prod_congr _ _ ?_ ?_ ?_ h1.symm <;> dsimp only <;> rw [h0] <;> omega

theorem result_v : (dats m 0 c).arrAt 3 cfg0.N = arr 256 le_rfl (aX m c) (aW m c) := by
  refine (dats m 0 c).arrAt_eq_of_covers 3 _ (by decide +kernel) fun t hf y => ?_
  obtain ⟨-, -, -, e, ht⟩ := idx t
  have h0 : ((((cfg0.win 3).blk t).view.emb y) 0 : ℕ) = t.val * 256 + (y 0).val := by blk_simp [e]
  have h1 : ((((cfg0.win 3).blk t).view.emb y) 1 : ℕ) = (y 1).val := by blk_simp [e]
  have l0 : (y 0).val < 256 := (y 0).isLt
  have l1 : (y 1).val < 256 := (y 1).isLt
  blk_simp
  rw [after0_3]
  have ey : (y : S256x256.Idx) = ix2 (⟨(y 0).val, l0⟩ : Fin 256) (⟨(y 1).val, l1⟩ : Fin 256) := eq_ix2 _
  refine ((congrArg _ ey).trans (point_v m c t ⟨(y 0).val, l0⟩ ⟨(y 1).val, l1⟩)).trans ?_
  refine prod_congr _ _ ?_ ?_ ?_ h1.symm <;> dsimp only <;> rw [h0] <;> omega

/-! ### The reference -/

section Reference

open Cert.MemKvReferenceIdeal.Read

variable (x : S16x256x1024.Idx → EReal) (w : S2x1024x512.Idx → EReal)

/-- The reference's two arrays. -/
theorem reference_k : val_main_v4 (F := Ideal) x w = arr 0 (by norm_num) x w := by
  funext y
  have l0 : (y 0).val < 8192 := (y 0).isLt
  have l1 : (y 1).val < 256 := (y 1).isLt
  rw [val_main_v4_apply, val_main_v3_apply, val_main_v2_apply, val_main_v1_apply, val_main_v0_apply]
  unfold arr prod
  refine Finset.sum_congr rfl fun k _ => ?_
  congr 2 <;> (funext a; apply Fin.ext; match a with
    | ⟨0, _⟩ => dsimp; omega
    | ⟨1, _⟩ => dsimp <;> omega
    | ⟨2, _⟩ => dsimp <;> omega)

theorem reference_v : val_main_v7 (F := Ideal) x w = arr 256 le_rfl x w := by
  funext y
  have l0 : (y 0).val < 8192 := (y 0).isLt
  have l1 : (y 1).val < 256 := (y 1).isLt
  rw [val_main_v7_apply, val_main_v6_apply, val_main_v5_apply, val_main_v1_apply, val_main_v0_apply]
  unfold arr prod
  refine Finset.sum_congr rfl fun k _ => ?_
  congr 2 <;> (funext a; apply Fin.ext; match a with
    | ⟨0, _⟩ => dsimp; omega
    | ⟨1, _⟩ => dsimp <;> omega
    | ⟨2, _⟩ => dsimp <;> omega)

end Reference

end Cert.MemProof

end
-- ==== Proof.MixOut.lean ====
/- The mixer's output projection: the kernel's rows and the reference's are the rows plus the normed product of the
   attention's and the memory's columns, side by side, with the output weights. -/
module

public import proofs.«01_k».proof.Proof.FfnSpec
public import proofs.«01_k».proof.Proof.Gen.MixOutIdeal.Value
public import proofs.«01_k».proof.Proof.Gen.MixOutReferenceIdeal.Read
public import Idealize.ShloMosaic.Lib.Pipeline.ValueKit
public import Idealize.ShloMosaic.Lib.Pipeline.ValueKit.Acc

@[expose] public section

set_option maxRecDepth 16384

noncomputable section

namespace Cert.MixOutProof

open Cert.MixOutIdeal Cert.MixOutIdeal.Gen Idealize.ShloMosaic Idealize.ShloMosaic.TcCoe Idealize.SL.Sem Cert.FfnSpec

/-- A batch row's number in its array. -/
abbrev bat (R : Fin 32768) : Fin 16 := ⟨R.val / 2048, by omega⟩
/-- A row's place in its sequence. -/
abbrev plc (R : Fin 32768) : Fin 2048 := ⟨R.val % 2048, by omega⟩

/-- The attention's columns and the memory's times the output weights. -/
def mix (sb : S16x2048x768.Idx → EReal) (mm : S16x2048x256.Idx → EReal) (w : S1024x1024.Idx → EReal) (R : Fin 32768) (d : Fin 1024) : EReal :=
  (∑ k : Fin 768, sb (ix3 (bat R) (plc R) k) * w (ix2 ⟨k.val, by omega⟩ d))
    + ∑ k : Fin 256, mm (ix3 (bat R) (plc R) k) * w (ix2 ⟨768 + k.val, by omega⟩ d)

/-- The rows plus the normed projection, as one array. -/
def arr (x : S16x2048x1024.Idx → EReal) (sb : S16x2048x768.Idx → EReal) (mm : S16x2048x256.Idx → EReal) (w : S1024x1024.Idx → EReal)
    (g : S1x1024.Idx → EReal) (y : S32768x1024.Idx) : EReal :=
  x (ix3 (bat (y 0)) (plc (y 0)) (y 1)) + rms (mix sb mm w (y 0)) (fun k => g (ix2 0 k)) (y 1)

variable (m : (ℓ : Loc nD τ sig) → Buf (Elt Ideal) ℓ) (c : Dev nD)

/-- The arguments a launch is given: the rows, the attention's columns, the memory's, the output weights, the gain. -/
abbrev aX : S16x2048x1024.Idx → EReal := m ((c : Thread nD τ).loc main_arg0)
@[inherit_doc aX] abbrev aSb : S16x2048x768.Idx → EReal := m ((c : Thread nD τ).loc main_arg1)
@[inherit_doc aX] abbrev aM : S16x2048x256.Idx → EReal := m ((c : Thread nD τ).loc main_arg2)
@[inherit_doc aX] abbrev aW : S1024x1024.Idx → EReal := m ((c : Thread nD τ).loc main_arg3)
@[inherit_doc aX] abbrev aG : S1x1024.Idx → EReal := m ((c : Thread nD τ).loc main_arg4)

/-- The windows' index maps: point `t` is rows `512 t` on. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 64 :=
  (by decide +kernel : ∀ t : Fin grid0.N, _)

theorem v_x (R : Fin 32768) (d : Fin 1024) : (V m c main_v0 : S32768x1024.Idx → EReal) (ix2 R d) = aX m c (ix3 (bat R) (plc R) d) := by
  have hr := R.isLt
  have hd := d.isLt
  unfold V
  simp only [hostOps0, List.flatten_cons, List.flatten_nil, List.append_nil, List.cons_append, List.nil_append]
  entry_read
  pointwise

theorem v_sb (R : Fin 32768) (d : Fin 768) : (V m c main_v2 : S32768x768.Idx → EReal) (ix2 R d) = aSb m c (ix3 (bat R) (plc R) d) := by
  have hr := R.isLt
  have hd := d.isLt
  unfold V
  simp only [hostOps0, List.flatten_cons, List.flatten_nil, List.append_nil, List.cons_append, List.nil_append]
  entry_read
  pointwise

theorem v_m (R : Fin 32768) (d : Fin 256) : (V m c main_v4 : S32768x256.Idx → EReal) (ix2 R d) = aM m c (ix3 (bat R) (plc R) d) := by
  have hr := R.isLt
  have hd := d.isLt
  unfold V
  simp only [hostOps0, List.flatten_cons, List.flatten_nil, List.append_nil, List.cons_append, List.nil_append]
  entry_read
  pointwise

theorem v_w (k d : Fin 1024) : (V m c main_v5 : S1024x1024.Idx → EReal) (ix2 k d) = aW m c (ix2 k d) := by
  unfold V
  simp only [hostOps0, List.flatten_cons, List.flatten_nil, List.append_nil, List.cons_append, List.nil_append]
  entry_read
  pointwise

theorem v_g : (V m c main_arg4 : S1x1024.Idx → EReal) = aG m c := by
  unfold V
  simp only [hostOps0, List.flatten_cons, List.flatten_nil, List.append_nil, List.cons_append, List.nil_append]
  entry_read
  rfl

variable (t : Fin cfg0.N)

theorem lt64 : t.val < 64 := (idx t).2.2.2.2.2.2

/-- A point's row among all. -/
abbrev row (r : Fin 512) : Fin 32768 := ⟨512 * t.val + r.val, by have := lt64 t; omega⟩

/-- A point's blocks. -/
abbrev bX : S512x1024.Idx → EReal := iblk m c 0 t
@[inherit_doc bX] abbrev bSb : S512x768.Idx → EReal := iblk m c 1 t
@[inherit_doc bX] abbrev bM : S512x256.Idx → EReal := iblk m c 2 t
@[inherit_doc bX] abbrev bW : S1024x1024.Idx → EReal := iblk m c 3 t
@[inherit_doc bX] abbrev bG : S1x1024.Idx → EReal := iblk m c 4 t

theorem bX_apply (r : Fin 512) (d : Fin 1024) : bX m c t (ix2 r d) = aX m c (ix3 (bat (row t r)) (plc (row t r)) d) := by
  obtain ⟨e, -⟩ := idx t
  rw [← v_x]
  unfold bX
  blk_ext [iblk, e]

theorem bSb_apply (r : Fin 512) (d : Fin 768) : bSb m c t (ix2 r d) = aSb m c (ix3 (bat (row t r)) (plc (row t r)) d) := by
  obtain ⟨-, e, -⟩ := idx t
  rw [← v_sb]
  unfold bSb
  blk_ext [iblk, e]

theorem bM_apply (r : Fin 512) (d : Fin 256) : bM m c t (ix2 r d) = aM m c (ix3 (bat (row t r)) (plc (row t r)) d) := by
  obtain ⟨-, -, e, -⟩ := idx t
  rw [← v_m]
  unfold bM
  blk_ext [iblk, e]

theorem bW_apply (k d : Fin 1024) : bW m c t (ix2 k d) = aW m c (ix2 k d) := by
  obtain ⟨-, -, -, e, -⟩ := idx t
  rw [← v_w]
  unfold bW
  blk_ext [iblk, e]

theorem bG_apply (d : Fin 1024) : bG m c t (ix2 0 d) = aG m c (ix2 0 d) := by
  obtain ⟨-, -, -, -, e, -⟩ := idx t
  rw [← v_g]
  unfold bG
  blk_ext [iblk, e]

/-- The body's one payload. -/
theorem pay_apply (sb : S512x768.Idx → EReal) (w0 : S768x1024.Idx → EReal) (mm : S512x256.Idx → EReal) (w1 : S256x1024.Idx → EReal)
    (x : S512x1024.Idx → EReal) (g : S1x1024.Idx → EReal) (r : Fin 512) (d : Fin 1024) :
    k0_pay1 (F := Ideal) sb w0 mm w1 x g (ix2 r d) = x (ix2 r d)
      + rms (fun d => (∑ k : Fin 768, sb (ix2 r k) * w0 (ix2 k d)) + ∑ k : Fin 256, mm (ix2 r k) * w1 (ix2 k d)) (fun k => g (ix2 0 k)) d := by
  unfold k0_pay1 rms
  pointwise

/-- The weights' rows below the attention's columns and the memory's. -/
theorem ld_top (w : S1024x1024.Idx → EReal) (k : Fin 768) (d : Fin 1024) :
    (View.ld (Val := Elt Ideal) (e' := .bf16) w r0_1 : S768x1024.Idx → EReal) (ix2 k d) = w (ix2 ⟨k.val, by omega⟩ d) := by
  refine congrArg w ?_
  funext a; apply Fin.ext; match a with
    | ⟨0, _⟩ => show 0 + 1 * k.val = k.val; omega
    | ⟨1, _⟩ => show 0 + 1 * d.val = d.val; omega

theorem ld_bottom (w : S1024x1024.Idx → EReal) (k : Fin 256) (d : Fin 1024) :
    (View.ld (Val := Elt Ideal) (e' := .bf16) w r0_3 : S256x1024.Idx → EReal) (ix2 k d) = w (ix2 ⟨768 + k.val, by omega⟩ d) := by
  refine congrArg w ?_
  funext a; apply Fin.ext; match a with
    | ⟨0, _⟩ => show 768 + 1 * k.val = 768 + k.val; omega
    | ⟨1, _⟩ => show 0 + 1 * d.val = d.val; omega

/-- What a point leaves in its block. -/
theorem point (r : Fin 512) (d : Fin 1024) :
    (out0_5 (F := Ideal) (iblk m c 0 t) (iblk m c 1 t) (iblk m c 2 t) (iblk m c 3 t) (iblk m c 4 t) : S512x1024.Idx → EReal) (ix2 r d)
      = arr (aX m c) (aSb m c) (aM m c) (aW m c) (aG m c) (ix2 (row t r) d) := by
  unfold out0_5
  frame_out
  refine (pay_apply (bSb m c t) _ (bM m c t) _ (bX m c t) (bG m c t) r d).trans ?_
  unfold arr
  refine congrArg₂ (· + ·) (bX_apply m c t r d) ?_
  simp only [bG_apply]
  refine congrArg (fun f => rms f _ d) (funext fun d => ?_)
  unfold mix
  refine congrArg₂ (· + ·) (Finset.sum_congr rfl fun k _ => ?_) (Finset.sum_congr rfl fun k _ => ?_)
  · exact congrArg₂ (· * ·) (bSb_apply m c t r k) ((ld_top (bW m c t) k d).trans (bW_apply m c t _ d))
  · exact congrArg₂ (· * ·) (bM_apply m c t r k) ((ld_bottom (bW m c t) k d).trans (bW_apply m c t _ d))

/-- The kernel's array. -/
theorem result : (dats m 0 c).arrAt 5 cfg0.N = arr (aX m c) (aSb m c) (aM m c) (aW m c) (aG m c) := by
  refine (dats m 0 c).arrAt_eq_of_covers 5 _ (by decide +kernel) fun t hf y => ?_
  obtain ⟨-, -, -, -, -, e, ht⟩ := idx t
  have h0 : ((((cfg0.win 5).blk t).view.emb y) 0 : ℕ) = t.val * 512 + (y 0).val := by blk_simp [e]
  have h1 : ((((cfg0.win 5).blk t).view.emb y) 1 : ℕ) = (y 1).val := by blk_simp [e]
  have l0 : (y 0).val < 512 := (y 0).isLt
  have l1 : (y 1).val < 1024 := (y 1).isLt
  blk_simp
  rw [after0_5]
  have ey : (y : S512x1024.Idx) = ix2 (⟨(y 0).val, l0⟩ : Fin 512) (⟨(y 1).val, l1⟩ : Fin 1024) := eq_ix2 _
  refine ((congrArg _ ey).trans (point m c t ⟨(y 0).val, l0⟩ ⟨(y 1).val, l1⟩)).trans ?_
  refine congrArg _ ?_
  funext a; apply Fin.ext; match a with
    | ⟨0, _⟩ => show 512 * t.val + (y 0).val = _; rw [Nat.mul_comm]; exact h0.symm
    | ⟨1, _⟩ => exact h1.symm

/-! ### The reference -/

section Reference

open Cert.MixOutReferenceIdeal.Read

variable (x : S16x2048x1024.Idx → EReal) (sb : S16x2048x768.Idx → EReal) (mm : S16x2048x256.Idx → EReal) (w : S1024x1024.Idx → EReal)
  (g : S1x1024.Idx → EReal)

/-- The two parts' columns side by side. -/
theorem cat_left (b : Fin 16) (s : Fin 2048) (k : Fin 768) :
    val_main_v0 (F := Ideal) sb mm (ix3 b s ⟨k.val, by omega⟩) = sb (ix3 b s k) := by
  have hk := k.isLt
  unfold val_main_v0
  pointwise

theorem cat_right (b : Fin 16) (s : Fin 2048) (k : Fin 256) :
    val_main_v0 (F := Ideal) sb mm (ix3 b s ⟨768 + k.val, by omega⟩) = mm (ix3 b s k) := by
  have hk := k.isLt
  unfold val_main_v0
  pointwise

/-- The product over all columns in its two parts. -/
theorem mix_apply (R : Fin 32768) (d : Fin 1024) : val_main_v1 (F := Ideal) sb mm w (ix3 (bat R) (plc R) d) = mix sb mm w R d := by
  rw [val_main_v1_apply]
  have el (k : Fin 1024) : lidx_main_v1 (ix3 (bat R) (plc R) d) k = ix3 (bat R) (plc R) k := by
    funext a; match a with
      | ⟨0, _⟩ => rfl
      | ⟨1, _⟩ => rfl
      | ⟨2, _⟩ => rfl
  have er (k : Fin 1024) : ridx_main_v1 (ix3 (bat R) (plc R) d) k = ix2 k d := by
    funext a; match a with
      | ⟨0, _⟩ => rfl
      | ⟨1, _⟩ => rfl
  simp only [el, er]
  refine (Fin.sum_univ_add (a := 768) (b := 256) fun k : Fin 1024 => val_main_v0 (F := Ideal) sb mm (ix3 (bat R) (plc R) k) * w (ix2 k d)).trans ?_
  unfold mix
  refine congrArg₂ (· + ·) (Finset.sum_congr rfl fun k _ => ?_) (Finset.sum_congr rfl fun k _ => ?_)
  · exact congrArg (· * _) (cat_left sb mm (bat R) (plc R) k)
  · exact congrArg (· * _) (cat_right sb mm (bat R) (plc R) k)

/-- The normed product. -/
theorem normed_apply (R : Fin 32768) (d : Fin 1024) :
    val_main_v15 (F := Ideal) sb mm w g (ix3 (bat R) (plc R) d) = rms (mix sb mm w R) (fun k => g (ix2 0 k)) d := by
  simp only [val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_cst_apply, val_main_cst_0_apply, val_main_cst_1_apply, Ideal.mulf_def,
    Ideal.addf_def, Ideal.hostDivf_def, Ideal.hostUnary_rsqrt_def, Ideal.ofBits_def, Ideal.ofBits_zero_f32, zero_add]
  have e1 : ∀ k : Fin 1024, idx_main_v4 (idx_main_v5 (idx_main_v11 (ix3 (bat R) (plc R) d))) k = ix3 (bat R) (plc R) k := by
    intro k; funext a; match a with
      | ⟨0, _⟩ => rfl
      | ⟨1, _⟩ => rfl
      | ⟨2, _⟩ => rfl
  have e2 : idx_main_v2 (idx_main_v13 (idx_main_v14 (ix3 (bat R) (plc R) d))) = ix2 0 d := by
    funext a; apply Fin.ext; match a with
      | ⟨0, _⟩ => rfl
      | ⟨1, _⟩ => exact Nat.mod_eq_of_lt d.isLt
  simp only [e1, e2, mix_apply]
  rfl

theorem reference_row (R : Fin 32768) (d : Fin 1024) : val_main_v17 (F := Ideal) x sb mm w g (ix2 R d) = arr x sb mm w g (ix2 R d) := by
  have l0 := R.isLt
  have l1 := d.isLt
  have e : idx_main_v17 (ix2 R d) = ix3 (bat R) (plc R) d := by
    funext a; apply Fin.ext; match a with
      | ⟨0, _⟩ => show (R.val * 1024 + d.val) / 2097152 = R.val / 2048; omega
      | ⟨1, _⟩ => show (R.val * 1024 + d.val) / 1024 % 2048 = R.val % 2048; omega
      | ⟨2, _⟩ => show (R.val * 1024 + d.val) % 1024 = d.val; omega
  rw [val_main_v17_apply, e, val_main_v16_apply, normed_apply]
  rfl

/-- The reference's array. -/
theorem reference : val_main_v17 (F := Ideal) x sb mm w g = arr x sb mm w g := by
  funext y
  have ey : (y : S32768x1024.Idx) = ix2 (y 0) (y 1) := eq_ix2 y
  exact (congrArg _ ey).trans ((reference_row x sb mm w g (y 0) (y 1)).trans (congrArg _ ey.symm))

end Reference

end Cert.MixOutProof

end
-- ==== Proof.MixASpec.lean ====
/- The first mixer's sub-layer in closed form over the extended reals. A row is `2048 * batch + place`. -/
module

public import proofs.«01_k».proof.Proof.FfnSpec

@[expose] public section

noncomputable section

namespace Cert.MixASpec

open Idealize.ShloMosaic Cert.FfnSpec

/-- What the sub-layer is given: the rows, the two gains, the input weights, the gate's gain, the segments' weights and
    biases, the memory's keys and values by batch, slot, head and lane, the output weights. -/
structure Par where
  X : ℕ → Fin 1024 → EReal
  g0 : Fin 1024 → EReal
  g1 : Fin 1024 → EReal
  Wi : Fin 1024 → Fin 1792 → EReal
  gv : Fin 768 → EReal
  ws : Fin 6 → Fin 128 → Fin 128 → EReal
  bs : Fin 6 → Fin 128 → EReal
  K : Fin 16 → Fin 256 → Fin 4 → Fin 64 → EReal
  V : Fin 16 → Fin 256 → Fin 4 → Fin 64 → EReal
  Wo : Fin 1024 → Fin 1024 → EReal

/-- A row of `768` over the root of its mean square, scaled by the gain. -/
def rms7 (f g : Fin 768 → EReal) (d : Fin 768) : EReal :=
  f d * Ideal.rsqrt (Ideal.div (∑ k, f k * f k) (Ideal.ofBits .f32 0x44400000#32) + Ideal.ofBits .f32 0x358637BD#32) * g d

/-- The weights of a row's soft maximum. -/
def soft (s : Fin 256 → EReal) (k : Fin 256) : EReal :=
  Ideal.div (Ideal.exp (s k - Finset.univ.fold max (Ideal.ofBits .f32 0xFF800000#32) s))
    (∑ k, Ideal.exp (s k - Finset.univ.fold max (Ideal.ofBits .f32 0xFF800000#32) s))

/-- A row's batch. -/
abbrev bt (R : ℕ) : Fin 16 := ⟨R / 2048 % 16, Nat.mod_lt _ (by decide)⟩

variable (p : Par) (R : ℕ)

/-- The normed row times the input weights. -/
def proj (n : Fin 1792) : EReal := ∑ d, rms (p.X R) p.g0 d * p.Wi d n

/-- The gate's two halves before the second's norm. -/
def uv (n : Fin 1536) : EReal := gelu (proj p R ⟨n.val, by omega⟩)

/-- The second half, normed. -/
def nv (n : Fin 768) : EReal := rms7 (fun k => uv p R ⟨768 + k.val, by omega⟩) p.gv n

/-- The first half times the second mixed along its segment up to the row's place, plus the bias. -/
def gate (n : Fin 768) : EReal :=
  uv p R ⟨n.val, by omega⟩ *
    ((∑ j : Fin 128, (if j.val ≤ R % 128 then p.ws ⟨n.val / 128, by omega⟩ ⟨R % 128, Nat.mod_lt _ (by decide)⟩ j else 0)
        * nv p (128 * (R / 128) + j.val) n)
      + p.bs ⟨n.val / 128, by omega⟩ ⟨R % 128, Nat.mod_lt _ (by decide)⟩)

/-- A head's scores over the memory's slots. -/
def score (h : Fin 4) (s : Fin 256) : EReal :=
  (∑ d : Fin 64, proj p R ⟨1536 + (64 * h.val + d.val), by omega⟩ * p.K (bt R) s h d) * Ideal.ofBits .f32 0x3E000000#32

/-- The memory's values under the heads' weights. -/
def mem (e : Fin 256) : EReal :=
  ∑ s, soft (score p R ⟨e.val / 64, by omega⟩) s * p.V (bt R) s ⟨e.val / 64, by omega⟩ ⟨e.val % 64, by omega⟩

/-- The gate's columns and the memory's times the output weights. -/
def mix (d : Fin 1024) : EReal :=
  (∑ k : Fin 768, gate p R k * p.Wo ⟨k.val, by omega⟩ d) + ∑ e : Fin 256, mem p R e * p.Wo ⟨768 + e.val, by omega⟩ d

/-- The row plus its normed mix. -/
def out (d : Fin 1024) : EReal := p.X R d + rms (mix p R) p.g1 d

/-- A sum over all lanes that only keeps one head's is the sum over that head's. -/
theorem sum_head (h : Fin 4) (f : Fin 256 → EReal) :
    (∑ k : Fin 256, if k.val / 64 = h.val then f k else 0) = ∑ d : Fin 64, f ⟨64 * h.val + d.val, by omega⟩ := by
  rw [← Finset.sum_filter]
  refine (Finset.sum_bij (fun (d : Fin 64) _ => (⟨64 * h.val + d.val, by omega⟩ : Fin 256)) (fun d _ => ?_) (fun a _ b _ e => ?_)
    (fun k hk => ?_) (fun d _ => rfl)).symm
  · rw [Finset.mem_filter]
    exact ⟨Finset.mem_univ _, by dsimp only; omega⟩
  · have := congrArg Fin.val e
    dsimp only at this
    exact Fin.ext (by omega)
  · rw [Finset.mem_filter] at hk
    exact ⟨⟨k.val % 64, by omega⟩, Finset.mem_univ _, Fin.ext (by dsimp only; omega)⟩

end Cert.MixASpec

end
-- ==== Proof.MixAPay.lean ====
/- The first mixer's payloads, entry by entry. -/
module

public import proofs.«01_k».proof.Proof.MixASpec
public import proofs.«01_k».proof.Proof.Gen.MixAIdeal.Skeleton
public import Idealize.ShloMosaic.Lib.WordCmp
public import Idealize.ShloMosaic.Lib.Pipeline.ValueKit
public import Idealize.ShloMosaic.Lib.Pipeline.ValueKit.Acc

@[expose] public section

set_option maxRecDepth 16384

noncomputable section

namespace Cert.MixAPay

open Cert.MixAIdeal Cert.MixAIdeal.Gen Idealize.ShloMosaic Idealize.ShloMosaic.TcCoe Cert.FfnSpec Cert.MixASpec

/-- The projection. -/
theorem proj_apply (x : S512x1024.Idx → EReal) (g : S1x1024.Idx → EReal) (w : S1024x1792.Idx → EReal) (r : Fin 512) (n : Fin 1792) :
    k0_pay3 (F := Ideal) x g w (ix2 r n)
      = ∑ d, rms (fun k => x (ix2 r k)) (fun k => g (ix2 0 k)) d * w (ix2 d n) := by
  unfold k0_pay3 k0_pay2 rms
  pointwise

/-- The activation's columns. -/
theorem uv_apply (x : S512x1024.Idx → EReal) (g : S1x1024.Idx → EReal) (w : S1024x1792.Idx → EReal) (r : Fin 512) (n : Fin 1536) :
    k0_pay4 (F := Ideal) x g w (ix2 r n) = gelu (k0_pay3 (F := Ideal) x g w (ix2 r ⟨n.val, by omega⟩)) := by
  have hn := n.isLt
  unfold k0_pay4 gelu
  generalize k0_pay3 (F := Ideal) x g w = P
  pointwise

theorem u_apply (x : S512x1024.Idx → EReal) (g : S1x1024.Idx → EReal) (w : S1024x1792.Idx → EReal) (r : Fin 512) (n : Fin 768) :
    k0_pay5 (F := Ideal) x g w (ix2 r n) = k0_pay4 (F := Ideal) x g w (ix2 r ⟨n.val, by omega⟩) := by
  have hn := n.isLt
  unfold k0_pay5
  generalize k0_pay4 (F := Ideal) x g w = P
  pointwise

theorem v_apply (x : S512x1024.Idx → EReal) (g : S1x1024.Idx → EReal) (w : S1024x1792.Idx → EReal) (r : Fin 512) (n : Fin 768) :
    k0_pay6 (F := Ideal) x g w (ix2 r n) = k0_pay4 (F := Ideal) x g w (ix2 r ⟨768 + n.val, by omega⟩) := by
  have hn := n.isLt
  unfold k0_pay6
  generalize k0_pay4 (F := Ideal) x g w = P
  pointwise

/-- The second half's norm. -/
theorem nv_apply (x : S512x1024.Idx → EReal) (g : S1x1024.Idx → EReal) (w : S1024x1792.Idx → EReal) (gv : S1x768.Idx → EReal)
    (r : Fin 512) (n : Fin 768) :
    k0_pay9 (F := Ideal) (k0_pay6 x g w) gv (k0_pay7 x g w) k0_pay8 (ix2 r n)
      = rms7 (fun k => k0_pay6 (F := Ideal) x g w (ix2 r k)) (fun k => gv (ix2 0 k)) n := by
  unfold k0_pay9 k0_pay7 k0_pay8 rms7
  generalize k0_pay6 (F := Ideal) x g w = P
  pointwise

/-- The segments' mask as the body makes it. -/
abbrev keep : IVec S128x128 1 := k0_pay13 (iota Kind.tc S128x128 32 [0] iota_S128x128_d0_w32)
  (iota Kind.tc S128x128 32 [1] iota_S128x128_d1_w32) k0_pay10 (128#32) k0_pay11 k0_pay12 1#32 0#1

/-- The mask keeps the columns up to the row. -/
theorem keep_apply (r c : Fin 128) : keep (ix2 r c) = if c.val ≤ r.val then 1#1 else 0#1 := by
  unfold keep k0_pay13 k0_pay10 k0_pay11 k0_pay12
  pointwise
  revert r c
  decide +kernel

/-- One tile of the gate: the printed operations with the tile's place. -/
def gateVec (o : Fin 2 → ℕ) (h : S512x768.Slices o S128x128) (u : FVec Ideal S512x768 .f32) (v : FVec Ideal S512x768 .bf16)
    (w b : FVec Ideal S1x128x128 .f32) : FVec Ideal S128x128 .bf16 :=
  shapeCast S128x128 (truncf .bf16 (mulf (extractStridedSlice S128x128 o u h)
    (addf (matmul dot_S128x128_S128x128_S128x128_1_0_0_1_n_n none
        (truncf .bf16 (select keep (shapeCast S128x128 w shapeCasts_S1x128x128_S128x128)
          (broadcast S128x128 (Scalar.ofBits .f32 0x00000000#32))) bitsLt_bf16_f32)
        (extractStridedSlice S128x128 o v h) (constant S128x128 .f32 0x00000000#32))
      (shapeCast S128x128 b shapeCasts_S1x128x128_S128x128))) bitsLt_bf16_f32) shapeCasts_S128x128_S128x128

theorem gateVec_apply (o0 o1 : ℕ) (h : S512x768.Slices ![o0, o1] S128x128) (h0 : o0 + 128 ≤ 512) (h1 : o1 + 128 ≤ 768)
    (u v : S512x768.Idx → EReal) (w b : S1x128x128.Idx → EReal) (r n : Fin 128) :
    (gateVec ![o0, o1] h u v w b : S128x128.Idx → EReal) (ix2 r n)
      = u (ix2 ⟨o0 + r.val, by omega⟩ ⟨o1 + n.val, by omega⟩) *
        ((∑ j : Fin 128, (if j.val ≤ r.val then w (ix3 0 r j) else 0) * v (ix2 ⟨o0 + j.val, by omega⟩ ⟨o1 + n.val, by omega⟩))
          + b (ix3 0 r n)) := by
  have hk (j : Fin 128) : Scalar.select (keep (ix2 r j)) (w (ix3 0 r j)) (0 : EReal) = if j.val ≤ r.val then w (ix3 0 r j) else 0 := by
    rw [keep_apply]; split <;> rfl
  simp only [← hk]
  unfold gateVec
  generalize keep = kp
  pointwise

/-- One head of the memory's attention: the printed operations with the head's number and the lanes' heads. -/
def headVec (j : BitVec 32) (q : FVec Ideal S512x256 .f32) (mk mv : FVec Ideal S256x256 .bf16) (lanes : IVec S512x256 32) : FVec Ideal S512x256 .f32 :=
  have s : FVec Ideal S512x256 .f32 := mulf (matmul dot_S512x256_S256x256_S512x256_1_0_0_1_n_n none
    (truncf .bf16 (select (cmpi .eq lanes (broadcast S512x256 j)) q (broadcast S512x256 (Scalar.ofBits .f32 0x00000000#32))) bitsLt_bf16_f32)
    mk (constant S512x256 .f32 0x00000000#32)) (broadcast S512x256 (Scalar.ofBits .f32 0x3E000000#32))
  have e : FVec Ideal S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  matmul dot_S512x256_S256x256_S512x256_1_1_0_0_n_n none (truncf .bf16 (divf e (broadcastTo S512x256 (shapeCast S512x1
    (multiReduction .add [1] S512 e 0x00000000#32 reduces_S512x256_S512 (.inl rfl) rfl) shapeCasts_S512_S512x1) broadcasts_S512x1_S512x256)) bitsLt_bf16_f32)
    mv (constant S512x256 .f32 0x00000000#32)

/-- A lane's head. -/
theorem lanes_apply (r : Fin 512) (k : Fin 256) : k0_pay55 (ix2 r k) = BitVec.ofNat 32 (k.val / 64) := by
  unfold k0_pay55
  pointwise
  revert k
  decide +kernel

/-- Whether a lane is a head's. -/
theorem lane_eq : ∀ (k : Fin 256) (h : Fin 4), IntOp.cmpi .eq (BitVec.ofNat 32 (k.val / 64)) (BitVec.ofNat 32 h.val)
    = if k.val / 64 = h.val then 1#1 else 0#1 := by decide +kernel

theorem sel (k : Fin 256) (h : Fin 4) (a b : EReal) :
    Scalar.select (IntOp.cmpi .eq (BitVec.ofNat 32 (k.val / 64)) (BitVec.ofNat 32 h.val)) a b = if k.val / 64 = h.val then a else b := by
  rw [lane_eq]; split <;> rfl

theorem headVec_lanes (j : BitVec 32) (q : S512x256.Idx → EReal) (mk mv : S256x256.Idx → EReal) (lanes : IVec S512x256 32) (r : Fin 512) (e : Fin 256) :
    (headVec j q mk mv lanes : S512x256.Idx → EReal) (ix2 r e)
      = ∑ s, soft (fun s => (∑ k : Fin 256, Scalar.select (IntOp.cmpi .eq (lanes (ix2 r k)) j) (q (ix2 r k) * mk (ix2 k s)) 0)
          * Ideal.ofBits .f32 0x3E000000#32) s * mv (ix2 e s) := by
  unfold headVec soft
  pointwise

/-- A head's entry: the values under the soft maximum of the head's own lanes. -/
theorem headVec_apply (h : Fin 4) (q : S512x256.Idx → EReal) (mk mv : S256x256.Idx → EReal) (r : Fin 512) (e : Fin 256) :
    (headVec (BitVec.ofNat 32 h.val) q mk mv k0_pay55 : S512x256.Idx → EReal) (ix2 r e)
      = ∑ s, soft (fun s => (∑ d : Fin 64, q (ix2 r ⟨64 * h.val + d.val, by omega⟩) * mk (ix2 ⟨64 * h.val + d.val, by omega⟩ s))
          * Ideal.ofBits .f32 0x3E000000#32) s * mv (ix2 e s) := by
  rw [headVec_lanes]
  simp only [lanes_apply, sel]
  refine Finset.sum_congr rfl fun s _ => congrArg (fun f => soft f s * _) (funext fun s => congrArg (· * _) ?_)
  exact sum_head h fun k => q (ix2 r k) * mk (ix2 k s)

/-- The heads put side by side by their lanes. -/
def attVec (q : FVec Ideal S512x256 .f32) (mk mv : FVec Ideal S256x256 .bf16) : FVec Ideal S512x256 .f32 :=
  select (cmpi .eq k0_pay55 (broadcast S512x256 3#32)) (headVec 3#32 q mk mv k0_pay55)
    (select (cmpi .eq k0_pay55 (broadcast S512x256 2#32)) (headVec 2#32 q mk mv k0_pay55)
      (select (cmpi .eq k0_pay55 (broadcast S512x256 1#32)) (headVec 1#32 q mk mv k0_pay55)
        (select (cmpi .eq k0_pay55 (broadcast S512x256 0#32)) (headVec 0#32 q mk mv k0_pay55)
          (broadcast S512x256 (Scalar.ofBits .f32 0x00000000#32)))))

theorem select_lanes (j : BitVec 32) (a b : S512x256.Idx → EReal) (r : Fin 512) (e : Fin 256) :
    (select (cmpi .eq k0_pay55 (broadcast S512x256 j)) a b : S512x256.Idx → EReal) (ix2 r e)
      = Scalar.select (IntOp.cmpi .eq (BitVec.ofNat 32 (e.val / 64)) j) (a (ix2 r e)) (b (ix2 r e)) := by
  rw [← lanes_apply r e]
  rfl

theorem attVec_apply (q : S512x256.Idx → EReal) (mk mv : S256x256.Idx → EReal) (r : Fin 512) (e : Fin 256) :
    (attVec q mk mv : S512x256.Idx → EReal) (ix2 r e)
      = ∑ s, soft (fun s => (∑ d : Fin 64, q (ix2 r ⟨64 * (e.val / 64) + d.val, by omega⟩) * mk (ix2 ⟨64 * (e.val / 64) + d.val, by omega⟩ s))
          * Ideal.ofBits .f32 0x3E000000#32) s * mv (ix2 e s) := by
  refine Eq.trans ?_ (headVec_apply ⟨e.val / 64, by omega⟩ q mk mv r e)
  unfold attVec
  rw [select_lanes, select_lanes, select_lanes, select_lanes]
  have s3 (a b : EReal) := sel e 3 a b
  have s2 (a b : EReal) := sel e 2 a b
  have s1 (a b : EReal) := sel e 1 a b
  have s0 (a b : EReal) := sel e 0 a b
  refine (s3 _ _).trans ?_
  have h4 : e.val / 64 = 0 ∨ e.val / 64 = 1 ∨ e.val / 64 = 2 ∨ e.val / 64 = 3 := by omega
  rcases h4 with h | h | h | h
  · rw [if_neg (by rw [h]; decide)]
    refine (s2 _ _).trans ?_
    rw [if_neg (by rw [h]; decide)]
    refine (s1 _ _).trans ?_
    rw [if_neg (by rw [h]; decide)]
    refine (s0 _ _).trans ?_
    rw [if_pos (by rw [h]; decide)]
    dsimp only; rw [h]
  · rw [if_neg (by rw [h]; decide)]
    refine (s2 _ _).trans ?_
    rw [if_neg (by rw [h]; decide)]
    refine (s1 _ _).trans ?_
    rw [if_pos (by rw [h]; decide)]
    dsimp only; rw [h]
  · rw [if_neg (by rw [h]; decide)]
    refine (s2 _ _).trans ?_
    rw [if_pos (by rw [h]; decide)]
    dsimp only; rw [h]
  · rw [if_pos (by rw [h]; decide)]
    dsimp only; rw [h]

/-- The two products with the output weights. -/
def mixVec (gt : FVec Ideal S512x768 .bf16) (at' : FVec Ideal S512x256 .f32) (wt : FVec Ideal S768x1024 .bf16) (wb : FVec Ideal S256x1024 .bf16) :
    FVec Ideal S512x1024 .f32 :=
  addf (matmul dot_S512x768_S768x1024_S512x1024_1_0_0_1_n_n none gt (shapeCast S768x1024 wt shapeCasts_S768x1024_S768x1024) (constant S512x1024 .f32 0x00000000#32))
    (matmul dot_S512x256_S256x1024_S512x1024_1_0_0_1_n_n none (truncf .bf16 at' bitsLt_bf16_f32) (shapeCast S256x1024 wb shapeCasts_S256x1024_S256x1024)
      (constant S512x1024 .f32 0x00000000#32))

theorem mixVec_apply (gt : S512x768.Idx → EReal) (at' : S512x256.Idx → EReal) (wt : S768x1024.Idx → EReal) (wb : S256x1024.Idx → EReal)
    (r : Fin 512) (d : Fin 1024) :
    (mixVec gt at' wt wb : S512x1024.Idx → EReal) (ix2 r d)
      = (∑ k : Fin 768, gt (ix2 r k) * wt (ix2 k d)) + ∑ e : Fin 256, at' (ix2 r e) * wb (ix2 e d) := by
  unfold mixVec
  pointwise

theorem pay63_eq (p : FVec Ideal S512x1792 .f32) (mk mv : Vec Ideal S256x256 .f32) (gt : Vec Ideal S512x768 .bf16)
    (wt : Vec Ideal S768x1024 .bf16) (wb : Vec Ideal S256x1024 .bf16) :
    k0_pay63 (F := Ideal) (k0_pay52 p) (k0_pay53 mk) (k0_pay54 mv) k0_pay55
      (k0_pay60 (k0_pay52 p) (k0_pay53 mk) (k0_pay54 mv) k0_pay55 k0_pay56 k0_pay57 (k0_pay58 p mk) (k0_pay59 p mk))
      (k0_pay61 k0_pay55) (k0_pay62 (k0_pay52 p) (k0_pay53 mk) (k0_pay54 mv) k0_pay55) gt wt wb
      = mixVec gt (attVec (k0_pay52 p) (k0_pay53 mk) (k0_pay54 mv)) wt wb := rfl

/-- The query's columns. -/
theorem q_apply (p : S512x1792.Idx → EReal) (r : Fin 512) (n : Fin 256) :
    k0_pay52 (F := Ideal) p (ix2 r n) = p (ix2 r ⟨1536 + n.val, by omega⟩) := by
  have hn := n.isLt
  unfold k0_pay52
  pointwise

theorem mk_apply (w : S256x256.Idx → EReal) (i j : Fin 256) : k0_pay53 (F := Ideal) w (ix2 i j) = w (ix2 i j) := by
  unfold k0_pay53
  pointwise

theorem mv_apply (w : S256x256.Idx → EReal) (i j : Fin 256) : k0_pay54 (F := Ideal) w (ix2 i j) = w (ix2 i j) := by
  unfold k0_pay54
  pointwise

/-- The last payload: the rows plus the normed mix. -/
theorem top_apply (x : S512x1024.Idx → EReal) (g : S1x1024.Idx → EReal) (q : FVec Ideal S512x256 .f32) (mk mv : FVec Ideal S256x256 .bf16)
    (l : IVec S512x256 32) (a : FVec Ideal S512x256 .f32) (b : IVec S512x256 1) (h : FVec Ideal S512x256 .f32) (gt : Vec Ideal S512x768 .bf16)
    (wt : Vec Ideal S768x1024 .bf16) (wb : Vec Ideal S256x1024 .bf16) (r : Fin 512) (d : Fin 1024) :
    k0_pay1 (F := Ideal) (k0_pay2 x) (k0_pay63 q mk mv l a b h gt wt wb) g (k0_pay64 q mk mv l a b h gt wt wb) (ix2 r d)
      = x (ix2 r d) + rms (fun d => (k0_pay63 (F := Ideal) q mk mv l a b h gt wt wb : S512x1024.Idx → EReal) (ix2 r d)) (fun k => g (ix2 0 k)) d := by
  unfold k0_pay64
  generalize k0_pay63 (F := Ideal) q mk mv l a b h gt wt wb = P
  unfold k0_pay1 k0_pay2 rms
  pointwise

/-- The sub-layer's parameters of the arguments. -/
def par (x : S16x2048x1024.Idx → EReal) (g0 g1 : S1x1024.Idx → EReal) (wi : S1024x1792.Idx → EReal) (gv : S1x768.Idx → EReal)
    (ws : S6x128x128.Idx → EReal) (bs : S6x128.Idx → EReal) (mk mv : S2x16x256x4x64.Idx → EReal) (wo : S1024x1024.Idx → EReal) : Par where
  X R d := x (ix3 (bt R) ⟨R % 2048, Nat.mod_lt _ (by decide)⟩ d)
  g0 k := g0 (ix2 0 k)
  g1 k := g1 (ix2 0 k)
  Wi k n := wi (ix2 k n)
  gv k := gv (ix2 0 k)
  ws h r j := ws (ix3 h r j)
  bs h r := bs (ix2 h r)
  K b s h d := mk (ix5 0 b s h d)
  V b s h d := mv (ix5 0 b s h d)
  Wo k d := wo (ix2 k d)

/-- The rows after the sub-layer, as one array. -/
def arr (p : Par) (y : S32768x1024.Idx) : EReal := out p (y 0).val (y 1)

end Cert.MixAPay

end
-- ==== Proof.MixAGrid.lean ====
/- The first mixer over its grid: what a point leaves in its block and the array the kernel leaves. -/
module

public import proofs.«01_k».proof.Proof.MixAPay
public import proofs.«01_k».proof.Proof.Gen.MixAIdeal.Value
public import Idealize.ShloMosaic.Lib.Pipeline.ValueKit
public import Idealize.ShloMosaic.Lib.Pipeline.ValueKit.Acc

@[expose] public section

set_option maxRecDepth 16384

noncomputable section

namespace Cert.MixAGrid

open Cert.MixAIdeal Cert.MixAIdeal.Gen Idealize.ShloMosaic Idealize.ShloMosaic.TcCoe Idealize.SL.Sem Cert.FfnSpec Cert.MixASpec Cert.MixAPay

variable (m : (ℓ : Loc nD τ sig) → Buf (Elt Ideal) ℓ) (c : Dev nD)

/-- The arguments a launch is given. -/
abbrev aX : S16x2048x1024.Idx → EReal := m ((c : Thread nD τ).loc main_arg0)
@[inherit_doc aX] abbrev aN0 : S1x1024.Idx → EReal := m ((c : Thread nD τ).loc main_arg1)
@[inherit_doc aX] abbrev aN1 : S1x1024.Idx → EReal := m ((c : Thread nD τ).loc main_arg2)
@[inherit_doc aX] abbrev aWi : S1024x1792.Idx → EReal := m ((c : Thread nD τ).loc main_arg3)
@[inherit_doc aX] abbrev aGv : S1x768.Idx → EReal := m ((c : Thread nD τ).loc main_arg4)
@[inherit_doc aX] abbrev aWs : S6x128x128.Idx → EReal := m ((c : Thread nD τ).loc main_arg5)
@[inherit_doc aX] abbrev aBs : S6x128.Idx → EReal := m ((c : Thread nD τ).loc main_arg6)
@[inherit_doc aX] abbrev aK : S2x16x256x4x64.Idx → EReal := m ((c : Thread nD τ).loc main_arg7)
@[inherit_doc aX] abbrev aV : S2x16x256x4x64.Idx → EReal := m ((c : Thread nD τ).loc main_arg8)
@[inherit_doc aX] abbrev aWo : S1024x1024.Idx → EReal := m ((c : Thread nD τ).loc main_arg9)

/-- The sub-layer's parameters at a launch. -/
abbrev P : Par := par (aX m c) (aN0 m c) (aN1 m c) (aWi m c) (aGv m c) (aWs m c) (aBs m c) (aK m c) (aV m c) (aWo m c)

/-- The windows' index maps: point `t` is rows `512 t` on, of batch `t / 4`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![t.val / 4, 0] ∧ win0_8.index t = ![t.val / 4, 0] ∧ win0_9.index t = ![0, 0] ∧ win0_10.index t = ![t.val, 0] ∧ t.val < 64 :=
  (by decide +kernel : ∀ t : Fin grid0.N, _)

theorem v_x (R : Fin 32768) (d : Fin 1024) : (V m c main_v2 : S32768x1024.Idx → EReal) (ix2 R d) = aX m c (ix3 ⟨R.val / 2048, by omega⟩ ⟨R.val % 2048, by omega⟩ d) := by
  have hr := R.isLt
  have hd := d.isLt
  unfold V
  simp only [hostOps0, List.flatten_cons, List.flatten_nil, List.append_nil, List.cons_append, List.nil_append]
  entry_read
  pointwise

theorem v_n0 : (V m c main_arg1 : S1x1024.Idx → EReal) = aN0 m c := by
  unfold V
  simp only [hostOps0, List.flatten_cons, List.flatten_nil, List.append_nil, List.cons_append, List.nil_append]
  entry_read
  rfl

theorem v_n1 : (V m c main_arg2 : S1x1024.Idx → EReal) = aN1 m c := by
  unfold V
  simp only [hostOps0, List.flatten_cons, List.flatten_nil, List.append_nil, List.cons_append, List.nil_append]
  entry_read
  rfl

theorem v_gv : (V m c main_arg4 : S1x768.Idx → EReal) = aGv m c := by
  unfold V
  simp only [hostOps0, List.flatten_cons, List.flatten_nil, List.append_nil, List.cons_append, List.nil_append]
  entry_read
  rfl

theorem v_ws : (V m c main_arg5 : S6x128x128.Idx → EReal) = aWs m c := by
  unfold V
  simp only [hostOps0, List.flatten_cons, List.flatten_nil, List.append_nil, List.cons_append, List.nil_append]
  entry_read
  rfl

theorem v_wi (k : Fin 1024) (d : Fin 1792) : (V m c main_v3 : S1024x1792.Idx → EReal) (ix2 k d) = aWi m c (ix2 k d) := by
  unfold V
  simp only [hostOps0, List.flatten_cons, List.flatten_nil, List.append_nil, List.cons_append, List.nil_append]
  entry_read
  pointwise

theorem v_wo (k d : Fin 1024) : (V m c main_v8 : S1024x1024.Idx → EReal) (ix2 k d) = aWo m c (ix2 k d) := by
  unfold V
  simp only [hostOps0, List.flatten_cons, List.flatten_nil, List.append_nil, List.cons_append, List.nil_append]
  entry_read
  pointwise

theorem v_bs (h : Fin 6) (r n : Fin 128) : (V m c main_v1 : S6x128x128.Idx → EReal) (ix3 h r n) = aBs m c (ix2 h r) := by
  unfold V
  simp only [hostOps0, List.flatten_cons, List.flatten_nil, List.append_nil, List.cons_append, List.nil_append]
  entry_read
  pointwise

theorem v_k (b : Fin 16) (h : Fin 4) (d : Fin 64) (s : Fin 256) : (V m c main_v5 : S8192x256.Idx → EReal) (ix2 ⟨256 * b.val + (64 * h.val + d.val), by omega⟩ s) = aK m c (ix5 0 b s h d) := by
  have hb := b.isLt
  have hh := h.isLt
  have hd := d.isLt
  have hs := s.isLt
  unfold V
  simp only [hostOps0, List.flatten_cons, List.flatten_nil, List.append_nil, List.cons_append, List.nil_append]
  entry_read
  pointwise
  exact congrArg (fun z => aK m c (ix5 z b s h d)) (Fin.ext (by show (256 * b.val + (64 * h.val + d.val)) / 4096 = 0; omega))

theorem v_v (b : Fin 16) (h : Fin 4) (d : Fin 64) (s : Fin 256) : (V m c main_v7 : S8192x256.Idx → EReal) (ix2 ⟨256 * b.val + (64 * h.val + d.val), by omega⟩ s) = aV m c (ix5 0 b s h d) := by
  have hb := b.isLt
  have hh := h.isLt
  have hd := d.isLt
  have hs := s.isLt
  unfold V
  simp only [hostOps0, List.flatten_cons, List.flatten_nil, List.append_nil, List.cons_append, List.nil_append]
  entry_read
  pointwise
  exact congrArg (fun z => aV m c (ix5 z b s h d)) (Fin.ext (by show (256 * b.val + (64 * h.val + d.val)) / 4096 = 0; omega))

variable (t : Fin cfg0.N)

theorem lt64 : t.val < 64 := (idx t).2.2.2.2.2.2.2.2.2.2.2

/-- A point's row among all. -/
abbrev row (r : Fin 512) : Fin 32768 := ⟨512 * t.val + r.val, by have := lt64 t; omega⟩

/-- A point's blocks. -/
abbrev bX : S512x1024.Idx → EReal := iblk m c 0 t
@[inherit_doc bX] abbrev bN0 : S1x1024.Idx → EReal := iblk m c 1 t
@[inherit_doc bX] abbrev bN1 : S1x1024.Idx → EReal := iblk m c 2 t
@[inherit_doc bX] abbrev bWi : S1024x1792.Idx → EReal := iblk m c 3 t
@[inherit_doc bX] abbrev bGv : S1x768.Idx → EReal := iblk m c 4 t
@[inherit_doc bX] abbrev bWs : S6x128x128.Idx → EReal := iblk m c 5 t
@[inherit_doc bX] abbrev bBs : S6x128x128.Idx → EReal := iblk m c 6 t
@[inherit_doc bX] abbrev bK : S256x256.Idx → EReal := iblk m c 7 t
@[inherit_doc bX] abbrev bV : S256x256.Idx → EReal := iblk m c 8 t
@[inherit_doc bX] abbrev bWo : S1024x1024.Idx → EReal := iblk m c 9 t

theorem bX_apply (r : Fin 512) (d : Fin 1024) : bX m c t (ix2 r d) = (P m c).X (512 * t.val + r.val) d := by
  obtain ⟨e, -⟩ := idx t
  have h : (P m c).X (512 * t.val + r.val) d = aX m c (ix3 ⟨(row t r).val / 2048, by omega⟩ ⟨(row t r).val % 2048, by omega⟩ d) := by
    show aX m c (ix3 (bt _) _ d) = _
    refine congrArg (fun b => aX m c (ix3 b _ d)) (Fin.ext ?_)
    have := lt64 t
    dsimp only; omega
  rw [h, ← v_x]
  unfold bX
  blk_ext [iblk, e]

theorem bN0_apply (d : Fin 1024) : bN0 m c t (ix2 0 d) = aN0 m c (ix2 0 d) := by
  obtain ⟨-, e, -⟩ := idx t
  rw [← v_n0]
  unfold bN0
  blk_ext [iblk, e]

theorem bN1_apply (d : Fin 1024) : bN1 m c t (ix2 0 d) = aN1 m c (ix2 0 d) := by
  obtain ⟨-, -, e, -⟩ := idx t
  rw [← v_n1]
  unfold bN1
  blk_ext [iblk, e]

theorem bWi_apply (k : Fin 1024) (d : Fin 1792) : bWi m c t (ix2 k d) = aWi m c (ix2 k d) := by
  obtain ⟨-, -, -, e, -⟩ := idx t
  rw [← v_wi]
  unfold bWi
  blk_ext [iblk, e]

theorem bGv_apply (d : Fin 768) : bGv m c t (ix2 0 d) = aGv m c (ix2 0 d) := by
  obtain ⟨-, -, -, -, e, -⟩ := idx t
  rw [← v_gv]
  unfold bGv
  blk_ext [iblk, e]

theorem bWs_apply (h : Fin 6) (r n : Fin 128) : bWs m c t (ix3 h r n) = aWs m c (ix3 h r n) := by
  obtain ⟨-, -, -, -, -, e, -⟩ := idx t
  rw [← v_ws]
  unfold bWs
  blk_ext [iblk, e]

theorem bBs_apply (h : Fin 6) (r n : Fin 128) : bBs m c t (ix3 h r n) = aBs m c (ix2 h r) := by
  obtain ⟨-, -, -, -, -, -, e, -⟩ := idx t
  rw [← v_bs m c h r n]
  unfold bBs
  blk_ext [iblk, e]

theorem bK_apply (h : Fin 4) (d : Fin 64) (s : Fin 256) :
    bK m c t (ix2 ⟨64 * h.val + d.val, by omega⟩ s) = aK m c (ix5 0 ⟨t.val / 4, by have := lt64 t; omega⟩ s h d) := by
  obtain ⟨-, -, -, -, -, -, -, e, -⟩ := idx t
  have ht := lt64 t
  rw [← v_k]
  unfold bK
  blk_ext [iblk, e]

theorem bV_apply (h : Fin 4) (d : Fin 64) (s : Fin 256) :
    bV m c t (ix2 ⟨64 * h.val + d.val, by omega⟩ s) = aV m c (ix5 0 ⟨t.val / 4, by have := lt64 t; omega⟩ s h d) := by
  obtain ⟨-, -, -, -, -, -, -, -, e, -⟩ := idx t
  have ht := lt64 t
  rw [← v_v]
  unfold bV
  blk_ext [iblk, e]

theorem bWo_apply (k d : Fin 1024) : bWo m c t (ix2 k d) = aWo m c (ix2 k d) := by
  obtain ⟨-, -, -, -, -, -, -, -, -, e, -⟩ := idx t
  rw [← v_wo]
  unfold bWo
  blk_ext [iblk, e]

/-- The block's projection is the rows'. -/
theorem pay_proj (r : Fin 512) (n : Fin 1792) :
    k0_pay3 (F := Ideal) (bX m c t) (bN0 m c t) (bWi m c t) (ix2 r n) = proj (P m c) (512 * t.val + r.val) n := by
  rw [proj_apply]
  simp only [bX_apply, bN0_apply, bWi_apply]
  rfl

theorem pay_uv (r : Fin 512) (n : Fin 1536) :
    k0_pay4 (F := Ideal) (bX m c t) (bN0 m c t) (bWi m c t) (ix2 r n) = uv (P m c) (512 * t.val + r.val) n := by
  rw [uv_apply, pay_proj]
  rfl

theorem pay_u (r : Fin 512) (n : Fin 768) :
    k0_pay5 (F := Ideal) (bX m c t) (bN0 m c t) (bWi m c t) (ix2 r n) = uv (P m c) (512 * t.val + r.val) ⟨n.val, by omega⟩ := by
  rw [u_apply, pay_uv]

theorem pay_nv (r : Fin 512) (n : Fin 768) :
    k0_pay9 (F := Ideal) (k0_pay6 (bX m c t) (bN0 m c t) (bWi m c t)) (bGv m c t) (k0_pay7 (bX m c t) (bN0 m c t) (bWi m c t)) k0_pay8 (ix2 r n)
      = nv (P m c) (512 * t.val + r.val) n := by
  rw [nv_apply]
  simp only [v_apply, pay_uv, bGv_apply]
  rfl

/-- A point's gate, whole. -/
def gateArr (y : S512x768.Idx) : EReal := gate (P m c) (512 * t.val + (y 0).val) (y 1)

/-- One segment's weights, or biases, read from the block. -/
theorem ld_seg (w : S6x128x128.Idx → EReal) (b : ℕ) (hb : b < 6) (inb : ∀ a, (![b, 0, 0] : Fin 3 → ℕ) a + (![1, 128, 128] : Fin 3 → ℕ) a ≤ S6x128x128.size a)
    (r j : Fin 128) :
    (View.ld (Val := Elt Ideal) (e' := .f32) w (Rect.unit ![b, 0, 0] ![1, 128, 128] inb) : S1x128x128.Idx → EReal) (ix3 0 r j)
      = w (ix3 ⟨b, hb⟩ r j) := by
  refine congrArg w ?_
  funext a; apply Fin.ext; match a with
    | ⟨0, _⟩ => show b + 1 * 0 = b; omega
    | ⟨1, _⟩ => show 0 + 1 * r.val = r.val; omega
    | ⟨2, _⟩ => show 0 + 1 * j.val = j.val; omega

/-- One tile stored is the gate's there. -/
theorem tile (a b : ℕ) (ha : a < 4) (hb : b < 6) (h : S512x768.Slices ![128 * a, 128 * b] S128x128)
    (inw : ∀ x, (![b, 0, 0] : Fin 3 → ℕ) x + (![1, 128, 128] : Fin 3 → ℕ) x ≤ S6x128x128.size x)
    (inb : ∀ x, (![128 * a, 128 * b] : Fin 2 → ℕ) x + (![128, 128] : Fin 2 → ℕ) x ≤ S512x768.size x)
    (W : S128x128.Idx → EReal)
    (hW : W = gateVec ![128 * a, 128 * b] h (k0_pay5 (bX m c t) (bN0 m c t) (bWi m c t))
      (k0_pay9 (k0_pay6 (bX m c t) (bN0 m c t) (bWi m c t)) (bGv m c t) (k0_pay7 (bX m c t) (bN0 m c t) (bWi m c t)) k0_pay8)
      (View.ld (Val := Elt Ideal) (e' := .f32) (bWs m c t) (Rect.unit ![b, 0, 0] ![1, 128, 128] inw))
      (View.ld (Val := Elt Ideal) (e' := .f32) (bBs m c t) (Rect.unit ![b, 0, 0] ![1, 128, 128] inw)))
    (x : S128x128.Idx) : W x = gateArr m c t ((Rect.unit ![128 * a, 128 * b] ![128, 128] inb : Rect S512x768).emb x) := by
  have lr : (x 0).val < 128 := (x 0).isLt
  have ln : (x 1).val < 128 := (x 1).isLt
  have ex : x = ix2 (⟨(x 0).val, lr⟩ : Fin 128) (⟨(x 1).val, ln⟩ : Fin 128) := eq_ix2 x
  generalize (⟨(x 0).val, lr⟩ : Fin 128) = r at ex
  generalize (⟨(x 1).val, ln⟩ : Fin 128) = n at ex
  subst ex
  have hr := r.isLt
  have hn := n.isLt
  have ee : (Rect.unit ![128 * a, 128 * b] ![128, 128] inb : Rect S512x768).emb (ix2 r n)
      = ix2 (⟨128 * a + r.val, by omega⟩ : Fin 512) (⟨128 * b + n.val, by omega⟩ : Fin 768) := by
    funext i; apply Fin.ext; match i with
      | ⟨0, _⟩ => show 128 * a + 1 * r.val = 128 * a + r.val; omega
      | ⟨1, _⟩ => show 128 * b + 1 * n.val = 128 * b + n.val; omega
  rw [ee, hW, gateVec_apply _ _ h (by omega) (by omega)]
  simp only [pay_u, pay_nv]
  have hs (j : Fin 128) := (ld_seg (bWs m c t) b hb inw r j).trans (bWs_apply m c t ⟨b, hb⟩ r j)
  have hbi := (ld_seg (bBs m c t) b hb inw r n).trans (bBs_apply m c t ⟨b, hb⟩ r n)
  show _ = gate (P m c) (512 * t.val + (128 * a + r.val)) (⟨128 * b + n.val, by omega⟩ : Fin 768)
  unfold gate
  have em : (512 * t.val + (128 * a + r.val)) % 128 = r.val := by omega
  have ed (j : Fin 128) : 128 * ((512 * t.val + (128 * a + r.val)) / 128) + j.val = 512 * t.val + (128 * a + j.val) := by omega
  have en : (128 * b + n.val) / 128 = b := by omega
  refine congrArg₂ (· * ·) rfl (congrArg₂ (· + ·) (Finset.sum_congr rfl fun j _ => congrArg₂ (· * ·) ?_ ?_) ?_)
  · rw [hs]
    dsimp only
    simp only [em, en]
    rfl
  · rw [ed]
  · refine hbi.trans ?_
    dsimp only
    simp only [em, en]
    rfl

theorem ld_top (w : S1024x1024.Idx → EReal) (inb : ∀ a, (![0, 0] : Fin 2 → ℕ) a + (![768, 1024] : Fin 2 → ℕ) a ≤ S1024x1024.size a) (k : Fin 768) (d : Fin 1024) :
    (View.ld (Val := Elt Ideal) (e' := .bf16) w (Rect.unit ![0, 0] ![768, 1024] inb) : S768x1024.Idx → EReal) (ix2 k d) = w (ix2 ⟨k.val, by omega⟩ d) := by
  refine congrArg w ?_
  funext a; apply Fin.ext; match a with
    | ⟨0, _⟩ => show 0 + 1 * k.val = k.val; omega
    | ⟨1, _⟩ => show 0 + 1 * d.val = d.val; omega

theorem ld_bottom (w : S1024x1024.Idx → EReal) (inb : ∀ a, (![768, 0] : Fin 2 → ℕ) a + (![256, 1024] : Fin 2 → ℕ) a ≤ S1024x1024.size a) (k : Fin 256) (d : Fin 1024) :
    (View.ld (Val := Elt Ideal) (e' := .bf16) w (Rect.unit ![768, 0] ![256, 1024] inb) : S256x1024.Idx → EReal) (ix2 k d) = w (ix2 ⟨768 + k.val, by omega⟩ d) := by
  refine congrArg w ?_
  funext a; apply Fin.ext; match a with
    | ⟨0, _⟩ => show 768 + 1 * k.val = 768 + k.val; omega
    | ⟨1, _⟩ => show 0 + 1 * d.val = d.val; omega

/-- The memory's attention of a block. -/
theorem pay_mem (r : Fin 512) (e : Fin 256) :
    (attVec (k0_pay52 (k0_pay3 (F := Ideal) (bX m c t) (bN0 m c t) (bWi m c t))) (k0_pay53 (F := Ideal) (bK m c t)) (k0_pay54 (F := Ideal) (bV m c t)) : S512x256.Idx → EReal) (ix2 r e)
      = mem (P m c) (512 * t.val + r.val) e := by
  have ht := lt64 t
  have hb : (⟨t.val / 4, by omega⟩ : Fin 16) = bt (512 * t.val + r.val) := Fin.ext (by dsimp only; omega)
  refine (attVec_apply _ _ _ r e).trans ?_
  unfold mem score
  refine Finset.sum_congr rfl fun s _ => congrArg₂ (· * ·)
    (congrArg (fun f => soft f s) (funext fun s => congrArg (· * _) (Finset.sum_congr rfl fun d _ => congrArg₂ (· * ·) ?_ ?_))) ?_
  · rw [q_apply, pay_proj]
  · rw [mk_apply]
    exact (bK_apply m c t ⟨e.val / 64, by omega⟩ d s).trans (congrArg (fun b => aK m c (ix5 0 b s ⟨e.val / 64, by omega⟩ d)) hb)
  · rw [mv_apply]
    have he : e = ⟨64 * (⟨e.val / 64, by omega⟩ : Fin 4).val + (⟨e.val % 64, by omega⟩ : Fin 64).val, by dsimp only; omega⟩ := Fin.ext (by dsimp only; omega)
    refine (congrArg (fun e => bV m c t (ix2 e s)) he).trans ?_
    exact (bV_apply m c t ⟨e.val / 64, by omega⟩ ⟨e.val % 64, by omega⟩ s).trans
      (congrArg (fun b => aV m c (ix5 0 b s ⟨e.val / 64, by omega⟩ ⟨e.val % 64, by omega⟩)) hb)

/-- The block's mix, given the gate. -/
theorem pay_mix (gt : S512x768.Idx → EReal) (hg : gt = gateArr m c t)
    (in0 : ∀ a, (![0, 0] : Fin 2 → ℕ) a + (![768, 1024] : Fin 2 → ℕ) a ≤ S1024x1024.size a)
    (in1 : ∀ a, (![768, 0] : Fin 2 → ℕ) a + (![256, 1024] : Fin 2 → ℕ) a ≤ S1024x1024.size a) (r : Fin 512) (d : Fin 1024) :
    (mixVec gt (attVec (k0_pay52 (k0_pay3 (F := Ideal) (bX m c t) (bN0 m c t) (bWi m c t))) (k0_pay53 (F := Ideal) (bK m c t)) (k0_pay54 (F := Ideal) (bV m c t)))
      (View.ld (Val := Elt Ideal) (e' := .bf16) (bWo m c t) (Rect.unit ![0, 0] ![768, 1024] in0))
      (View.ld (Val := Elt Ideal) (e' := .bf16) (bWo m c t) (Rect.unit ![768, 0] ![256, 1024] in1)) : S512x1024.Idx → EReal) (ix2 r d)
      = mix (P m c) (512 * t.val + r.val) d := by
  subst hg
  refine (mixVec_apply _ _ _ _ r d).trans ?_
  unfold mix
  refine congrArg₂ (· + ·) (Finset.sum_congr rfl fun k _ => congrArg₂ (· * ·) rfl ?_) (Finset.sum_congr rfl fun e _ => congrArg₂ (· * ·) (pay_mem m c t r e) ?_)
  · exact (ld_top (bWo m c t) in0 k d).trans (bWo_apply m c t _ d)
  · exact (ld_bottom (bWo m c t) in1 e d).trans (bWo_apply m c t _ d)

/-- Tiles stored one after another, each a part of one array. -/
theorem pieces_cons (G : S512x768.Idx → EReal) (q : View.Piece (Elt Ideal) S512x768 .bf16) (L : List (View.Piece (Elt Ideal) S512x768 .bf16))
    (hq : ∀ x, q.2 x = G (q.1.emb x)) (hL : ∀ p ∈ L, ∀ x : p.1.shape.Idx, p.2 x = G (p.1.emb x)) :
    ∀ p ∈ q :: L, ∀ x : p.1.shape.Idx, p.2 x = G (p.1.emb x) :=
  List.forall_mem_cons.2 ⟨hq, hL⟩

/-- What a point leaves in its block. -/
theorem point (r : Fin 512) (d : Fin 1024) :
    (outsAt0 m c t : S512x1024.Idx → EReal) (ix2 r d) = MixAPay.arr (P m c) (ix2 (row t r) d) := by
  unfold outsAt0
  frame_out
  refine (top_apply (bX m c t) (bN1 m c t) _ _ _ _ _ _ _ _ _ _ r d).trans ?_
  show _ = MixASpec.out (P m c) (512 * t.val + r.val) d
  unfold MixASpec.out
  refine congrArg₂ (· + ·) (bX_apply m c t r d) ?_
  simp only [bN1_apply]
  refine congrArg (fun f => rms f _ d) (funext fun d => ?_)
  refine (congrFun (pay63_eq _ (bK m c t) (bV m c t) _ _ _) (ix2 r d)).trans ?_
  refine pay_mix m c t _ ?_ _ _ r d
  rw [View.readCov_eq_canon']
  funext y
  refine (View.canon_apply_of_pieces (gateArr m c t) _ ?_ _ ?_).trans (congrArg (gateArr m c t) (funext fun a => Fin.ext ?_))
  rotate_left
  · exact View.cover_of_tiledL (s := S512x768) _ ![128, 128] (by sl_kernel_rfl) _
  · match a with
    | ⟨0, _⟩ => show 0 + 1 * (y 0).val = (y 0).val; omega
    | ⟨1, _⟩ => show 0 + 1 * (y 1).val = (y 1).val; omega
  refine pieces_cons _ _ _ (tile m c t 3 5 (by decide) (by decide) _ _ (by decide) _ rfl) ?_
  refine pieces_cons _ _ _ (tile m c t 2 5 (by decide) (by decide) _ _ (by decide) _ rfl) ?_
  refine pieces_cons _ _ _ (tile m c t 1 5 (by decide) (by decide) _ _ (by decide) _ rfl) ?_
  refine pieces_cons _ _ _ (tile m c t 0 5 (by decide) (by decide) _ _ (by decide) _ rfl) ?_
  refine pieces_cons _ _ _ (tile m c t 3 4 (by decide) (by decide) _ _ (by decide) _ rfl) ?_
  refine pieces_cons _ _ _ (tile m c t 2 4 (by decide) (by decide) _ _ (by decide) _ rfl) ?_
  refine pieces_cons _ _ _ (tile m c t 1 4 (by decide) (by decide) _ _ (by decide) _ rfl) ?_
  refine pieces_cons _ _ _ (tile m c t 0 4 (by decide) (by decide) _ _ (by decide) _ rfl) ?_
  refine pieces_cons _ _ _ (tile m c t 3 3 (by decide) (by decide) _ _ (by decide) _ rfl) ?_
  refine pieces_cons _ _ _ (tile m c t 2 3 (by decide) (by decide) _ _ (by decide) _ rfl) ?_
  refine pieces_cons _ _ _ (tile m c t 1 3 (by decide) (by decide) _ _ (by decide) _ rfl) ?_
  refine pieces_cons _ _ _ (tile m c t 0 3 (by decide) (by decide) _ _ (by decide) _ rfl) ?_
  refine pieces_cons _ _ _ (tile m c t 3 2 (by decide) (by decide) _ _ (by decide) _ rfl) ?_
  refine pieces_cons _ _ _ (tile m c t 2 2 (by decide) (by decide) _ _ (by decide) _ rfl) ?_
  refine pieces_cons _ _ _ (tile m c t 1 2 (by decide) (by decide) _ _ (by decide) _ rfl) ?_
  refine pieces_cons _ _ _ (tile m c t 0 2 (by decide) (by decide) _ _ (by decide) _ rfl) ?_
  refine pieces_cons _ _ _ (tile m c t 3 1 (by decide) (by decide) _ _ (by decide) _ rfl) ?_
  refine pieces_cons _ _ _ (tile m c t 2 1 (by decide) (by decide) _ _ (by decide) _ rfl) ?_
  refine pieces_cons _ _ _ (tile m c t 1 1 (by decide) (by decide) _ _ (by decide) _ rfl) ?_
  refine pieces_cons _ _ _ (tile m c t 0 1 (by decide) (by decide) _ _ (by decide) _ rfl) ?_
  refine pieces_cons _ _ _ (tile m c t 3 0 (by decide) (by decide) _ _ (by decide) _ rfl) ?_
  refine pieces_cons _ _ _ (tile m c t 2 0 (by decide) (by decide) _ _ (by decide) _ rfl) ?_
  refine pieces_cons _ _ _ (tile m c t 1 0 (by decide) (by decide) _ _ (by decide) _ rfl) ?_
  refine pieces_cons _ _ _ (tile m c t 0 0 (by decide) (by decide) _ _ (by decide) _ rfl) ?_
  exact fun _ h => absurd h List.not_mem_nil

/-- The kernel's array. -/
theorem result : (dats m 0 c).arrAt 10 cfg0.N = MixAPay.arr (P m c) := by
  refine (dats m 0 c).arrAt_eq_of_covers 10 _ (by decide +kernel) fun t hf y => ?_
  obtain ⟨-, -, -, -, -, -, -, -, -, -, e, ht⟩ := idx t
  have h0 : ((((cfg0.win 10).blk t).view.emb y) 0 : ℕ) = t.val * 512 + (y 0).val := by blk_simp [e]
  have h1 : ((((cfg0.win 10).blk t).view.emb y) 1 : ℕ) = (y 1).val := by blk_simp [e]
  have l0 : (y 0).val < 512 := (y 0).isLt
  have l1 : (y 1).val < 1024 := (y 1).isLt
  blk_simp
  rw [after0_10]
  have ey : (y : S512x1024.Idx) = ix2 (⟨(y 0).val, l0⟩ : Fin 512) (⟨(y 1).val, l1⟩ : Fin 1024) := eq_ix2 _
  refine ((congrArg _ ey).trans (point m c t ⟨(y 0).val, l0⟩ ⟨(y 1).val, l1⟩)).trans ?_
  refine congrArg _ ?_
  funext a; apply Fin.ext; match a with
    | ⟨0, _⟩ => show 512 * t.val + (y 0).val = _; rw [Nat.mul_comm]; exact h0.symm
    | ⟨1, _⟩ => exact h1.symm

end Cert.MixAGrid

end
-- ==== Proof.MixARef.lean ====
/- The first mixer's reference, entry by entry: it is the sub-layer's closed form. -/
module

public import proofs.«01_k».proof.Proof.MixAPay
public import proofs.«01_k».proof.Proof.Gen.MixAReferenceIdeal.Read
public import Idealize.ShloMosaic.Lib.Pipeline.ValueKit

@[expose] public section

set_option maxRecDepth 16384

noncomputable section

namespace Cert.MixARef

open Cert.MixAIdeal Idealize.ShloMosaic Idealize.ShloMosaic.TcCoe Cert.FfnSpec Cert.MixASpec Cert.MixAReferenceIdeal.Read

variable (x0 : S16x2048x1024.Idx → EReal) (x1 x2 : S1x1024.Idx → EReal) (x3 : S1024x1792.Idx → EReal) (x4 : S1x768.Idx → EReal)
  (x5 : S6x128x128.Idx → EReal) (x6 : S6x128.Idx → EReal) (x7 x8 : S2x16x256x4x64.Idx → EReal) (x9 : S1024x1024.Idx → EReal)

/-- The sub-layer's parameters. -/

theorem x_apply (b : Fin 16) (s : Fin 2048) (d : Fin 1024) : (MixAPay.par x0 x1 x2 x3 x4 x5 x6 x7 x8 x9).X (2048 * b.val + s.val) d = x0 (ix3 b s d) := by
  have e0 : bt (2048 * b.val + s.val) = b := Fin.ext (by dsimp only; omega)
  have e1 : (⟨(2048 * b.val + s.val) % 2048, Nat.mod_lt _ (by decide)⟩ : Fin 2048) = s := Fin.ext (by dsimp only; omega)
  exact congrArg₂ (fun b s => x0 (ix3 b s d)) e0 e1

/-- The first norm. -/
theorem normed_apply (b : Fin 16) (s : Fin 2048) (d : Fin 1024) :
    val_main_v13 (F := Ideal) x0 x1 (ix3 b s d) = rms (fun k => x0 (ix3 b s k)) (fun k => x1 (ix2 0 k)) d := by
  have hd := d.isLt
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

theorem proj_apply (b : Fin 16) (s : Fin 2048) (n : Fin 1792) :
    val_main_v14 (F := Ideal) x0 x1 x3 (ix3 b s n) = proj (MixAPay.par x0 x1 x2 x3 x4 x5 x6 x7 x8 x9) (2048 * b.val + s.val) n := by
  have h : val_main_v14 (F := Ideal) x0 x1 x3 (ix3 b s n) = ∑ d : Fin 1024, val_main_v13 (F := Ideal) x0 x1 (ix3 b s d) * x3 (ix2 d n) := by
    unfold val_main_v14
    generalize val_main_v13 (F := Ideal) x0 x1 = y
    pointwise
  rw [h]
  simp only [normed_apply]
  unfold proj
  refine Finset.sum_congr rfl fun d _ => congrArg (· * _) ?_
  exact congrArg (fun f => rms f _ d) (funext fun k => (x_apply x0 x1 x2 x3 x4 x5 x6 x7 x8 x9 b s k).symm)

/-- The activation. -/
theorem uv_apply (b : Fin 16) (s : Fin 2048) (n : Fin 1536) :
    val_main_v28 (F := Ideal) x0 x1 x3 (ix3 b s n) = uv (MixAPay.par x0 x1 x2 x3 x4 x5 x6 x7 x8 x9) (2048 * b.val + s.val) n := by
  have hn := n.isLt
  have h : val_main_v28 (F := Ideal) x0 x1 x3 (ix3 b s n) = gelu (val_main_v14 (F := Ideal) x0 x1 x3 (ix3 b s ⟨n.val, by omega⟩)) := by
    unfold val_main_v28 val_main_v27 val_main_v26 val_main_v25 val_main_v24 val_main_v23 val_main_v22 val_main_v21 val_main_v20 val_main_v19
      val_main_v18 val_main_v17 val_main_v16 val_main_v15 val_main_cst_2 val_main_cst_3 val_main_cst_4 val_main_cst_5 gelu
    generalize val_main_v14 (F := Ideal) x0 x1 x3 = y
    pointwise
    have e (c : EReal) : c * c * c = c * (c * c) := mul_comm _ _
    simp only [e]
  rw [h, proj_apply x0 x1 x2 x3 x4 x5 x6 x7 x8 x9]
  rfl

theorem u_apply (b : Fin 16) (s : Fin 2048) (n : Fin 768) :
    val_main_v29 (F := Ideal) x0 x1 x3 (ix3 b s n) = uv (MixAPay.par x0 x1 x2 x3 x4 x5 x6 x7 x8 x9) (2048 * b.val + s.val) ⟨n.val, by omega⟩ := by
  have hn := n.isLt
  rw [← uv_apply]
  unfold val_main_v29
  generalize val_main_v28 (F := Ideal) x0 x1 x3 = y
  pointwise

theorem v_apply (b : Fin 16) (s : Fin 2048) (n : Fin 768) :
    val_main_v30 (F := Ideal) x0 x1 x3 (ix3 b s n) = uv (MixAPay.par x0 x1 x2 x3 x4 x5 x6 x7 x8 x9) (2048 * b.val + s.val) ⟨768 + n.val, by omega⟩ := by
  have hn := n.isLt
  rw [← uv_apply]
  unfold val_main_v30
  generalize val_main_v28 (F := Ideal) x0 x1 x3 = y
  pointwise

/-- The second half's norm. -/
theorem nv_apply (b : Fin 16) (s : Fin 2048) (n : Fin 768) :
    val_main_v44 (F := Ideal) x0 x1 x3 x4 (ix3 b s n) = nv (MixAPay.par x0 x1 x2 x3 x4 x5 x6 x7 x8 x9) (2048 * b.val + s.val) n := by
  have hn := n.isLt
  have h : val_main_v44 (F := Ideal) x0 x1 x3 x4 (ix3 b s n)
      = rms7 (fun k => val_main_v30 (F := Ideal) x0 x1 x3 (ix3 b s k)) (fun k => x4 (ix2 0 k)) n := by
    unfold val_main_v44 val_main_v43 val_main_v42 val_main_v41 val_main_v40 val_main_v39 val_main_v38 val_main_v37 val_main_v36 val_main_v35
      val_main_v34 val_main_v33 val_main_v32 val_main_v31 val_main_cst_6 val_main_cst_7 val_main_cst_8 rms7
    generalize val_main_v30 (F := Ideal) x0 x1 x3 = y
    pointwise
  rw [h]
  simp only [v_apply x0 x1 x2 x3 x4 x5 x6 x7 x8 x9]
  rfl

/-- The masked segments' weights. -/
theorem ws_apply (h : Fin 6) (r j : Fin 128) :
    val_main_v55 (F := Ideal) x5 (ix3 h r j) = if j.val ≤ r.val then x5 (ix3 h r j) else 0 := by
  have hm : ∀ r j : Fin 128, IntOp.cmpi .sle (BitVec.ofNat 32 j.val) (BitVec.ofNat 32 r.val) = if j.val ≤ r.val then 1#1 else 0#1 := by
    decide +kernel
  have h0 : val_main_v55 (F := Ideal) x5 (ix3 h r j)
      = Scalar.select (IntOp.cmpi .sle (BitVec.ofNat 32 j.val) (BitVec.ofNat 32 r.val)) (x5 (ix3 h r j)) 0 := by
    unfold val_main_v55 val_main_call0_v0 val_main_v54 val_main_v53 val_main_v52 val_main_v51 val_main_v50 val_main_v49 val_main_v48
      val_main_v47 val_main_v46 val_main_cst_9
    pointwise
  rw [h0, hm]
  split <;> rfl

/-- The segments' mix. -/
theorem seg_apply (b C : Fin 16) (r : Fin 128) (h : Fin 6) (l : Fin 128) :
    val_main_v61 (F := Ideal) x0 x1 x3 x4 x5 x6 (ix5 b C r h l)
      = (∑ j : Fin 128, (if j.val ≤ r.val then x5 (ix3 h r j) else 0)
          * val_main_v44 (F := Ideal) x0 x1 x3 x4 (ix3 b ⟨128 * C.val + j.val, by omega⟩ ⟨128 * h.val + l.val, by omega⟩)) + x6 (ix2 h r) := by
  rw [val_main_v61_apply, val_main_v57_apply, val_main_v56_apply, val_main_v60_apply, val_main_v59_apply, val_main_v58_apply, Ideal.addf_def]
  refine congrArg₂ (· + ·) (Finset.sum_congr rfl fun j _ => ?_) (congrArg x6 ?_)
  · refine (mul_comm _ _).trans (congrArg₂ (· * ·) ?_ ?_)
    · have e : ridx_main_v56 (idx_main_v57 (ix5 b C r h l)) j = ix3 h r j := by
        funext a; match a with
          | ⟨0, _⟩ => rfl
          | ⟨1, _⟩ => rfl
          | ⟨2, _⟩ => rfl
      exact (congrArg _ e).trans (ws_apply x5 h r j)
    · rw [val_main_v45_apply]
      refine congrArg _ ?_
      have hb := b.isLt
      have hC := C.isLt
      have hh := h.isLt
      have hl := l.isLt
      have hj := j.isLt
      funext a; apply Fin.ext; match a with
        | ⟨0, _⟩ => show ((((b.val * 16 + C.val) * 128 + j.val) * 6 + h.val) * 128 + l.val) / 1572864 = b.val; omega
        | ⟨1, _⟩ => show ((((b.val * 16 + C.val) * 128 + j.val) * 6 + h.val) * 128 + l.val) / 768 % 2048 = 128 * C.val + j.val; omega
        | ⟨2, _⟩ => show ((((b.val * 16 + C.val) * 128 + j.val) * 6 + h.val) * 128 + l.val) % 768 = 128 * h.val + l.val; omega
  · funext a; match a with
      | ⟨0, _⟩ => rfl
      | ⟨1, _⟩ => rfl

/-- The gate. -/
theorem gate_apply (b : Fin 16) (s : Fin 2048) (n : Fin 768) :
    val_main_v63 (F := Ideal) x0 x1 x3 x4 x5 x6 (ix3 b s n) = gate (MixAPay.par x0 x1 x2 x3 x4 x5 x6 x7 x8 x9) (2048 * b.val + s.val) n := by
  have hb := b.isLt
  have hs := s.isLt
  have hn := n.isLt
  have e : idx_main_v62 (ix3 b s n) = ix5 b (⟨s.val / 128, by omega⟩ : Fin 16) (⟨s.val % 128, by omega⟩ : Fin 128) (⟨n.val / 128, by omega⟩ : Fin 6)
      (⟨n.val % 128, by omega⟩ : Fin 128) := by
    funext a; apply Fin.ext; match a with
      | ⟨0, _⟩ => show ((b.val * 2048 + s.val) * 768 + n.val) / 1572864 = b.val; omega
      | ⟨1, _⟩ => show ((b.val * 2048 + s.val) * 768 + n.val) / 98304 % 16 = s.val / 128; omega
      | ⟨2, _⟩ => show ((b.val * 2048 + s.val) * 768 + n.val) / 768 % 128 = s.val % 128; omega
      | ⟨3, _⟩ => show ((b.val * 2048 + s.val) * 768 + n.val) / 128 % 6 = n.val / 128; omega
      | ⟨4, _⟩ => show ((b.val * 2048 + s.val) * 768 + n.val) % 128 = n.val % 128; omega
  rw [val_main_v63_apply, val_main_v62_apply, e, seg_apply, u_apply x0 x1 x2 x3 x4 x5 x6 x7 x8 x9, Ideal.mulf_def]
  simp only [nv_apply x0 x1 x2 x3 x4 x5 x6 x7 x8 x9]
  unfold gate
  have em : (2048 * b.val + s.val) % 128 = s.val % 128 := by omega
  have er : (⟨s.val % 128, by omega⟩ : Fin 128) = ⟨(2048 * b.val + s.val) % 128, by omega⟩ := Fin.ext em.symm
  refine congrArg₂ (· * ·) rfl (congrArg₂ (· + ·) (Finset.sum_congr rfl fun j _ => congrArg₂ (· * ·) ?_ ?_) ?_)
  · refine if_congr (by rw [em]) ?_ rfl
    exact congrArg (fun r => x5 (ix3 ⟨n.val / 128, by omega⟩ r j)) er
  · refine congrArg₂ (nv (MixAPay.par x0 x1 x2 x3 x4 x5 x6 x7 x8 x9)) ?_ (Fin.ext ?_)
    · show 2048 * b.val + (128 * (s.val / 128) + j.val) = 128 * ((2048 * b.val + s.val) / 128) + j.val; omega
    · show 128 * (n.val / 128) + n.val % 128 = n.val; omega
  · exact congrArg (fun r => x6 (ix2 ⟨n.val / 128, by omega⟩ r)) er

/-- The memory's keys, or values, of the first layer. -/
theorem k_apply (b : Fin 16) (s : Fin 256) (h : Fin 4) (d : Fin 64) : val_main_v67 (F := Ideal) x7 (ix4 b s h d) = x7 (ix5 0 b s h d) := by
  have hb := b.isLt
  have hs := s.isLt
  have hh := h.isLt
  have hd := d.isLt
  rw [val_main_v67_apply, val_main_v66_apply]
  refine congrArg x7 ?_
  funext a; apply Fin.ext; match a with
    | ⟨0, _⟩ => rfl
    | ⟨1, _⟩ => show (((b.val * 256 + s.val) * 4 + h.val) * 64 + d.val) / 65536 % 16 = b.val; omega
    | ⟨2, _⟩ => show (((b.val * 256 + s.val) * 4 + h.val) * 64 + d.val) / 256 % 256 = s.val; omega
    | ⟨3, _⟩ => show (((b.val * 256 + s.val) * 4 + h.val) * 64 + d.val) / 64 % 4 = h.val; omega
    | ⟨4, _⟩ => show (((b.val * 256 + s.val) * 4 + h.val) * 64 + d.val) % 64 = d.val; omega

theorem vv_apply (b : Fin 16) (s : Fin 256) (h : Fin 4) (d : Fin 64) : val_main_v83 (F := Ideal) x8 (ix4 b s h d) = x8 (ix5 0 b s h d) :=
  k_apply x8 b s h d

/-- The query's columns by head and lane. -/
theorem q_apply (b : Fin 16) (s : Fin 2048) (h : Fin 4) (d : Fin 64) :
    val_main_v65 (F := Ideal) x0 x1 x3 (ix4 b s h d) = proj (MixAPay.par x0 x1 x2 x3 x4 x5 x6 x7 x8 x9) (2048 * b.val + s.val) ⟨1536 + (64 * h.val + d.val), by omega⟩ := by
  have hb := b.isLt
  have hs := s.isLt
  have hh := h.isLt
  have hd := d.isLt
  have e : idx_main_v64 (idx_main_v65 (ix4 b s h d)) = ix3 b s (⟨1536 + (64 * h.val + d.val), by omega⟩ : Fin 1792) := by
    funext a; apply Fin.ext; match a with
      | ⟨0, _⟩ => show (((b.val * 2048 + s.val) * 4 + h.val) * 64 + d.val) / 524288 = b.val; omega
      | ⟨1, _⟩ => show (((b.val * 2048 + s.val) * 4 + h.val) * 64 + d.val) / 256 % 2048 = s.val; omega
      | ⟨2, _⟩ => show 1536 + (((b.val * 2048 + s.val) * 4 + h.val) * 64 + d.val) % 256 = 1536 + (64 * h.val + d.val); omega
  rw [val_main_v65_apply, val_main_v64_apply, e, proj_apply x0 x1 x2 x3 x4 x5 x6 x7 x8 x9]

theorem bt_row (b : Fin 16) (s : Fin 2048) : bt (2048 * b.val + s.val) = b := Fin.ext (by dsimp only; omega)

/-- The scores. -/
theorem score_apply (b : Fin 16) (h : Fin 4) (s : Fin 2048) (k : Fin 256) :
    val_main_v70 (F := Ideal) x0 x1 x3 x7 (ix4 b h s k) = score (MixAPay.par x0 x1 x2 x3 x4 x5 x6 x7 x8 x9) (2048 * b.val + s.val) h k := by
  have el (d : Fin 64) : lidx_main_v68 (ix4 b h s k) d = ix4 b s h d := by
    funext a; match a with
      | ⟨0, _⟩ => rfl
      | ⟨1, _⟩ => rfl
      | ⟨2, _⟩ => rfl
      | ⟨3, _⟩ => rfl
  have er (d : Fin 64) : ridx_main_v68 (ix4 b h s k) d = ix4 b k h d := by
    funext a; match a with
      | ⟨0, _⟩ => rfl
      | ⟨1, _⟩ => rfl
      | ⟨2, _⟩ => rfl
      | ⟨3, _⟩ => rfl
  rw [val_main_v70_apply, val_main_v69_apply, val_main_cst_10_apply, val_main_v68_apply, Ideal.mulf_def, Ideal.ofBits_def]
  simp only [el, er, k_apply, q_apply x0 x1 x2 x3 x4 x5 x6 x7 x8 x9]
  unfold score
  rw [bt_row]
  rfl

/-- The greatest score, no less than the reduction's start. -/
theorem max_apply (b : Fin 16) (h : Fin 4) (s : Fin 2048) :
    val_main_v73 (F := Ideal) x0 x1 x3 x7 (ix3 b h s)
      = Finset.univ.fold max (Ideal.ofBits .f32 0xFF800000#32) (fun k : Fin 256 => val_main_v70 (F := Ideal) x0 x1 x3 x7 (ix4 b h s k)) := by
  have e : val_main_v71 (F := Ideal) x0 x1 x3 x7 (ix3 b h s)
      = Finset.univ.fold max (Ideal.ofBits .f32 0xFF800000#32) (fun k : Fin 256 => val_main_v70 (F := Ideal) x0 x1 x3 x7 (ix4 b h s k)) := by
    unfold val_main_v71
    generalize val_main_v70 (F := Ideal) x0 x1 x3 x7 = y
    refine (Host.reduce_eq_fold_single (a := (3 : Fin Cert.MixAReferenceIdeal.S16x4x2048x256.rank)) (FloatOps.maximumf (F := Ideal) (φ := .f32)) y _ _ (by decide) _ (ix3 b h s)).trans ?_
    refine congrArg (fun f : Fin 256 → EReal => Finset.univ.fold max (Ideal.ofBits .f32 0xFF800000#32) f) (funext fun k => congrArg y (funext fun a => Fin.ext ?_))
    match a with
    | ⟨0, _⟩ => rfl
    | ⟨1, _⟩ => rfl
    | ⟨2, _⟩ => rfl
    | ⟨3, _⟩ => rfl
  rw [val_main_v73_apply, val_main_v72_apply, val_main_cst_12_apply, Ideal.maximumf_def, Ideal.ofBits_def, e]
  exact max_eq_right ((Finset.le_fold_max _).2 (Or.inl le_rfl))

/-- The soft maximum. -/
theorem soft_apply (b : Fin 16) (h : Fin 4) (s : Fin 2048) (k : Fin 256) :
    val_main_v81 (F := Ideal) x0 x1 x3 x7 (ix4 b h s k) = soft (score (MixAPay.par x0 x1 x2 x3 x4 x5 x6 x7 x8 x9) (2048 * b.val + s.val) h) k := by
  have e : val_main_v81 (F := Ideal) x0 x1 x3 x7 (ix4 b h s k)
      = Ideal.div (Ideal.exp (val_main_v70 (F := Ideal) x0 x1 x3 x7 (ix4 b h s k) - val_main_v73 (F := Ideal) x0 x1 x3 x7 (ix3 b h s)))
        (∑ k : Fin 256, Ideal.exp (val_main_v70 (F := Ideal) x0 x1 x3 x7 (ix4 b h s k) - val_main_v73 (F := Ideal) x0 x1 x3 x7 (ix3 b h s))) := by
    unfold val_main_v81 val_main_v80 val_main_v79 val_main_v78 val_main_v77 val_main_v76 val_main_v75 val_main_v74 val_main_cst_13
    generalize val_main_v70 (F := Ideal) x0 x1 x3 x7 = y
    generalize val_main_v73 (F := Ideal) x0 x1 x3 x7 = z
    pointwise
  rw [e, max_apply]
  simp only [score_apply x0 x1 x2 x3 x4 x5 x6 x7 x8 x9]
  rfl

/-- The memory's columns. -/
theorem mem_apply (b : Fin 16) (s : Fin 2048) (e : Fin 256) :
    val_main_v86 (F := Ideal) x0 x1 x3 x7 x8 (ix3 b s e) = mem (MixAPay.par x0 x1 x2 x3 x4 x5 x6 x7 x8 x9) (2048 * b.val + s.val) e := by
  have hb := b.isLt
  have hs := s.isLt
  have he := e.isLt
  have i0 : idx_main_v85 (idx_main_v86 (ix3 b s e)) = ix4 b (⟨e.val / 64, by omega⟩ : Fin 4) (⟨e.val % 64, by omega⟩ : Fin 64) s := by
    funext a; apply Fin.ext; match a with
      | ⟨0, _⟩ => show ((b.val * 2048 + s.val) * 256 + e.val) / 524288 = b.val; omega
      | ⟨1, _⟩ => show ((b.val * 2048 + s.val) * 256 + e.val) / 64 % 4 = e.val / 64; omega
      | ⟨2, _⟩ => show ((b.val * 2048 + s.val) * 256 + e.val) % 64 = e.val % 64; omega
      | ⟨3, _⟩ => show ((b.val * 2048 + s.val) * 256 + e.val) / 256 % 2048 = s.val; omega
  rw [val_main_v86_apply, val_main_v85_apply, i0, val_main_v84_apply]
  unfold mem
  refine Finset.sum_congr rfl fun k _ => (mul_comm _ _).trans (congrArg₂ (· * ·) ?_ ?_)
  · refine Eq.trans (congrArg _ ?_) (soft_apply x0 x1 x2 x3 x4 x5 x6 x7 x8 x9 b ⟨e.val / 64, by omega⟩ s k)
    funext a; match a with
      | ⟨0, _⟩ => rfl
      | ⟨1, _⟩ => rfl
      | ⟨2, _⟩ => rfl
      | ⟨3, _⟩ => rfl
  · rw [bt_row]
    refine Eq.trans (congrArg _ ?_) (vv_apply x8 b k ⟨e.val / 64, by omega⟩ ⟨e.val % 64, by omega⟩)
    funext a; match a with
      | ⟨0, _⟩ => rfl
      | ⟨1, _⟩ => rfl
      | ⟨2, _⟩ => rfl
      | ⟨3, _⟩ => rfl

/-- The two parts' columns side by side. -/
theorem cat_left (b : Fin 16) (s : Fin 2048) (k : Fin 768) :
    val_main_v87 (F := Ideal) x0 x1 x3 x4 x5 x6 x7 x8 (ix3 b s ⟨k.val, by omega⟩) = val_main_v63 (F := Ideal) x0 x1 x3 x4 x5 x6 (ix3 b s k) := by
  have hk := k.isLt
  unfold val_main_v87
  generalize val_main_v63 (F := Ideal) x0 x1 x3 x4 x5 x6 = y
  generalize val_main_v86 (F := Ideal) x0 x1 x3 x7 x8 = z
  pointwise

theorem cat_right (b : Fin 16) (s : Fin 2048) (k : Fin 256) :
    val_main_v87 (F := Ideal) x0 x1 x3 x4 x5 x6 x7 x8 (ix3 b s ⟨768 + k.val, by omega⟩) = val_main_v86 (F := Ideal) x0 x1 x3 x7 x8 (ix3 b s k) := by
  have hk := k.isLt
  unfold val_main_v87
  generalize val_main_v63 (F := Ideal) x0 x1 x3 x4 x5 x6 = y
  generalize val_main_v86 (F := Ideal) x0 x1 x3 x7 x8 = z
  pointwise

/-- The product with the output weights, in its two parts. -/
theorem mix_apply (b : Fin 16) (s : Fin 2048) (d : Fin 1024) :
    val_main_v88 (F := Ideal) x0 x1 x3 x4 x5 x6 x7 x8 x9 (ix3 b s d) = mix (MixAPay.par x0 x1 x2 x3 x4 x5 x6 x7 x8 x9) (2048 * b.val + s.val) d := by
  have h : val_main_v88 (F := Ideal) x0 x1 x3 x4 x5 x6 x7 x8 x9 (ix3 b s d)
      = ∑ k : Fin 1024, val_main_v87 (F := Ideal) x0 x1 x3 x4 x5 x6 x7 x8 (ix3 b s k) * x9 (ix2 k d) := by
    unfold val_main_v88
    generalize val_main_v87 (F := Ideal) x0 x1 x3 x4 x5 x6 x7 x8 = y
    pointwise
  rw [h]
  refine (Fin.sum_univ_add (a := 768) (b := 256) fun k : Fin 1024 => val_main_v87 (F := Ideal) x0 x1 x3 x4 x5 x6 x7 x8 (ix3 b s k) * x9 (ix2 k d)).trans ?_
  unfold mix
  refine congrArg₂ (· + ·) (Finset.sum_congr rfl fun k _ => ?_) (Finset.sum_congr rfl fun k _ => ?_)
  · exact congrArg (· * _) ((cat_left x0 x1 x3 x4 x5 x6 x7 x8 b s k).trans (gate_apply x0 x1 x2 x3 x4 x5 x6 x7 x8 x9 b s k))
  · exact congrArg (· * _) ((cat_right x0 x1 x3 x4 x5 x6 x7 x8 b s k).trans (mem_apply x0 x1 x2 x3 x4 x5 x6 x7 x8 x9 b s k))

/-- The rows after the sub-layer. -/
theorem out_apply (b : Fin 16) (s : Fin 2048) (d : Fin 1024) :
    val_main_v103 (F := Ideal) x0 x1 x2 x3 x4 x5 x6 x7 x8 x9 (ix3 b s d) = MixASpec.out (MixAPay.par x0 x1 x2 x3 x4 x5 x6 x7 x8 x9) (2048 * b.val + s.val) d := by
  have hd := d.isLt
  have h : val_main_v103 (F := Ideal) x0 x1 x2 x3 x4 x5 x6 x7 x8 x9 (ix3 b s d)
      = x0 (ix3 b s d) + rms (fun k => val_main_v88 (F := Ideal) x0 x1 x3 x4 x5 x6 x7 x8 x9 (ix3 b s k)) (fun k => x2 (ix2 0 k)) d := by
    unfold val_main_v103 val_main_v102 val_main_v101 val_main_v100 val_main_v99 val_main_v98 val_main_v97 val_main_v96 val_main_v95
      val_main_v94 val_main_v93 val_main_v92 val_main_v91 val_main_v90 val_main_v89 val_main_cst_14 val_main_cst_15 val_main_cst_16 rms
    generalize val_main_v88 (F := Ideal) x0 x1 x3 x4 x5 x6 x7 x8 x9 = y
    pointwise
  rw [h]
  simp only [mix_apply x0 x1 x2 x3 x4 x5 x6 x7 x8 x9]
  exact congrArg (· + _) (x_apply x0 x1 x2 x3 x4 x5 x6 x7 x8 x9 b s d).symm

theorem reference_row (R : Fin 32768) (d : Fin 1024) :
    val_main_v104 (F := Ideal) x0 x1 x2 x3 x4 x5 x6 x7 x8 x9 (ix2 R d) = MixAPay.arr (MixAPay.par x0 x1 x2 x3 x4 x5 x6 x7 x8 x9) (ix2 R d) := by
  have l0 := R.isLt
  have l1 := d.isLt
  have e : idx_main_v104 (ix2 R d) = ix3 (⟨R.val / 2048, by omega⟩ : Fin 16) (⟨R.val % 2048, by omega⟩ : Fin 2048) d := by
    funext a; apply Fin.ext; match a with
      | ⟨0, _⟩ => show (R.val * 1024 + d.val) / 2097152 = R.val / 2048; omega
      | ⟨1, _⟩ => show (R.val * 1024 + d.val) / 1024 % 2048 = R.val % 2048; omega
      | ⟨2, _⟩ => show (R.val * 1024 + d.val) % 1024 = d.val; omega
  rw [val_main_v104_apply, e, out_apply]
  exact congrArg (fun R => MixASpec.out (MixAPay.par x0 x1 x2 x3 x4 x5 x6 x7 x8 x9) R d) (by show 2048 * (R.val / 2048) + R.val % 2048 = R.val; omega)

/-- The reference's array. -/
theorem reference : val_main_v104 (F := Ideal) x0 x1 x2 x3 x4 x5 x6 x7 x8 x9 = MixAPay.arr (MixAPay.par x0 x1 x2 x3 x4 x5 x6 x7 x8 x9) := by
  funext y
  have ey : (y : S32768x1024.Idx) = ix2 (y 0) (y 1) := eq_ix2 y
  exact (congrArg _ ey).trans ((reference_row x0 x1 x2 x3 x4 x5 x6 x7 x8 x9 (y 0) (y 1)).trans (congrArg _ ey.symm))

end Cert.MixARef

end
-- ==== Proof.Soft.lean ====
/- The scalar functions of stick-breaking attention over the reals: the soft plus, the logarithms of a
   stick's two parts, and the equations by which the kernel's base-two spelling and the reference's
   base-e spelling of them meet. -/
module

public import Idealize.ShloMosaic.PureOps.Ideal.Laws
public import Mathlib.Analysis.SpecialFunctions.Pow.Real

@[expose] public section

noncomputable section

namespace Cert.Soft

open Idealize.ShloMosaic

/-- `log (1 + exp z)`, written without overflow. -/
def sp (z : ℝ) : ℝ := max z 0 + Real.log (1 + Real.exp (-|z|))

/-- One over the natural logarithm of two. -/
def L : ℝ := (Real.log 2)⁻¹

theorem log2_pos : 0 < Real.log 2 := Real.log_pos (by norm_num)

theorem L_pos : 0 < L := inv_pos.mpr log2_pos

/-- `2 ^ (a / log 2)` is `exp a`. -/
theorem rpow_two (a : ℝ) : Real.rpow 2 (a * L) = Real.exp a := by
  show (2 : ℝ) ^ (a * L) = _
  rw [Real.rpow_def_of_pos (by norm_num : (0 : ℝ) < 2)]
  congr 1
  unfold L
  have := log2_pos.ne'
  field_simp

/-- The soft plus of `-z` is the soft plus of `z` less `z`. -/
theorem sp_neg (z : ℝ) : sp (-z) = sp z - z := by
  unfold sp
  rw [abs_neg]
  rcases le_total z 0 with h | h
  · rw [max_eq_left (by linarith), max_eq_right h]; ring
  · rw [max_eq_right (by linarith), max_eq_left h]; ring

/-- The coercion of the reals keeps maxima. -/
theorem coe_max (a b : ℝ) : max (a : EReal) (b : EReal) = ((max a b : ℝ) : EReal) :=
  (EReal.coe_strictMono.monotone.map_max).symm

/-- The logarithm of one more than a positive real. -/
theorem log_one_add (x : ℝ) (hx : 0 < x) : Ideal.log ((1 : EReal) + (x : EReal)) = ((Real.log (1 + x) : ℝ) : EReal) := by
  have : (1 : EReal) + (x : EReal) = ((1 + x : ℝ) : EReal) := by norm_cast
  rw [this, Ideal.log_coe, if_neg (by linarith)]

/-- The exponential to base two of a real given in units of `1 / log 2`. -/
theorem exp2_L (a : ℝ) : Ideal.exp2 ((a * L : ℝ) : EReal) = ((Real.exp a : ℝ) : EReal) := by
  rw [Ideal.exp2_coe, rpow_two]

/-- The absolute value as the kernel spells it. -/
theorem abs_coe (a : ℝ) : max (a : EReal) (-(a : EReal)) = ((|a| : ℝ) : EReal) := by
  rw [← EReal.coe_neg, coe_max]; rfl

/-- The kernel's soft plus: the logit and the result in units of `1 / log 2`. -/
theorem sp_kernel (z : ℝ) :
    max ((z * L : ℝ) : EReal) 0 + Ideal.log (1 + Ideal.exp2 (0 - max ((z * L : ℝ) : EReal) (-((z * L : ℝ) : EReal)))) * ((L : ℝ) : EReal)
      = ((sp z * L : ℝ) : EReal) := by
  have hL := L_pos
  have h0 : (0 : EReal) = ((0 : ℝ) : EReal) := rfl
  rw [abs_coe, zero_sub, ← EReal.coe_neg, show -|z * L| = (-|z|) * L by rw [abs_mul, abs_of_pos hL]; ring, exp2_L,
    log_one_add _ (Real.exp_pos _), h0, coe_max, ← EReal.coe_mul, ← EReal.coe_add]
  congr 1
  unfold sp
  rw [add_mul, max_mul_of_nonneg _ _ hL.le, zero_mul]

/-- The reference's logarithm of a sigmoid, its soft plus of `-z` negated. -/
theorem log_sigmoid_ref (z : ℝ) :
    -(max (-(z : EReal)) 0 + Ideal.log1p (Ideal.exp (-(max (-(z : EReal) - 0) (-(-(z : EReal) - 0))))))
      = ((z - sp z : ℝ) : EReal) := by
  have h0 : (0 : EReal) = ((0 : ℝ) : EReal) := rfl
  rw [sub_zero, ← EReal.coe_neg, abs_coe, ← EReal.coe_neg, Ideal.exp_coe]
  unfold Ideal.log1p
  rw [log_one_add _ (Real.exp_pos _), h0, coe_max, ← EReal.coe_add, ← EReal.coe_neg]
  congr 1
  have := sp_neg z
  unfold sp at this ⊢
  linarith

end Cert.Soft

end
-- ==== Proof.Spec.lean ====
/- Stick-breaking attention over the reals, for one head and one query: the weight of each key and the
   weighted sum of the values. Both programs' results are read as these. -/
module

public import proofs.«01_k».proof.Proof.Soft
public import Idealize.ShloMosaic.Lib.Pointwise

@[expose] public section

noncomputable section

namespace Cert.Spec

open Idealize.ShloMosaic Cert.Soft

/-- The stick left over for the keys from `n` on, up to the query `t`, as minus a logarithm. -/
def tail (z : ℕ → ℝ) (t n : ℕ) : ℝ := ∑ j ∈ Finset.Ico n t, sp (z j)

/-- The weight of key `s` for the query `t`: the share of `s` times what the keys between leave. -/
def weight (z : ℕ → ℝ) (t s : ℕ) : ℝ := if s < t then Real.exp (z s - sp (z s) - tail z t (s + 1)) else 0

theorem weight_of_le (z : ℕ → ℝ) {t s : ℕ} (h : t ≤ s) : weight z t s = 0 := if_neg (by omega)

/-- A sum of `256` soft pluses, those at or past the query left out, joins two tails. -/
theorem tail_block (z : ℕ → ℝ) (t n m : ℕ) :
    (∑ c ∈ Finset.range m, if n + c < t then sp (z (n + c)) else 0) + tail z t (n + m) = tail z t n := by
  unfold tail
  induction m with
  | zero => simp
  | succ m ih =>
    rw [Finset.sum_range_succ, ← ih, add_assoc]
    congr 1
    by_cases h : n + m < t
    · rw [if_pos h, Finset.sum_eq_sum_Ico_succ_bot h]; rfl
    · rw [if_neg h, Finset.Ico_eq_empty (by omega), Finset.Ico_eq_empty (by omega)]; simp

/-- The four arrays' reals: the query, key and bias entries as real functions. -/
abbrev ArrQ : Type := (⟨4, ![16, 2048, 12, 64]⟩ : Shape).Idx → EReal

/-- Entry `(b, s, h, d)` of an array, the key's number taken modulo the length. -/
def at4 (x : ArrQ) (b : Fin 16) (s : ℕ) (h : Fin 12) (d : Fin 64) : EReal :=
  x (ix4 b ⟨s % 2048, Nat.mod_lt _ (by norm_num)⟩ h d)

/-- The logit of key `s` for query `t` of head `h` in batch `b`. -/
def logit (q k : ArrQ) (β : (⟨2, ![1, 12]⟩ : Shape).Idx → EReal) (b : Fin 16) (h : Fin 12) (t s : ℕ) : ℝ :=
  (∑ d : Fin 64, (at4 q b t h d).toReal * (at4 k b s h d).toReal) * (1 / 8) + (β (ix2 0 h)).toReal

/-- The attention's result at batch `b`, query `t`, head `h`, lane `d`. -/
def out (q k v : ArrQ) (β : (⟨2, ![1, 12]⟩ : Shape).Idx → EReal) (b : Fin 16) (t : ℕ) (h : Fin 12) (d : Fin 64) : EReal :=
  ∑ s ∈ Finset.range 2048, ((weight (logit q k β b h t) t s : ℝ) : EReal) * at4 v b s h d

/-- An array all of whose entries are real. -/
def IsReal {ι : Type} (x : ι → EReal) : Prop := ∀ i, ∃ r : ℝ, x i = (r : EReal)

theorem IsReal.coe_toReal {ι : Type} {x : ι → EReal} (hx : IsReal x) (i : ι) : x i = ((x i).toReal : EReal) := by
  obtain ⟨r, hr⟩ := hx i
  rw [hr, EReal.toReal_coe]

/-- A finite sum of reals, as extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.Ref.lean ====
/- The reference's result read at an index: the attention of Spec.lean. -/
module

public import proofs.«01_k».proof.Proof.Spec
public import Idealize.ShloMosaic.Lib.WordCmp
public import proofs.«01_k».proof.Proof.Gen.ReferenceIdeal.Read

@[expose] public section

set_option maxRecDepth 16384

noncomputable section

namespace Cert.Ref

open Cert.ReferenceIdeal Cert.ReferenceIdeal.Gen Cert.ReferenceIdeal.Read Idealize.ShloMosaic Cert.Soft Cert.Spec

/-- A left fold that adds is the starting value plus the sum. -/
theorem foldl_add_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The reference's reversed running sum at an index: the entries from there on. -/
theorem cumsum_apply (x : S16x12x2048x2048.Idx → EReal) (init : S_.Idx → EReal) (h0 : ∀ i, init i = 0)
    (b : Fin 16) (h : Fin 12) (t s : Fin 2048) :
    Host.reduceWindowAdd (F := Ideal) (φ := .f32) ![1, 1, 1, 2048] ![1, 1, 1, 1] ![0, 0, 0, 0] ![0, 0, 0, 2047] x init
        reduceWindows_S16x12x2048x2048_S16x12x2048x2048_w1s1p0_0_w1s1p0_0_w1s1p0_0_w2048s1p0_2047 h_S_ (ix4 b h t s)
      = ∑ k : Fin 2048, if hk : s.val + k.val < 2048 then x (ix4 b h t ⟨s.val + k.val, hk⟩) else 0 := by
  unfold Host.reduceWindowAdd
  rw [Ideal.hostReduceWindowAdd_def, h0]
  unfold Ideal.hostReduceWindowAdd Host.reduceWindow
  simp only []
  rw [foldl_add_sum, zero_add, ← Fin.sum_univ_def]
  rw [← Equiv.sum_comp (Shape.rowMajor ⟨4, ![1, 1, 1, 2048]⟩)]
  simp only [Equiv.symm_apply_apply]
  rw [sum_idx4]
  simp only [Finset.univ_unique, Finset.sum_singleton]
  refine Finset.sum_congr rfl fun k _ => ?_
  by_cases hk : s.val + k.val < 2048
  · rw [dif_pos hk, dif_pos]
    · congr 1
      funext a
      apply Fin.ext
      match a with
      | ⟨0, _⟩ => show b.val * 1 + 0 - 0 = b.val; omega
      | ⟨1, _⟩ => show h.val * 1 + 0 - 0 = h.val; omega
      | ⟨2, _⟩ => show t.val * 1 + 0 - 0 = t.val; omega
      | ⟨3, _⟩ => show s.val * 1 + k.val - 0 = s.val + k.val; omega
    · intro a
      match a with
      | ⟨0, _⟩ => exact ⟨Nat.zero_le _, by show b.val * 1 + 0 - 0 < 16; omega⟩
      | ⟨1, _⟩ => exact ⟨Nat.zero_le _, by show h.val * 1 + 0 - 0 < 12; omega⟩
      | ⟨2, _⟩ => exact ⟨Nat.zero_le _, by show t.val * 1 + 0 - 0 < 2048; omega⟩
      | ⟨3, _⟩ => exact ⟨Nat.zero_le _, by show s.val * 1 + k.val - 0 < 2048; omega⟩
  · rw [dif_neg hk, dif_neg]
    intro hall
    have := (hall 3).2
    have h3 : s.val * 1 + k.val - 0 < 2048 := this
    omega

variable (q k v : S16x2048x12x64.Idx → EReal) (β : S1x12.Idx → EReal)

/-- The pattern of one eighth. -/
theorem ofBits_eighth : FloatOps.ofBits (F := Ideal) .f32 0x3E000000#32 = ((1 / 8 : ℝ) : EReal) := by
  rw [Ideal.ofBits_def]
  simp [Ideal.ofBits, Ideal.ieee, -EReal.coe_mul]
  norm_num

/-- The reference's logits, where the arguments are real. -/
theorem logits_apply (hq : IsReal q) (hk : IsReal k) (hβ : IsReal β) (b : Fin 16) (h : Fin 12) (t s : Fin 2048) :
    val_main_v7 (F := Ideal) q k β (ix4 b h t s) = ((logit q k β b h t.val s.val : ℝ) : EReal) := by
  rw [val_main_v7_apply, val_main_v4_apply, val_main_v2_apply, val_main_v3_apply, val_main_v6_apply, val_main_v5_apply, val_main_v0_apply,
    val_main_cst_apply, ofBits_eighth, Ideal.addf_def, Ideal.mulf_def]
  have ht : t.val % 2048 = t.val := Nat.mod_eq_of_lt t.isLt
  have hs : s.val % 2048 = s.val := Nat.mod_eq_of_lt s.isLt
  have hterm : ∀ d : Fin 64, q (lidx_main_v2 (ix4 b h t s) d) * k (ridx_main_v2 (ix4 b h t s) d)
      = (((at4 q b t.val h d).toReal * (at4 k b s.val h d).toReal : ℝ) : EReal) := by
    intro d
    have el : lidx_main_v2 (ix4 b h t s) d = ix4 b ⟨t.val % 2048, Nat.mod_lt _ (by norm_num)⟩ h d := by
      funext a; apply Fin.ext
      match a with
      | ⟨0, _⟩ => rfl
      | ⟨1, _⟩ => exact ht.symm
      | ⟨2, _⟩ => rfl
      | ⟨3, _⟩ => rfl
    have er : ridx_main_v2 (ix4 b h t s) d = ix4 b ⟨s.val % 2048, Nat.mod_lt _ (by norm_num)⟩ h d := by
      funext a; apply Fin.ext
      match a with
      | ⟨0, _⟩ => rfl
      | ⟨1, _⟩ => exact hs.symm
      | ⟨2, _⟩ => rfl
      | ⟨3, _⟩ => rfl
    rw [el, er, EReal.coe_mul]
    unfold at4
    rw [← hq.coe_toReal, ← hk.coe_toReal]
  rw [Finset.sum_congr rfl fun d _ => hterm d, coe_sum]
  have eb : idx_main_v0 (idx_main_v5 (idx_main_v6 (ix4 b h t s))) = ix2 0 h := by
    funext a; apply Fin.ext
    match a with
    | ⟨0, _⟩ => rfl
    | ⟨1, _⟩ => exact Nat.mod_eq_of_lt h.isLt
  rw [eb, hβ.coe_toReal (ix2 0 h), ← EReal.coe_mul, ← EReal.coe_add]
  rfl

/-- The soft plus of the reference, its argument a real, and the whole negated. -/
theorem log_sigmoid_scalar (w : ℝ) :
    FloatOps.hostNegf (F := Ideal) (φ := .f32)
        (Scalar.select
          (FloatOps.cmpf (F := Ideal) (φ := .f32) .une (FloatOps.subf (F := Ideal) (φ := .f32) (w : EReal) 0) (FloatOps.subf (F := Ideal) (φ := .f32) (w : EReal) 0))
          (FloatOps.addf (F := Ideal) (φ := .f32) (w : EReal) 0)
          (FloatOps.addf (F := Ideal) (φ := .f32) (FloatOps.maximumf (F := Ideal) (φ := .f32) (w : EReal) 0)
            (FloatOps.hostUnary (F := Ideal) (φ := .f32) .log1p
              (FloatOps.hostUnary (F := Ideal) (φ := .f32) .exp
                (FloatOps.hostNegf (F := Ideal) (φ := .f32) (FloatOps.hostAbsf (F := Ideal) (φ := .f32) (FloatOps.subf (F := Ideal) (φ := .f32) (w : EReal) 0)))))))
      = ((-sp w : ℝ) : EReal) := by
  have h := log_sigmoid_ref (-w)
  rw [sp_neg, show -w - (sp w - w) = -sp w by ring, EReal.coe_neg, neg_neg] at h
  have hc : FloatOps.cmpf (F := Ideal) (φ := .f32) .une (FloatOps.subf (F := Ideal) (φ := .f32) (w : EReal) 0) (FloatOps.subf (F := Ideal) (φ := .f32) (w : EReal) 0) = 0#1 := by
    show BitVec.ofBool (decide (_ ≠ _)) = 0#1; simp
  rw [hc]
  exact h

/-- The reference's log-sigmoid of a real logit. -/
theorem log_sigmoid_apply (i : S16x12x2048x2048.Idx) (z : ℝ) (hz : val_main_v7 (F := Ideal) q k β i = (z : EReal)) :
    val_main_v13 (F := Ideal) q k β i = ((z - sp z : ℝ) : EReal) := by
  have h0 : FloatOps.ofBits (F := Ideal) .f32 0x00000000#32 = 0 := Ideal.ofBits_zero_f32
  have hn : FloatOps.hostNegf (F := Ideal) (φ := .f32) (z : EReal) = ((-z : ℝ) : EReal) := rfl
  simp only [val_main_v13_apply, val_main_call0_v0_apply, val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v1_apply, hz, h0, hn]
  rw [log_sigmoid_scalar, sp_neg]
  congr 1
  ring

/-- The reference's log-sigmoid of minus a real logit. -/
theorem log_sigmoid_neg_apply (i : S16x12x2048x2048.Idx) (z : ℝ) (hz : val_main_v7 (F := Ideal) q k β i = (z : EReal)) :
    val_main_v15 (F := Ideal) q k β i = ((-sp z : ℝ) : EReal) := by
  have h0 : FloatOps.ofBits (F := Ideal) .f32 0x00000000#32 = 0 := Ideal.ofBits_zero_f32
  have hn : FloatOps.hostNegf (F := Ideal) (φ := .f32) (FloatOps.hostNegf (F := Ideal) (φ := .f32) (z : EReal)) = (z : EReal) := neg_neg (z : EReal)
  simp only [val_main_v15_apply, val_main_v14_apply, val_main_call1_v0_apply, val_main_call1_call0_cst_apply, val_main_call1_call0_v0_apply, val_main_call1_call0_v1_apply, val_main_call1_call0_v2_apply, val_main_call1_call0_v3_apply, val_main_call1_call0_v4_apply, val_main_call1_call0_v5_apply, val_main_call1_call0_v6_apply, val_main_call1_call0_v7_apply, val_main_call1_call0_v8_apply, val_main_call1_call0_v9_apply, val_main_call1_call0_v10_apply, val_main_call1_call0_v11_apply, val_main_call1_v1_apply, hz, h0, hn]
  exact log_sigmoid_scalar z

/-- The causal mask, the diagonal left out. -/
theorem mask_apply (t s : Fin 2048) : val_main_v12 (F := Ideal) (ix2 t s) = BitVec.ofBool (decide (s.val < t.val)) := by
  rw [val_main_v12_apply, val_main_v10_apply, val_main_v8_apply, val_main_v1_apply, val_main_v11_apply, val_main_v9_apply, val_main_v1_apply]
  exact WordCmp.cmpi_slt_ofNat (by have := s.isLt; show s.val < 2 ^ 31; omega) (by have := t.isLt; show t.val < 2 ^ 31; omega)

variable (hq : IsReal q) (hk : IsReal k) (hβ : IsReal β)
include hq hk hβ

/-- The masked log-sigmoids of the sum. -/
theorem masked_apply (b : Fin 16) (h : Fin 12) (t s : Fin 2048) :
    val_main_v16 (F := Ideal) q k β (ix4 b h t s) = ((if s.val < t.val then -sp (logit q k β b h t.val s.val) else 0 : ℝ) : EReal) := by
  have h0 : FloatOps.ofBits (F := Ideal) .f32 0x00000000#32 = 0 := Ideal.ofBits_zero_f32
  have ei : idx_main_call2_v1 (ix4 b h t s) = ix2 t s := by
    funext a; match a with
      | ⟨0, _⟩ => rfl
      | ⟨1, _⟩ => rfl
  rw [val_main_v16_apply, val_main_call2_v1_apply, ei, mask_apply, log_sigmoid_neg_apply q k β _ _ (logits_apply q k β hq hk hβ b h t s),
    val_main_call2_v2_apply, val_main_call2_v0_apply, val_main_cst_0_apply, h0]
  by_cases hst : s.val < t.val
  · rw [if_pos hst, decide_eq_true hst]; rfl
  · rw [if_neg hst, decide_eq_false hst]; rfl

/-- The running sum: minus the tail. -/
theorem cumsum_read (b : Fin 16) (h : Fin 12) (t s : Fin 2048) :
    val_main_v17 (F := Ideal) q k β (ix4 b h t s) = ((-tail (logit q k β b h t.val) t.val s.val : ℝ) : EReal) := by
  have h0 : ∀ i, val_main_call3_v0 (F := Ideal) i = 0 := fun i => by
    rw [val_main_call3_v0_apply, val_main_call3_cst_apply]; exact Ideal.ofBits_zero_f32
  unfold val_main_v17
  rw [cumsum_apply _ _ h0]
  have hterm : ∀ j : Fin 2048, (if hj : s.val + j.val < 2048 then val_main_v16 (F := Ideal) q k β (ix4 b h t ⟨s.val + j.val, hj⟩) else 0)
      = ((if s.val + j.val < t.val then -sp (logit q k β b h t.val (s.val + j.val)) else 0 : ℝ) : EReal) := by
    intro j
    by_cases hj : s.val + j.val < 2048
    · rw [dif_pos hj, masked_apply q k β hq hk hβ]
    · rw [dif_neg hj, if_neg (by have := t.isLt; omega)]; rfl
  rw [Finset.sum_congr rfl fun j _ => hterm j, coe_sum, Fin.sum_univ_eq_sum_range (fun j => if s.val + j < t.val then -sp (logit q k β b h t.val (s.val + j)) else 0) 2048]
  congr 1
  have hb := tail_block (logit q k β b h t.val) t.val s.val 2048
  have hz : tail (logit q k β b h t.val) t.val (s.val + 2048) = 0 := by
    unfold tail; rw [Finset.Ico_eq_empty (by have := t.isLt; omega)]; rfl
  rw [hz, add_zero] at hb
  rw [← hb, ← Finset.sum_neg_distrib]
  refine Finset.sum_congr rfl fun j _ => ?_
  split_ifs <;> simp

/-- The running sum moved by one key, zero past the last. -/
theorem shifted_apply (b : Fin 16) (h : Fin 12) (t s : Fin 2048) :
    val_main_v21 (F := Ideal) q k β (ix4 b h t s) = ((-tail (logit q k β b h t.val) t.val (s.val + 1) : ℝ) : EReal) := by
  unfold val_main_v21
  pointwise
  by_cases hs : s.val < 2047
  · rw [dif_pos hs, val_main_v18_apply]
    have ei : ∀ x, x = idx_main_v18 (ix4 b h t ⟨s.val, hs⟩) → val_main_v17 (F := Ideal) q k β x = ((-tail (logit q k β b h t.val) t.val (s.val + 1) : ℝ) : EReal) := by
      rintro x rfl
      rw [← cumsum_read q k β hq hk hβ b h t ⟨s.val + 1, by omega⟩]
      congr 1
      funext a; apply Fin.ext
      match a with
      | ⟨0, _⟩ => rfl
      | ⟨1, _⟩ => rfl
      | ⟨2, _⟩ => rfl
      | ⟨3, _⟩ => exact Nat.add_comm 1 s.val
    exact ei _ rfl
  · rw [dif_neg hs, val_main_v20_apply, val_main_cst_1_apply]
    have hz : tail (logit q k β b h t.val) t.val (s.val + 1) = 0 := by
      unfold tail; rw [Finset.Ico_eq_empty (by have := t.isLt; omega)]; rfl
    rw [hz, neg_zero]
    exact Ideal.ofBits_zero_f32

/-- The reference's weights. -/
theorem weight_apply (b : Fin 16) (h : Fin 12) (t s : Fin 2048) :
    val_main_v24 (F := Ideal) q k β (ix4 b h t s) = ((weight (logit q k β b h t.val) t.val s.val : ℝ) : EReal) := by
  have h0 : FloatOps.ofBits (F := Ideal) .f32 0x00000000#32 = 0 := Ideal.ofBits_zero_f32
  have ei : idx_main_call4_v1 (ix4 b h t s) = ix2 t s := by
    funext a; match a with
      | ⟨0, _⟩ => rfl
      | ⟨1, _⟩ => rfl
  rw [val_main_v24_apply, val_main_call4_v1_apply, ei, mask_apply, val_main_v23_apply, val_main_v22_apply,
    log_sigmoid_apply q k β _ _ (logits_apply q k β hq hk hβ b h t s), shifted_apply q k β hq hk hβ,
    val_main_call4_v2_apply, val_main_call4_v0_apply, val_main_cst_2_apply, h0, Ideal.addf_def, ← EReal.coe_add, Ideal.hostUnary_exp_def, Ideal.exp_coe]
  unfold weight
  by_cases hst : s.val < t.val
  · rw [if_pos hst, decide_eq_true hst, ← sub_eq_add_neg]; rfl
  · rw [if_neg hst, decide_eq_false hst]; rfl

/-- The reference's result at row `2048 b + t` and column `64 h + d`. -/
theorem result_apply (b : Fin 16) (t : Fin 2048) (h : Fin 12) (d : Fin 64) (i : S32768x768.Idx)
    (hi0 : (i 0).val = 2048 * b.val + t.val) (hi1 : (i 1).val = 64 * h.val + d.val) :
    val_main_v28 (F := Ideal) q k v β i = out q k v β b t.val h d := by
  have ei : idx_main_v26 (idx_main_v27 i) = ix4 b h d t := by
    have h1 := b.isLt; have h2 := t.isLt; have h3 := h.isLt; have h4 := d.isLt
    funext a; apply Fin.ext
    match a with
    | ⟨0, _⟩ => show ((i 0).val * 768 + (i 1).val) / 1572864 = b.val; omega
    | ⟨1, _⟩ => show ((i 0).val * 768 + (i 1).val) / 64 % 12 = h.val; omega
    | ⟨2, _⟩ => show ((i 0).val * 768 + (i 1).val) % 64 = d.val; omega
    | ⟨3, _⟩ => show ((i 0).val * 768 + (i 1).val) / 768 % 2048 = t.val; omega
  rw [val_main_v28_apply, val_main_v27_apply, val_main_v26_apply, ei, val_main_v25_apply]
  show (∑ j : Fin 2048, v (lidx_main_v25 (ix4 b h d t) j) * val_main_v24 (F := Ideal) q k β (ridx_main_v25 (ix4 b h d t) j)) = _
  unfold out
  rw [← Fin.sum_univ_eq_sum_range (fun s => ((weight (logit q k β b h t.val) t.val s : ℝ) : EReal) * at4 v b s h d) 2048]
  refine Finset.sum_congr rfl fun j _ => ?_
  have er : ridx_main_v25 (ix4 b h d t) j = ix4 b h t j := by
    funext a; match a with
      | ⟨0, _⟩ => rfl
      | ⟨1, _⟩ => rfl
      | ⟨2, _⟩ => rfl
      | ⟨3, _⟩ => rfl
  have el : lidx_main_v25 (ix4 b h d t) j = ix4 b ⟨j.val % 2048, Nat.mod_lt _ (by norm_num)⟩ h d := by
    funext a; apply Fin.ext
    match a with
    | ⟨0, _⟩ => rfl
    | ⟨1, _⟩ => exact (Nat.mod_eq_of_lt j.isLt).symm
    | ⟨2, _⟩ => rfl
    | ⟨3, _⟩ => rfl
  rw [er, el, weight_apply q k β hq hk hβ, mul_comm]
  rfl

end Cert.Ref

end
-- ==== Proof.Step.lean ====
/- One step of the kernel's walk over blocks of 256 keys, written as vector operations over any
   instance: the logits of a pair of heads, their soft pluses split in two addends, the scan of all
   six pairs by one product, the weights, and the new carry and accumulator of a pair. -/
module

public import proofs.«01_k».proof.Proof.Gen.KernelIdeal.Loops
public import Idealize.ShloMosaic.Lib.Pipeline.FrameBody
public import Idealize.ShloMosaic.Lib.Pointwise

@[expose] public section

set_option maxRecDepth 16384

noncomputable section

namespace Cert.Step

open Cert.KernelIdeal Cert.KernelIdeal.Gen Idealize.ShloMosaic Idealize.ShloMosaic.TcCoe

variable {F : FTy → Type} [FloatOps F] [Named F]

/-! ### What is loaded for pair `p` -/

/-- The bias of head `n`. -/
def biasAt (x : S12.Idx → F .f32) (n : ℕ) (h : ∀ a, (![n] : Fin 1 → ℕ) a + S1.size a ≤ S12.size a) : F .f32 :=
  View.ld (Val := Elt F) (e' := .f32) x (Rect.unit (s := S12) ![n] S1.size h) (Shape.Idx.first (s := S1) (by decide))

theorem inb_bias (p : Fin 6) (u : Fin 2) : ∀ a, (![2 * p.val + u.val] : Fin 1 → ℕ) a + S1.size a ≤ S12.size a := by
  intro a; fin_cases a; simp; omega

theorem inb_q (p : Fin 6) : ∀ a, (![0, 128 * p.val] : Fin 2 → ℕ) a + S256x128.size a ≤ S256x768.size a := by
  intro a; fin_cases a <;> simp <;> omega

theorem inb_k (p : Fin 6) (col : ℕ) (h : col + 256 ≤ 2048) :
    ∀ a, (![128 * p.val, col] : Fin 2 → ℕ) a + S128x256.size a ≤ S768x2048.size a := by
  intro a; fin_cases a <;> simp <;> omega

theorem inb_v (p : Fin 6) (col : ℕ) (h : col + 256 ≤ 2048) :
    ∀ a, (![col, 128 * p.val] : Fin 2 → ℕ) a + S256x128.size a ≤ S2048x768.size a := by
  intro a; fin_cases a <;> simp <;> omega

theorem inb_c (p : Fin 6) : ∀ a, (![p.val, 0, 0] : Fin 3 → ℕ) a + S1x512x128.size a ≤ S6x512x128.size a := by
  intro a; fin_cases a <;> simp <;> omega

theorem inb_a (p : Fin 6) : ∀ a, (![p.val, 0, 0] : Fin 3 → ℕ) a + S1x256x128.size a ≤ S6x256x128.size a := by
  intro a; fin_cases a <;> simp <;> omega

def qAt (x : S256x768.Idx → F .bf16) (p : Fin 6) : FVec F S256x128 .bf16 :=
  View.ld (Val := Elt F) (e' := .bf16) x (Rect.unit (s := S256x768) ![0, 128 * p.val] S256x128.size (inb_q p))

def kAt (x : S768x2048.Idx → F .bf16) (p : Fin 6) (col : ℕ) (h : col + 256 ≤ 2048) : FVec F S128x256 .bf16 :=
  View.ld (Val := Elt F) (e' := .bf16) x (Rect.unit (s := S768x2048) ![128 * p.val, col] S128x256.size (inb_k p col h))

def vAt (x : S2048x768.Idx → F .bf16) (p : Fin 6) (col : ℕ) (h : col + 256 ≤ 2048) : FVec F S256x128 .bf16 :=
  View.ld (Val := Elt F) (e' := .bf16) x (Rect.unit (s := S2048x768) ![col, 128 * p.val] S256x128.size (inb_v p col h))

def cAt (x : S6x512x128.Idx → F .f32) (p : Fin 6) : FVec F S512x128 .f32 :=
  shapeCast S512x128 (s := S1x512x128)
    (View.ld (Val := Elt F) (e' := .f32) x (Rect.unit (s := S6x512x128) ![p.val, 0, 0] S1x512x128.size (inb_c p)))

def aAt (x : S6x256x128.Idx → F .f32) (p : Fin 6) : FVec F S256x128 .f32 :=
  shapeCast S256x128 (s := S1x256x128)
    (View.ld (Val := Elt F) (e' := .f32) x (Rect.unit (s := S6x256x128) ![p.val, 0, 0] S1x256x128.size (inb_a p)))

/-! ### The step's operations -/

/-- The logits of a pair's two heads, rows `256` apart, with the bias, in units of `log 2`. -/
def zed (top : IVec S512x256 1) (x0 : S12.Idx → F .f32) (x1 x2 : S256x768.Idx → F .bf16)
    (x3 : S768x2048.Idx → F .bf16) (col : ℕ) (h : col + 256 ≤ 2048) (p : Fin 6) : FVec F S512x256 .f32 :=
  addf (k0_pay214 (qAt x1 p) (qAt x2 p) (kAt x3 p col h))
    (select top (broadcast S512x256 (Scalar.mulf (biasAt x0 _ (inb_bias p 0)) (Named.named κ "log2e" 0x3FB8AA3B#32)))
      (broadcast S512x256 (Scalar.mulf (biasAt x0 _ (inb_bias p 1)) (Named.named κ "log2e" 0x3FB8AA3B#32))))

def zeros (s : Shape) : FVec F s .f32 := broadcast s (Scalar.ofBits .f32 0x00000000#32)

/-- The soft plus of a logit, both in units of `log 2`. -/
def soft (z : FVec F S512x256 .f32) : FVec F S512x256 .f32 :=
  addf (maximumf z (zeros S512x256))
    (mulf (log (addf (broadcast S512x256 (Scalar.ofBits .f32 0x3F800000#32)) (exp2 (subf (zeros S512x256) (absf z)))))
      (broadcast S512x256 (Named.named κ "log2e" 0x3FB8AA3B#32)))

def hi (x : FVec F S512x256 .f32) : FVec F S512x256 .f32 := extf .f32 (truncf .bf16 x)

def left (x : FVec F S512x256 .f32) : FVec F S512x128 .f32 := extractStridedSlice S512x128 ![0, 0] x slices_S512x256_o0_0_S512x128
def right (x : FVec F S512x256 .f32) : FVec F S512x128 .f32 := extractStridedSlice S512x128 ![0, 128] x slices_S512x256_o0_128_S512x128

/-- The two addends of the left half of a block, side by side. -/
def splitLeft (x : FVec F S512x256 .f32) : FVec F S512x256 .bf16 :=
  concatenate S512x256 1
    [⟨S512x128, extractStridedSlice S512x128 ![0, 0] (truncf .bf16 (hi x) bitsLt_bf16_f32) slices_S512x256_o0_0_S512x128⟩,
     ⟨S512x128, extractStridedSlice S512x128 ![0, 0] (truncf .bf16 (subf x (hi x)) bitsLt_bf16_f32) slices_S512x256_o0_0_S512x128⟩]
    concatenates_S512x128_S512x128_S512x256_d1

/-- The two addends of the right half of a block, side by side. -/
def splitRight (x : FVec F S512x256 .f32) : FVec F S512x256 .bf16 :=
  concatenate S512x256 1
    [⟨S512x128, extractStridedSlice S512x128 ![0, 128] (truncf .bf16 (hi x) bitsLt_bf16_f32) slices_S512x256_o0_128_S512x128⟩,
     ⟨S512x128, extractStridedSlice S512x128 ![0, 128] (truncf .bf16 (subf x (hi x)) bitsLt_bf16_f32) slices_S512x256_o0_128_S512x128⟩]
    concatenates_S512x128_S512x128_S512x256_d1

/-- The scan of all six pairs: one product with the matrix of the exclusive sums. -/
def scan (g : Fin 6 → FVec F S512x256 .f32) (x6 : S256x256.Idx → F .bf16) : FVec F S6144x256 .f32 :=
  matmul dot_S6144x256_S256x256_S6144x256_1_0_0_1_n_n none
    (concatenate S6144x256 0 [⟨S512x256, splitRight (g 0)⟩, ⟨S512x256, splitLeft (g 0)⟩, ⟨S512x256, splitRight (g 1)⟩,
      ⟨S512x256, splitLeft (g 1)⟩, ⟨S512x256, splitRight (g 2)⟩, ⟨S512x256, splitLeft (g 2)⟩, ⟨S512x256, splitRight (g 3)⟩,
      ⟨S512x256, splitLeft (g 3)⟩, ⟨S512x256, splitRight (g 4)⟩, ⟨S512x256, splitLeft (g 4)⟩, ⟨S512x256, splitRight (g 5)⟩,
      ⟨S512x256, splitLeft (g 5)⟩]
      concatenates_S512x256_S512x256_S512x256_S512x256_S512x256_S512x256_S512x256_S512x256_S512x256_S512x256_S512x256_S512x256_S6144x256_d0)
    (shapeCast S256x256 (s := S256x256)
      (View.ld (Val := Elt F) (e' := .bf16) x6 (Rect.unit (s := S256x256) ![0, 0] S256x256.size inb_S256x256_S256x256_0_0))
      shapeCasts_S256x256_S256x256)
    (constant S6144x256 .f32 0x00000000#32)

theorem slices_scan (p : Fin 6) (u : Fin 2) : S6144x256.Slices ![1024 * p.val + 512 * u.val, 0] S512x256 := by
  fin_cases p <;> fin_cases u <;> decide

/-- The rows of the scan that belong to one half of pair `p`'s block: `0` the right half, `1` the left. -/
def rows (S : FVec F S6144x256 .f32) (p : Fin 6) (u : Fin 2) : FVec F S512x256 .f32 :=
  extractStridedSlice S512x256 ![1024 * p.val + 512 * u.val, 0] S (slices_scan p u)

/-- The carry after the block. -/
def carry (br bl : FVec F S512x256 .f32) (cy : FVec F S512x128 .f32) : FVec F S512x128 .f32 :=
  addf (addf cy (right br)) (right bl)

/-- The weights of the block. -/
def wts (lb br bl : FVec F S512x256 .f32) (cy : FVec F S512x128 .f32) : FVec F S512x256 .f32 :=
  concatenate S512x256 1
    [⟨S512x128, exp2 (addf (addf (left lb) (left bl)) (addf cy (right br)))⟩,
     ⟨S512x128, exp2 (addf (addf (right lb) (left br)) cy)⟩]
    concatenates_S512x128_S512x128_S512x256_d1

/-- The weights of both heads, side by side, times the values of both heads, one above the other. -/
def pv (w : FVec F S512x256 .f32) (ve vo : FVec F S256x128 .bf16) : FVec F S256x128 .f32 :=
  matmul dot_S256x512_S512x128_S256x128_1_0_0_1_n_n none
    (truncf .bf16 (concatenate S256x512 1
      [⟨S256x256, extractStridedSlice S256x256 ![0, 0] w slices_S512x256_o0_0_S256x256⟩,
       ⟨S256x256, extractStridedSlice S256x256 ![256, 0] w slices_S512x256_o256_0_S256x256⟩]
      concatenates_S256x256_S256x256_S256x512_d1) bitsLt_bf16_f32)
    (k0_pay281 ve vo)
    (constant S256x128 .f32 0x00000000#32)

/-! ### A step below the diagonal -/

variable (top msk : IVec S512x256 1) (x0 : S12.Idx → F .f32) (x1 x2 : S256x768.Idx → F .bf16) (x3 : S768x2048.Idx → F .bf16)
  (x4 x5 : S2048x768.Idx → F .bf16) (x6 : S256x256.Idx → F .bf16) (col : ℕ) (h : col + 256 ≤ 2048)
  (C : Fin 6 → FVec F S512x128 .f32) (A : Fin 6 → FVec F S256x128 .f32)

def sft (p : Fin 6) : FVec F S512x256 .f32 := soft (zed top x0 x1 x2 x3 col h p)
def lbt (p : Fin 6) : FVec F S512x256 .f32 := subf (zed top x0 x1 x2 x3 col h p) (sft top x0 x1 x2 x3 col h p)
def sca : FVec F S6144x256 .f32 := scan (sft top x0 x1 x2 x3 col h) x6

def newC (p : Fin 6) : FVec F S512x128 .f32 :=
  carry (rows (sca top x0 x1 x2 x3 x6 col h) p 0) (rows (sca top x0 x1 x2 x3 x6 col h) p 1) (C p)

def wt (p : Fin 6) : FVec F S512x256 .f32 :=
  wts (lbt top x0 x1 x2 x3 col h p) (rows (sca top x0 x1 x2 x3 x6 col h) p 0) (rows (sca top x0 x1 x2 x3 x6 col h) p 1) (C p)

def newA (p : Fin 6) : FVec F S256x128 .f32 :=
  addf (A p) (pv (wt top x0 x1 x2 x3 x6 col h C p) (vAt x4 p col h) (vAt x5 p col h))

/-! ### The step on the diagonal -/

def msft (p : Fin 6) : FVec F S512x256 .f32 := select msk (sft top x0 x1 x2 x3 col h p) (zeros S512x256)
def msca : FVec F S6144x256 .f32 := scan (msft top msk x0 x1 x2 x3 col h) x6

def mnewC (p : Fin 6) : FVec F S512x128 .f32 :=
  carry (rows (msca top msk x0 x1 x2 x3 x6 col h) p 0) (rows (msca top msk x0 x1 x2 x3 x6 col h) p 1) (zeros S512x128)

def mwt (p : Fin 6) : FVec F S512x256 .f32 :=
  select msk (wts (lbt top x0 x1 x2 x3 col h p) (rows (msca top msk x0 x1 x2 x3 x6 col h) p 0)
    (rows (msca top msk x0 x1 x2 x3 x6 col h) p 1) (zeros S512x128)) (zeros S512x256)

def mnewA (p : Fin 6) : FVec F S256x128 .f32 :=
  pv (mwt top msk x0 x1 x2 x3 x6 col h p) (vAt x4 p col h) (vAt x5 p col h)

/-! ### The pieces a step stores -/

def pieceC (c : FVec F S512x128 .f32) (p : Fin 6) : View.Piece (Elt F) S6x512x128 .f32 :=
  ⟨Rect.unit (s := S6x512x128) ![p.val, 0, 0] S1x512x128.size (inb_c p), shapeCast S1x512x128 c shapeCasts_S512x128_S1x512x128⟩

def pieceA (a : FVec F S256x128 .f32) (p : Fin 6) : View.Piece (Elt F) S6x256x128 .f32 :=
  ⟨Rect.unit (s := S6x256x128) ![p.val, 0, 0] S1x256x128.size (inb_a p), shapeCast S1x256x128 a shapeCasts_S256x128_S1x256x128⟩

def piecesC (c : Fin 6 → FVec F S512x128 .f32) : List (View.Piece (Elt F) S6x512x128 .f32) :=
  [pieceC (c 5) 5, pieceC (c 4) 4, pieceC (c 3) 3, pieceC (c 2) 2, pieceC (c 1) 1, pieceC (c 0) 0]

def piecesA (a : Fin 6 → FVec F S256x128 .f32) : List (View.Piece (Elt F) S6x256x128 .f32) :=
  [pieceA (a 5) 5, pieceA (a 4) 4, pieceA (a 3) 3, pieceA (a 2) 2, pieceA (a 1) 1, pieceA (a 0) 0]

/-! ### The two scratch buffers, read as arrays -/

def arrC (c : Fin 6 → FVec F S512x128 .f32) : S6x512x128.Idx → F .f32 := fun y => c (y 0) (ix2 (y 1) (y 2))
def arrA (a : Fin 6 → FVec F S256x128 .f32) : S6x256x128.Idx → F .f32 := fun y => a (y 0) (ix2 (y 1) (y 2))

theorem cAt_apply (x : S6x512x128.Idx → F .f32) (p : Fin 6) (r : Fin 512) (l : Fin 128) :
    cAt x p (ix2 r l) = x (ix3 p r l) := by
  unfold cAt
  pointwise

theorem aAt_apply (x : S6x256x128.Idx → F .f32) (p : Fin 6) (r : Fin 256) (l : Fin 128) :
    aAt x p (ix2 r l) = x (ix3 p r l) := by
  unfold aAt
  pointwise

/-- The six pieces, whatever they are stored over, leave the array they are pieces of. -/
theorem read_piecesC {κ : Kind} {sp : Space} (v : View sig κ sp S6x512x128 .f32) (f : v.ty.Contents (Elt F)) (c : Fin 6 → FVec F S512x128 .f32) :
    v.read (Elt F) (v.writes (Elt F) f (piecesC c)) = arrC c := by
  funext y
  refine View.read_writes_apply_of_pieces v f (arrC c) _ ?_ y ?_
  · have key : ∀ (p : Fin 6) (x : (pieceC (c p) p).1.shape.Idx), (pieceC (c p) p).2 x = arrC c ((pieceC (c p) p).1.emb x) := by
      intro p x
      unfold pieceC arrC
      pointwise
      have hx : (x 0).val = 0 := by have := (x 0).isLt; simp [pieceC] at this; omega
      have h0 : (Rect.unit (s := S6x512x128) ![p.val, 0, 0] S1x512x128.size (inb_c p)).emb x 0 = p := by
        apply Fin.ext
        show p.val + 1 * (x 0).val = p.val
        omega
      have h1 : (Rect.unit (s := S6x512x128) ![p.val, 0, 0] S1x512x128.size (inb_c p)).emb x 1 = x 1 := by
        apply Fin.ext
        show 0 + 1 * (x 1).val = (x 1).val
        omega
      have h2 : (Rect.unit (s := S6x512x128) ![p.val, 0, 0] S1x512x128.size (inb_c p)).emb x 2 = x 2 := by
        apply Fin.ext
        show 0 + 1 * (x 2).val = (x 2).val
        omega
      rw [h0, h1, h2]
    intro p hp x
    simp only [piecesC, List.mem_cons, List.not_mem_nil, or_false] at hp
    rcases hp with rfl | rfl | rfl | rfl | rfl | rfl <;> exact key _ x
  · have hm : pieceC (c (y 0)) (y 0) ∈ piecesC c := by
      unfold piecesC
      generalize y 0 = p
      fin_cases p <;> simp
    refine ⟨_, hm, ?_⟩
    unfold pieceC
    rw [Rect.mem_set_unit]
    intro a
    have h1 := (y 1).isLt
    have h2 := (y 2).isLt
    fin_cases a <;> simp at h1 h2 ⊢ <;> omega

/-- The same for the accumulator. -/
theorem read_piecesA {κ : Kind} {sp : Space} (v : View sig κ sp S6x256x128 .f32) (f : v.ty.Contents (Elt F)) (c : Fin 6 → FVec F S256x128 .f32) :
    v.read (Elt F) (v.writes (Elt F) f (piecesA c)) = arrA c := by
  funext y
  refine View.read_writes_apply_of_pieces v f (arrA c) _ ?_ y ?_
  · have key : ∀ (p : Fin 6) (x : (pieceA (c p) p).1.shape.Idx), (pieceA (c p) p).2 x = arrA c ((pieceA (c p) p).1.emb x) := by
      intro p x
      unfold pieceA arrA
      pointwise
      have hx : (x 0).val = 0 := by have := (x 0).isLt; simp [pieceA] at this; omega
      have h0 : (Rect.unit (s := S6x256x128) ![p.val, 0, 0] S1x256x128.size (inb_a p)).emb x 0 = p := by
        apply Fin.ext
        show p.val + 1 * (x 0).val = p.val
        omega
      have h1 : (Rect.unit (s := S6x256x128) ![p.val, 0, 0] S1x256x128.size (inb_a p)).emb x 1 = x 1 := by
        apply Fin.ext
        show 0 + 1 * (x 1).val = (x 1).val
        omega
      have h2 : (Rect.unit (s := S6x256x128) ![p.val, 0, 0] S1x256x128.size (inb_a p)).emb x 2 = x 2 := by
        apply Fin.ext
        show 0 + 1 * (x 2).val = (x 2).val
        omega
      rw [h0, h1, h2]
    intro p hp x
    simp only [piecesA, List.mem_cons, List.not_mem_nil, or_false] at hp
    rcases hp with rfl | rfl | rfl | rfl | rfl | rfl <;> exact key _ x
  · have hm : pieceA (c (y 0)) (y 0) ∈ piecesA c := by
      unfold piecesA
      generalize y 0 = p
      fin_cases p <;> simp
    refine ⟨_, hm, ?_⟩
    unfold pieceA
    rw [Rect.mem_set_unit]
    intro a
    have h1 := (y 1).isLt
    have h2 := (y 2).isLt
    fin_cases a <;> simp at h1 h2 ⊢ <;> omega

theorem cAt_arrC (c : Fin 6 → FVec F S512x128 .f32) : cAt (arrC c) = c := by
  funext p x
  idx_vars x
  rw [cAt_apply]
  rfl

theorem aAt_arrA (a : Fin 6 → FVec F S256x128 .f32) : aAt (arrA a) = a := by
  funext p x
  idx_vars x
  rw [aAt_apply]
  rfl

end Cert.Step

end
-- ==== Proof.Trip.lean ====
/- The pieces that one trip of the loop stores, as the step of Step.lean, and the contents of the two
   scratch buffers after some trips. -/
module

public import proofs.«01_k».proof.Proof.Gen.KernelIdeal.Loops
public import proofs.«01_k».proof.Proof.Step

@[expose] public section

set_option maxRecDepth 16384
set_option maxHeartbeats 4000000

noncomputable section

namespace Cert.Trip

open Cert.KernelIdeal Cert.KernelIdeal.Gen Idealize.ShloMosaic Idealize.ShloMosaic.TcCoe Idealize.SL Idealize.SL.Sem Cert.Step

variable {F : FTy → Type} [FloatOps F] [Named F]

/-- The first key of the block that trip `k` handles. -/
def colOf (i : grid0.Coords) (k : Fin (k0_t1_loop i).trips) : ℕ := k0_off13 i k 1

theorem trip_carry (𝒱 : Variants) (c : Dev nD) (bd : Option 𝒱.V) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (arg1 : BitVec 32) (v2 : IVec S512x256 1) (v7 : IVec S512x256 1) (v9 : BitVec 32) (v485 : FVec F S512x128 .f32) (v488 : FVec F S512x128 .f32) (v494 : FVec F S512x128 .f32) (v495 : FVec F S512x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin (k0_t1_loop i).trips) (f10 : BufTy.Contents (Elt F) arg10.view.ty) (f11 : BufTy.Contents (Elt F) arg11.view.ty) (h : colOf i k + 256 ≤ 2048) :
    (trip_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 k).1 f10 f11
      = piecesC (newC v2 (arg2.view.read (Elt F) X_arg2) (arg3.view.read (Elt F) X_arg3) (arg4.view.read (Elt F) X_arg4) (arg5.view.read (Elt F) X_arg5) (arg8.view.read (Elt F) X_arg8) (colOf i k) h (cAt (arg10.view.read (Elt F) f10))) := by
  unfold trip_k0_t1
  dsimp only
  rfl

theorem trip_acc (𝒱 : Variants) (c : Dev nD) (bd : Option 𝒱.V) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (arg1 : BitVec 32) (v2 : IVec S512x256 1) (v7 : IVec S512x256 1) (v9 : BitVec 32) (v485 : FVec F S512x128 .f32) (v488 : FVec F S512x128 .f32) (v494 : FVec F S512x128 .f32) (v495 : FVec F S512x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin (k0_t1_loop i).trips) (f10 : BufTy.Contents (Elt F) arg10.view.ty) (f11 : BufTy.Contents (Elt F) arg11.view.ty) (h : colOf i k + 256 ≤ 2048) :
    (trip_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 k).2.1 f10 f11
      = piecesA (newA v2 (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (colOf i k) h (cAt (arg10.view.read (Elt F) f10)) (aAt (arg11.view.read (Elt F) f11))) := by
  unfold trip_k0_t1
  dsimp only
  rfl

/-- The count of trips below the diagonal block `i 1`. -/
theorem trips_eq (i : grid0.Coords) : (k0_t1_loop i).trips = (i 1).val := by
  have h : (i 1).val < 8 := (i 1).isLt
  show Scf.trips 0#32 (Scalar.addi 0#32 (Scalar.muli (Scalar.divsi (Scalar.subi (BitVec.ofNat 32 (i 1).val) 0#32) 1#32) 1#32)) 1#32 = (i 1).val
  generalize (i 1).val = n at h
  interval_cases n <;> rfl

/-- The second loop, of what a multiple of its step leaves over, makes no trip. -/
theorem trips2_eq (i : grid0.Coords) : (k0_t2_loop i).trips = 0 := by
  have h : (i 1).val < 8 := (i 1).isLt
  show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0
  generalize (i 1).val = n at h
  interval_cases n <;> rfl

theorem col_word (n k : ℕ) (hn : n < 8) (hk : k < n) :
    (Scalar.indexCast (Scalar.muli (Scalar.subi (Scalar.subi (BitVec.ofNat 32 n) 1#32) (Scf.iv 0#32 1#32 k)) 256#32) : Index).toNat
      = 256 * (n - 1 - k) := by
  interval_cases n <;> interval_cases k <;> rfl

/-- Trip `k` handles the block `i 1 - 1 - k`. -/
theorem colOf_eq (i : grid0.Coords) (k : Fin (k0_t1_loop i).trips) : colOf i k = 256 * ((i 1).val - 1 - k.val) :=
  col_word _ _ (i 1).isLt (k.isLt.trans_eq (trips_eq i))

theorem col_le (i : grid0.Coords) (k : Fin (k0_t1_loop i).trips) : colOf i k + 256 ≤ 2048 := by
  have h : (i 1).val < 8 := (i 1).isLt
  rw [colOf_eq]
  omega

/-- The contents of the scratch buffers after some trips, from any property of the carries and the accumulators that one
    step of Step.lean keeps. -/
theorem walk (𝒱 : Variants) (c : Dev nD) (bd : Option 𝒱.V) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (arg1 : BitVec 32) (v2 : IVec S512x256 1) (v7 : IVec S512x256 1) (v9 : BitVec 32) (v485 : FVec F S512x128 .f32) (v488 : FVec F S512x128 .f32) (v494 : FVec F S512x128 .f32) (v495 : FVec F S512x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)  (G10 : BufTy.Contents (Elt F) arg10.view.ty) (G11 : BufTy.Contents (Elt F) arg11.view.ty)
    (Good : ℕ → (Fin 6 → FVec F S512x128 .f32) → (Fin 6 → FVec F S256x128 .f32) → Prop)
    (c0 : Fin 6 → FVec F S512x128 .f32) (a0 : Fin 6 → FVec F S256x128 .f32)
    (hC : arg10.view.read (Elt F) G10 = arrC c0) (hA : arg11.view.read (Elt F) G11 = arrA a0) (hg : Good 0 c0 a0)
    (hs : ∀ (k : Fin (k0_t1_loop i).trips) c a, Good k.val c a →
      Good (k.val + 1) (newC v2 (arg2.view.read (Elt F) X_arg2) (arg3.view.read (Elt F) X_arg3) (arg4.view.read (Elt F) X_arg4) (arg5.view.read (Elt F) X_arg5) (arg8.view.read (Elt F) X_arg8) (colOf i k) (col_le i k) c)
        (newA v2 (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (colOf i k) (col_le i k) c a)) :
    ∀ n ≤ (k0_t1_loop i).trips, ∃ cy a,
      arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 G10 G11 n).1) = arrC cy
      ∧ arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 G10 G11 n).2) = arrA a
      ∧ Good n cy a := by
  intro n
  induction n with
  | zero => exact fun _ => ⟨c0, a0, hC, hA, hg⟩
  | succ n ih =>
    intro hn
    obtain ⟨cy, a, h1, h2, h3⟩ := ih (by omega)
    have e := pb_k0_t1_succ (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 G10 G11 ⟨n, by omega⟩
    refine ⟨_, _, ?_, ?_, hs ⟨n, by omega⟩ cy a h3⟩
    · rw [e]
      show arg10.view.read (Elt F) (arg10.view.writes (Elt F) G10 ((trip_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 ⟨n, by omega⟩).1 _ _ ++ _)) = _
      rw [View.writes_append, trip_carry _ _ _ _ _ _ _ _ _ _ _ _ _ _ _ _ _ _ _ _ _ _ _ _ _ _ _ _ _ _ _ _ _ _ _ _ _ _ _ _ _ _ (col_le i _), read_piecesC, h1, cAt_arrC]
    · rw [e]
      show arg11.view.read (Elt F) (arg11.view.writes (Elt F) G11 ((trip_k0_t1 (F := F) 𝒱 c bd i arg2 harg2 arg3 harg3 arg4 harg4 arg5 harg5 arg6 harg6 arg7 harg7 arg8 harg8 arg9 harg9 arg10 harg10 arg11 harg11 arg1 v2 v7 v9 v485 v488 v494 v495 X_arg2 X_arg3 X_arg4 X_arg5 X_arg6 X_arg7 X_arg8 ⟨n, by omega⟩).2.1 _ _ ++ _)) = _
      rw [View.writes_append, trip_acc _ _ _ _ _ _ _ _ _ _ _ _ _ _ _ _ _ _ _ _ _ _ _ _ _ _ _ _ _ _ _ _ _ _ _ _ _ _ _ _ _ _ (col_le i _), read_piecesA, h1, h2, cAt_arrC, aAt_arrA]
end Cert.Trip
end
-- ==== Proof.Out.lean ====
/- What the kernel leaves in its output block at one grid point: the accumulators after the diagonal step
   and the trips below it, rounded. -/
module

public import proofs.«01_k».proof.Proof.Gen.KernelIdeal.Frame
public import proofs.«01_k».proof.Proof.Trip

@[expose] public section

set_option maxRecDepth 16384
set_option maxHeartbeats 4000000

noncomputable section

namespace Cert.Out

open Cert.KernelIdeal Cert.KernelIdeal.Gen Idealize.ShloMosaic Idealize.ShloMosaic.TcCoe Idealize.SL Idealize.SL.Sem Cert.Step Cert.Trip

variable {F : FTy → Type} [FloatOps F] [Named F]

/-- The first key of the diagonal block. -/
def col0 (i : grid0.Coords) : ℕ := k0_off1 i 1

theorem col0_eq (i : grid0.Coords) : col0 i = 256 * (i 1).val := by
  have h : (i 1).val < 8 := (i 1).isLt
  show (Scalar.indexCast (Scalar.muli (BitVec.ofNat 32 (i 1).val) 256#32) : Index).toNat = _
  generalize (i 1).val = n at h
  interval_cases n <;> rfl

theorem col0_le (i : grid0.Coords) : col0 i + 256 ≤ 2048 := by
  have h : (i 1).val < 8 := (i 1).isLt
  rw [col0_eq]
  omega

def outC (i : grid0.Coords) (x0 : S12.Idx → F .f32) (x1 x2 : S256x768.Idx → F .bf16) (x3 : S768x2048.Idx → F .bf16)
    (x6 : S256x256.Idx → F .bf16) : Fin 6 → FVec F S512x128 .f32 :=
  mnewC k0_pay212 k0_pay213 x0 x1 x2 x3 x6 (col0 i) (col0_le i)

def outA (i : grid0.Coords) (x0 : S12.Idx → F .f32) (x1 x2 : S256x768.Idx → F .bf16) (x3 : S768x2048.Idx → F .bf16)
    (x4 x5 : S2048x768.Idx → F .bf16) (x6 : S256x256.Idx → F .bf16) : Fin 6 → FVec F S256x128 .f32 :=
  mnewA k0_pay212 k0_pay213 x0 x1 x2 x3 x4 x5 x6 (col0 i) (col0_le i)

theorem first_carry (c : Dev nD) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (x0 : Vec F S12 .f32) (x1 : Vec F S256x768 .bf16) (x2 : Vec F S256x768 .bf16) (x3 : Vec F S768x2048 .bf16) (x4 : Vec F S2048x768 .bf16) (x5 : Vec F S2048x768 .bf16) (x6 : Vec F S256x256 .bf16) : kernelRun0_A.sl.HS0_6 (F := F) c i arg2 harg2 arg3 harg3 arg4 harg4 arg5 harg5 arg8 harg8 x0 x1 x2 x3 x6 = piecesC (outC i x0 x1 x2 x3 x6) := by
  have e : kernelRun0_A.sl.HS0_6 (F := F) c i arg2 harg2 arg3 harg3 arg4 harg4 arg5 harg5 arg8 harg8 x0 x1 x2 x3 x6 = piecesC (outC i (arg2.view.read (Elt F) (harg2.unread x0)) (arg3.view.read (Elt F) (harg3.unread x1)) (arg4.view.read (Elt F) (harg4.unread x2)) (arg5.view.read (Elt F) (harg5.unread x3)) (arg8.view.read (Elt F) (harg8.unread x6))) := rfl
  rw [e]
  simp only [Memref.IsWhole.read_unread]

theorem first_acc (c : Dev nD) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (x0 : Vec F S12 .f32) (x1 : Vec F S256x768 .bf16) (x2 : Vec F S256x768 .bf16) (x3 : Vec F S768x2048 .bf16) (x4 : Vec F S2048x768 .bf16) (x5 : Vec F S2048x768 .bf16) (x6 : Vec F S256x256 .bf16) : kernelRun0_A.sl.HS1_6 (F := F) c i arg2 harg2 arg3 harg3 arg4 harg4 arg5 harg5 arg6 harg6 arg7 harg7 arg8 harg8 x0 x1 x2 x3 x4 x5 x6 = piecesA (outA i x0 x1 x2 x3 x4 x5 x6) := by
  have e : kernelRun0_A.sl.HS1_6 (F := F) c i arg2 harg2 arg3 harg3 arg4 harg4 arg5 harg5 arg6 harg6 arg7 harg7 arg8 harg8 x0 x1 x2 x3 x4 x5 x6 = piecesA (outA i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6))) := rfl
  rw [e]
  simp only [Memref.IsWhole.read_unread]

/-! ### The output block -/

/-- The output block: the accumulators of the six pairs side by side, rounded. -/
def arrO (a : Fin 6 → FVec F S256x128 .f32) : S256x768.Idx → F .bf16 := fun y =>
  truncf .bf16 (a ⟨(y 1).val / 128, by have : (y 1).val < 768 := (y 1).isLt; omega⟩) bitsLt_bf16_f32
    (ix2 (y 0) ⟨(y 1).val % 128, Nat.mod_lt _ (by decide)⟩)

def pieceO (a : FVec F S256x128 .f32) (p : Fin 6) : View.Piece (Elt F) S256x768 .bf16 :=
  ⟨Rect.unit (s := S256x768) ![0, 128 * p.val] S256x128.size (inb_q p), truncf .bf16 a bitsLt_bf16_f32⟩

def piecesO (a : Fin 6 → FVec F S256x128 .f32) : List (View.Piece (Elt F) S256x768 .bf16) :=
  [pieceO (a 5) 5, pieceO (a 4) 4, pieceO (a 3) 3, pieceO (a 2) 2, pieceO (a 1) 1, pieceO (a 0) 0]

theorem read_piecesO {κ : Kind} {sp : Space} (v : View sig κ sp S256x768 .bf16) (f : v.ty.Contents (Elt F)) (a : Fin 6 → FVec F S256x128 .f32) :
    v.read (Elt F) (v.writes (Elt F) f (piecesO a)) = arrO a := by
  funext y
  refine View.read_writes_apply_of_pieces v f (arrO a) _ ?_ y ?_
  · have key : ∀ (p : Fin 6) (x : (pieceO (a p) p).1.shape.Idx), (pieceO (a p) p).2 x = arrO a ((pieceO (a p) p).1.emb x) := by
      intro p x
      unfold pieceO arrO
      have hx : (x 1).val < 128 := (x 1).isLt
      have h0 : (Rect.unit (s := S256x768) ![0, 128 * p.val] S256x128.size (inb_q p)).emb x 0 = x 0 := by
        apply Fin.ext
        show 0 + 1 * (x 0).val = (x 0).val
        omega
      have h1 : ((Rect.unit (s := S256x768) ![0, 128 * p.val] S256x128.size (inb_q p)).emb x 1).val = 128 * p.val + (x 1).val := by
        show 128 * p.val + 1 * (x 1).val = _
        omega
      have e1 : (⟨((Rect.unit (s := S256x768) ![0, 128 * p.val] S256x128.size (inb_q p)).emb x 1).val / 128,
          by rw [h1]; omega⟩ : Fin 6) = p := Fin.ext (by show _ / 128 = p.val; rw [h1]; omega)
      have e2 : (⟨((Rect.unit (s := S256x768) ![0, 128 * p.val] S256x128.size (inb_q p)).emb x 1).val % 128,
          Nat.mod_lt _ (by decide)⟩ : Fin 128) = x 1 := Fin.ext (by show _ % 128 = (x 1).val; rw [h1]; omega)
      dsimp only
      rw [h0, e1, e2]
      congr 1
      idx_vars x
    intro p hp x
    simp only [piecesO, List.mem_cons, List.not_mem_nil, or_false] at hp
    rcases hp with rfl | rfl | rfl | rfl | rfl | rfl <;> exact key _ x
  · have h1 : (y 1).val < 768 := (y 1).isLt
    have hm : ∀ p, pieceO (a p) p ∈ piecesO a := by
      intro p
      unfold piecesO
      fin_cases p <;> simp
    refine ⟨_, hm ⟨(y 1).val / 128, by omega⟩, ?_⟩
    unfold pieceO
    rw [Rect.mem_set_unit]
    intro b
    have h0 := (y 0).isLt
    fin_cases b <;> simp at h0 ⊢ <;> omega

/-- A load after the trips and a second loop of no trips reads what the trips left. -/
theorem load_after {κ : Kind} {sp : Space} (v : View sig κ sp S6x256x128 .f32) (L2 L1 H1 : List (View.Piece (Elt F) S6x256x128 .f32))
    (B : Rect S6x256x128) (a : Fin 6 → FVec F S256x128 .f32) (e2 : L2 = [])
    (e : v.read (Elt F) (v.writes (Elt F) (v.writes (Elt F) v.junk H1) L1) = arrA a) :
    v.readCov (L2 ++ (L1 ++ H1)) B.toLoadRect = View.ld (Val := Elt F) (e' := .f32) (arrA a) B := by
  subst e2
  show View.ld (v.read (Elt F) (v.writes (Elt F) v.junk (L1 ++ H1))) B = _
  rw [View.writes_append, e]

/-- The output block of a grid point, with any property that the diagonal step has and each step below it keeps. -/
theorem out_eq (c : Dev nD) (i : grid0.Coords) (arg2 : Memref sig .tc .smem S12 .f32) (harg2 : arg2.IsWhole) (arg3 : Memref sig .tc .vmem S256x768 .bf16) (harg3 : arg3.IsWhole) (arg4 : Memref sig .tc .vmem S256x768 .bf16) (harg4 : arg4.IsWhole) (arg5 : Memref sig .tc .vmem S768x2048 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S256x256 .bf16) (harg8 : arg8.IsWhole) (arg9 : Memref sig .tc .vmem S256x768 .bf16) (harg9 : arg9.IsWhole) (arg10 : Memref sig .tc .vmem S6x512x128 .f32) (harg10 : arg10.IsWhole) (arg11 : Memref sig .tc .vmem S6x256x128 .f32) (harg11 : arg11.IsWhole) (x0 : Vec F S12 .f32) (x1 : Vec F S256x768 .bf16) (x2 : Vec F S256x768 .bf16) (x3 : Vec F S768x2048 .bf16) (x4 : Vec F S2048x768 .bf16) (x5 : Vec F S2048x768 .bf16) (x6 : Vec F S256x256 .bf16)
    (Good : ℕ → (Fin 6 → FVec F S512x128 .f32) → (Fin 6 → FVec F S256x128 .f32) → Prop)
    (hg : Good 0 (outC i x0 x1 x2 x3 x6) (outA i x0 x1 x2 x3 x4 x5 x6))
    (hs : ∀ (k : Fin (k0_t1_loop i).trips) cy a, Good k.val cy a →
      Good (k.val + 1) (newC k0_pay212 x0 x1 x2 x3 x6 (colOf i k) (col_le i k) cy)
        (newA k0_pay212 x0 x1 x2 x3 x4 x5 x6 (colOf i k) (col_le i k) cy a)) :
    ∃ cy a, out0_A_7 (F := F) c i arg2 harg2 arg3 harg3 arg4 harg4 arg5 harg5 arg6 harg6 arg7 harg7 arg8 harg8 arg9 harg9 arg10 harg10 arg11 harg11 x0 x1 x2 x3 x4 x5 x6 = arrO a ∧ Good (i 1).val cy a := by
  obtain ⟨cy, a, -, h2, h3⟩ := walk (F := F) Variants.none c none i arg2 harg2 arg3 harg3 arg4 harg4 arg5 harg5 arg6 harg6 arg7 harg7 arg8 harg8 arg9 harg9 arg10 harg10 arg11 harg11 (BitVec.ofNat 32 (i 1).val) k0_pay212 k0_pay213
    (kernelRun0_A.sl.v8 i) (kernelRun0_A.sl.r_50 c i arg2 harg2 arg3 harg3 arg4 harg4 arg5 harg5 arg8 harg8 x0 x1 x2 x3 x6) (kernelRun0_A.sl.r_51 c i arg2 harg2 arg3 harg3 arg4 harg4 arg5 harg5 arg8 harg8 x0 x1 x2 x3 x6) (kernelRun0_A.sl.r_52 c i arg2 harg2 arg3 harg3 arg4 harg4 arg5 harg5 arg8 harg8 x0 x1 x2 x3 x6) (kernelRun0_A.sl.r_53 c i arg2 harg2 arg3 harg3 arg4 harg4 arg5 harg5 arg8 harg8 x0 x1 x2 x3 x6)
    (harg2.unread x0) (harg3.unread x1) (harg4.unread x2) (harg5.unread x3) (harg6.unread x4) (harg7.unread x5) (harg8.unread x6) (arg10.view.writes (Elt F) arg10.view.junk (kernelRun0_A.sl.HS0_6 c i arg2 harg2 arg3 harg3 arg4 harg4 arg5 harg5 arg8 harg8 x0 x1 x2 x3 x6)) (arg11.view.writes (Elt F) arg11.view.junk (kernelRun0_A.sl.HS1_6 c i arg2 harg2 arg3 harg3 arg4 harg4 arg5 harg5 arg6 harg6 arg7 harg7 arg8 harg8 x0 x1 x2 x3 x4 x5 x6))
    Good (outC i x0 x1 x2 x3 x6) (outA i x0 x1 x2 x3 x4 x5 x6)
    (by rw [first_carry c i arg2 harg2 arg3 harg3 arg4 harg4 arg5 harg5 arg6 harg6 arg7 harg7 arg8 harg8 arg9 harg9 arg10 harg10 arg11 harg11 x0 x1 x2 x3 x4 x5 x6, read_piecesC]) (by rw [first_acc c i arg2 harg2 arg3 harg3 arg4 harg4 arg5 harg5 arg6 harg6 arg7 harg7 arg8 harg8 arg9 harg9 arg10 harg10 arg11 harg11 x0 x1 x2 x3 x4 x5 x6, read_piecesA]) hg
    (by simpa only [Memref.IsWhole.read_unread] using hs) _ le_rfl
  refine ⟨cy, a, ?_, by rwa [trips_eq] at h3⟩
  have e : (kernelRun0_A (F := F) c i arg2 harg2 arg3 harg3 arg4 harg4 arg5 harg5 arg6 harg6 arg7 harg7 arg8 harg8 arg9 harg9 arg10 harg10 arg11 harg11 x0 x1 x2 x3 x4 x5 x6).1 = piecesO a := by
    unfold kernelRun0_A
    dsimp only
    have hz := trips2_eq i
    unfold Scf.Loop.trips at hz
    have e0 : kernelRun0_A.sl.v523 (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    have e1 : kernelRun0_A.sl.v (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    have e2 : kernelRun0_A.sl.v531 (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    have e3 : kernelRun0_A.sl.v535 (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    have e4 : kernelRun0_A.sl.v539 (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    have e5 : kernelRun0_A.sl.v543 (F := F) c i arg2 harg2 arg3 harg3 arg4 harg4 arg5 harg5 arg6 harg6 arg7 harg7 arg8 harg8 arg9 harg9 arg10 harg10 arg11 harg11 x0 x1 x2 x3 x4 x5 x6 = View.ld (Val := Elt F) (e' := .f32) (arrA a) _ :=
      load_after arg11.view _ _ _ _ a (by rw [hz]; rfl) h2
    rw [e0, e1, e2, e3, e4, e5]
    rw [show piecesO a = piecesO (aAt (arrA a)) by rw [aAt_arrA]]
    rfl
  show VO0_7.read (Elt F) (VO0_7.writes (Elt F) VO0_7.junk (kernelRun0_A (F := F) c i arg2 harg2 arg3 harg3 arg4 harg4 arg5 harg5 arg6 harg6 arg7 harg7 arg8 harg8 arg9 harg9 arg10 harg10 arg11 harg11 x0 x1 x2 x3 x4 x5 x6).1) = _
  rw [e, read_piecesO]

end Cert.Out
end
-- ==== Proof.Read.lean ====
/- The step's vector operations over the extended reals, read at an index. -/
module

public import proofs.«01_k».proof.Proof.Step
public import proofs.«01_k».proof.Proof.Spec
public import Idealize.ShloMosaic.Lib.WordCmp

@[expose] public section

set_option maxRecDepth 16384

noncomputable section

namespace Cert.Read

open Cert.KernelIdeal Cert.KernelIdeal.Gen Idealize.ShloMosaic Idealize.ShloMosaic.TcCoe Cert.Step Cert.Soft Cert.Spec

/-! ### The masks -/

/-- The first mask: the rows of the even head. -/
theorem top_apply (r : Fin 512) (c : Fin 256) : k0_pay212 (ix2 r c) = BitVec.ofBool (decide (r.val < 256)) := by
  pointwise [k0_pay212]
  exact WordCmp.cmpi_slt_ofNat (a := r.val) (b := 256) (by omega) (by omega)

/-- The second mask: the keys before the query, both counted from their blocks' starts. -/
theorem msk_apply (r : Fin 512) (c : Fin 256) : k0_pay213 (ix2 r c) = BitVec.ofBool (decide (c.val < r.val % 256)) := by
  pointwise [k0_pay213]
  have e : IntOp.andi (BitVec.ofNat 32 r.val) 255#32 = BitVec.ofNat 32 (r.val % 256) := by
    apply BitVec.eq_of_toNat_eq
    show (BitVec.ofNat 32 r.val &&& 255#32).toNat = _
    rw [BitVec.toNat_and, BitVec.toNat_ofNat, BitVec.toNat_ofNat, BitVec.toNat_ofNat,
      Nat.mod_eq_of_lt (by omega : r.val < 2 ^ 32), Nat.mod_eq_of_lt (by omega : r.val % 256 < 2 ^ 32)]
    exact Nat.and_two_pow_sub_one_eq_mod r.val 8
  rw [e]
  exact WordCmp.cmpi_slt_ofNat (a := c.val) (b := r.val % 256) (by omega) (by omega)

/-- The named constant's value. -/
theorem log2e_val : Named.named (F := Ideal) κ "log2e" (φ := .f32) 0x3FB8AA3B#32 = ((L : ℝ) : EReal) :=
  IdealRules.named_const.ideal_named_scalar _ _ _ _ rfl

/-! ### The blocks a grid point is given -/

/-- The head of row `r` in pair `p`: the even one in the first `256` rows, the odd one in the last. -/
def hd (p : Fin 6) (r : Fin 512) : Fin 12 := ⟨2 * p.val + r.val / 256, by omega⟩

/-- The query row that row `r` stands for. -/
def qi (r : Fin 512) : Fin 256 := ⟨r.val % 256, Nat.mod_lt _ (by decide)⟩

/-- The head and its lane, of lane `l` of a pair. -/
def hl (p : Fin 6) (l : Fin 128) : Fin 12 := ⟨2 * p.val + l.val / 64, by omega⟩
def dl (l : Fin 128) : Fin 64 := ⟨l.val % 64, Nat.mod_lt _ (by decide)⟩

variable (x0 : S12.Idx → EReal) (x1 x2 : S256x768.Idx → EReal) (x3 : S768x2048.Idx → EReal)
  (x4 x5 : S2048x768.Idx → EReal) (x6 : S256x256.Idx → EReal)
  (qr : Fin 256 → Fin 12 → Fin 64 → ℝ) (kr : ℕ → Fin 12 → Fin 64 → ℝ) (βr : Fin 12 → ℝ) (vr : ℕ → Fin 12 → Fin 64 → EReal)

/-- The logit of key `s` for query row `r` of head `h`. -/
def zr (r : Fin 256) (h : Fin 12) (s : ℕ) : ℝ := (∑ d : Fin 64, qr r h d * kr s h d) * (1 / 8) + βr h

/-- What the blocks of a grid point hold: the biases; the queries of the even heads and of the odd
    heads, scaled, the other lanes zero; the keys; the values of the even and of the odd heads, the
    other lanes zero; and the matrix of the exclusive sums, negated. -/
structure Blk : Prop where
  b0 : ∀ n : Fin 12, x0 (ix1 n) = ((βr n : ℝ) : EReal)
  b1e : ∀ (r : Fin 256) (p : Fin 6) (d : Fin 64),
    x1 (ix2 r ⟨128 * p.val + d.val, by omega⟩) = ((qr r ⟨2 * p.val, by omega⟩ d * (L / 8) : ℝ) : EReal)
  b1o : ∀ (r : Fin 256) (p : Fin 6) (d : Fin 64), x1 (ix2 r ⟨128 * p.val + (64 + d.val), by omega⟩) = 0
  b2e : ∀ (r : Fin 256) (p : Fin 6) (d : Fin 64), x2 (ix2 r ⟨128 * p.val + d.val, by omega⟩) = 0
  b2o : ∀ (r : Fin 256) (p : Fin 6) (d : Fin 64),
    x2 (ix2 r ⟨128 * p.val + (64 + d.val), by omega⟩) = ((qr r ⟨2 * p.val + 1, by omega⟩ d * (L / 8) : ℝ) : EReal)
  b3e : ∀ (s : Fin 2048) (p : Fin 6) (d : Fin 64),
    x3 (ix2 ⟨128 * p.val + d.val, by omega⟩ s) = ((kr s.val ⟨2 * p.val, by omega⟩ d : ℝ) : EReal)
  b3o : ∀ (s : Fin 2048) (p : Fin 6) (d : Fin 64),
    x3 (ix2 ⟨128 * p.val + (64 + d.val), by omega⟩ s) = ((kr s.val ⟨2 * p.val + 1, by omega⟩ d : ℝ) : EReal)
  b4 : ∀ (s : Fin 2048) (p : Fin 6) (l : Fin 128),
    x4 (ix2 s ⟨128 * p.val + l.val, by omega⟩) = if l.val < 64 then vr s.val (hl p l) (dl l) else 0
  b5 : ∀ (s : Fin 2048) (p : Fin 6) (l : Fin 128),
    x5 (ix2 s ⟨128 * p.val + l.val, by omega⟩) = if l.val < 64 then 0 else vr s.val (hl p l) (dl l)
  b6 : ∀ k c : Fin 256, x6 (ix2 k c) = (((if c.val < 128 ∧ k.val % 128 ≤ c.val then 0 else -1 : ℝ)) : EReal)

variable {x0 x1 x2 x3 x4 x5 x6 qr kr βr vr}

theorem sum128 (f : Fin 128 → EReal) :
    ∑ k, f k = (∑ d : Fin 64, f ⟨d.val, by omega⟩) + ∑ d : Fin 64, f ⟨64 + d.val, by omega⟩ :=
  Fin.sum_univ_add (a := 64) (b := 64) f

theorem sum256 (f : Fin 256 → EReal) :
    ∑ k, f k = (∑ d : Fin 128, f ⟨d.val, by omega⟩) + ∑ d : Fin 128, f ⟨128 + d.val, by omega⟩ :=
  Fin.sum_univ_add (a := 128) (b := 128) f

/-! ### The operations, read -/

/-- The kernel's logit is the logit in units of `log 2`. -/
theorem zed_apply (H : Blk x0 x1 x2 x3 x4 x5 x6 qr kr βr vr) (col : ℕ) (h : col + 256 ≤ 2048)
    (p : Fin 6) (r : Fin 512) (c : Fin 256) :
    zed (F := Ideal) k0_pay212 x0 x1 x2 x3 col h p (ix2 r c) = ((zr qr kr βr (qi r) (hd p r) (col + c.val) * L : ℝ) : EReal) := by
  unfold zed qAt kAt biasAt
  pointwise [k0_pay214]
  rw [top_apply, log2e_val, WordCmp.select_decide, sum128]
  unfold zr
  by_cases hr : r.val < 256
  · have e1 : qi r = ⟨r.val, hr⟩ := Fin.ext (Nat.mod_eq_of_lt hr)
    have e2 : hd p r = ⟨2 * p.val, by omega⟩ := Fin.ext (by show 2 * p.val + r.val / 256 = 2 * p.val; omega)
    simp only [dif_pos hr, if_pos hr, H.b1e, H.b1o, H.b3e, H.b3o, H.b0, zero_mul, Finset.sum_const_zero, add_zero, e1, e2]
    simp only [← EReal.coe_mul, coe_sum, ← EReal.coe_add]
    congr 1
    rw [add_mul, Finset.sum_mul, Finset.sum_mul]
    congr 1
    exact Finset.sum_congr rfl fun d _ => by ring
  · have e1 : qi r = ⟨r.val - 256, by omega⟩ := Fin.ext (by show r.val % 256 = r.val - 256; omega)
    have e2 : hd p r = ⟨2 * p.val + 1, by omega⟩ := Fin.ext (by show 2 * p.val + r.val / 256 = 2 * p.val + 1; omega)
    simp only [dif_neg hr, if_neg hr, H.b2e, H.b2o, H.b3e, H.b3o, H.b0, zero_mul, Finset.sum_const_zero, zero_add, e1, e2]
    simp only [← EReal.coe_mul, coe_sum, ← EReal.coe_add]
    congr 1
    rw [add_mul, Finset.sum_mul, Finset.sum_mul]
    congr 1
    exact Finset.sum_congr rfl fun d _ => by ring

theorem soft_apply (z : S512x256.Idx → EReal) (y : S512x256.Idx) (a : ℝ) (hz : z y = ((a * L : ℝ) : EReal)) :
    soft (F := Ideal) z y = ((sp a * L : ℝ) : EReal) := by
  unfold soft zeros
  pointwise
  rw [hz, log2e_val]
  exact sp_kernel a

theorem splitLeft_apply (x : S512x256.Idx → EReal) (r : Fin 512) (k : Fin 256) (a : ℝ) (hx : x (ix2 r ⟨k.val % 128, by omega⟩) = (a : EReal)) :
    splitLeft (F := Ideal) x (ix2 r k) = ((if k.val < 128 then a else 0 : ℝ) : EReal) := by
  unfold splitLeft hi
  pointwise
  by_cases hk : k.val < 128
  · have e : (⟨k.val % 128, by omega⟩ : Fin 256) = k := Fin.ext (Nat.mod_eq_of_lt hk)
    rw [dif_pos hk, if_pos hk, ← hx, e]
  · have e : (⟨k.val % 128, by omega⟩ : Fin 256) = ⟨k.val - 128, by omega⟩ := Fin.ext (by show k.val % 128 = k.val - 128; omega)
    rw [dif_neg hk, if_neg hk, ← e, hx, ← EReal.coe_sub, sub_self]

theorem splitRight_apply (x : S512x256.Idx → EReal) (r : Fin 512) (k : Fin 256) (a : ℝ) (hx : x (ix2 r ⟨128 + k.val % 128, by omega⟩) = (a : EReal)) :
    splitRight (F := Ideal) x (ix2 r k) = ((if k.val < 128 then a else 0 : ℝ) : EReal) := by
  unfold splitRight hi
  pointwise
  by_cases hk : k.val < 128
  · have e : (⟨128 + k.val % 128, by omega⟩ : Fin 256) = ⟨128 + k.val, by omega⟩ := Fin.ext (by show 128 + k.val % 128 = 128 + k.val; omega)
    rw [dif_pos hk, if_pos hk, ← hx, e]
  · have e : (⟨128 + k.val % 128, by omega⟩ : Fin 256) = ⟨128 + (k.val - 128), by omega⟩ := Fin.ext (by show 128 + k.val % 128 = 128 + (k.val - 128); omega)
    rw [dif_neg hk, if_neg hk, ← e, hx, ← EReal.coe_sub, sub_self]

/-- The product's rows that belong to one half of a pair's block, whatever the left factor `X` is. -/
theorem rows_product (X : S6144x256.Idx → EReal) (x6 : S256x256.Idx → EReal) (p : Fin 6) (u : Fin 2) (r : Fin 512) (c : Fin 256) :
    rows (F := Ideal) (matmul (φ₁ := .bf16) (φ₂ := .bf16) dot_S6144x256_S256x256_S6144x256_1_0_0_1_n_n none X
        (shapeCast S256x256 (s := S256x256)
          (View.ld (Val := Elt Ideal) (e' := .bf16) x6 (Rect.unit (s := S256x256) ![0, 0] S256x256.size inb_S256x256_S256x256_0_0))
          shapeCasts_S256x256_S256x256)
        (constant S6144x256 .f32 0x00000000#32)) p u (ix2 r c)
      = ∑ k : Fin 256, X (ix2 ⟨1024 * p.val + 512 * u.val + r.val, by omega⟩ k) * x6 (ix2 k c) := by
  unfold rows
  pointwise

set_option maxHeartbeats 4000000 in
/-- Twelve blocks of `512` rows, one above the other, read at a row. -/
theorem stack_apply (X0 X1 X2 X3 X4 X5 X6 X7 X8 X9 X10 X11 : S512x256.Idx → EReal) (n : Fin 12) (r : Fin 512) (k : Fin 256) :
    (concatenate S6144x256 0 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩]
      concatenates_S512x256_S512x256_S512x256_S512x256_S512x256_S512x256_S512x256_S512x256_S512x256_S512x256_S512x256_S512x256_S6144x256_d0 :
      S6144x256.Idx → EReal) (ix2 ⟨512 * n.val + r.val, by omega⟩ k) = (![X0, X1, X2, X3, X4, X5, X6, X7, X8, X9, X10, X11] : Fin 12 → S512x256.Idx → EReal) n (ix2 r k) := by
  have hb : ∀ j : S6144x256.Idx, (j 1).val = k.val → ∀ b : Fin S512x256.rank, b.cast (rfl : S512x256.rank = S6144x256.rank) ≠ 0 →
      ((ix2 r k : S512x256.Idx) b).val = (j (b.cast rfl)).val := by
    intro j hj b hb
    match b with
    | ⟨0, _⟩ => exact absurd rfl hb
    | ⟨1, _⟩ => exact hj.symm
  match n with
  | ⟨0, _⟩ =>
    show _ = X0 (ix2 r k)
    refine concatenate_apply_piece (t := S6144x256) 0 _ _ _ 0 ?_ S512x256 X0 ?_ rfl 0 ?_ (ix2 r k) ?_ ?_
    · show 0 < 12
      omega
    · rfl
    · rfl
    · exact hb _ rfl
    · rfl
  | ⟨1, _⟩ =>
    show _ = X1 (ix2 r k)
    refine concatenate_apply_piece (t := S6144x256) 0 _ _ _ 1 ?_ S512x256 X1 ?_ rfl 512 ?_ (ix2 r k) ?_ ?_
    · show 1 < 12
      omega
    · rfl
    · rfl
    · exact hb _ rfl
    · rfl
  | ⟨2, _⟩ =>
    show _ = X2 (ix2 r k)
    refine concatenate_apply_piece (t := S6144x256) 0 _ _ _ 2 ?_ S512x256 X2 ?_ rfl 1024 ?_ (ix2 r k) ?_ ?_
    · show 2 < 12
      omega
    · rfl
    · rfl
    · exact hb _ rfl
    · rfl
  | ⟨3, _⟩ =>
    show _ = X3 (ix2 r k)
    refine concatenate_apply_piece (t := S6144x256) 0 _ _ _ 3 ?_ S512x256 X3 ?_ rfl 1536 ?_ (ix2 r k) ?_ ?_
    · show 3 < 12
      omega
    · rfl
    · rfl
    · exact hb _ rfl
    · rfl
  | ⟨4, _⟩ =>
    show _ = X4 (ix2 r k)
    refine concatenate_apply_piece (t := S6144x256) 0 _ _ _ 4 ?_ S512x256 X4 ?_ rfl 2048 ?_ (ix2 r k) ?_ ?_
    · show 4 < 12
      omega
    · rfl
    · rfl
    · exact hb _ rfl
    · rfl
  | ⟨5, _⟩ =>
    show _ = X5 (ix2 r k)
    refine concatenate_apply_piece (t := S6144x256) 0 _ _ _ 5 ?_ S512x256 X5 ?_ rfl 2560 ?_ (ix2 r k) ?_ ?_
    · show 5 < 12
      omega
    · rfl
    · rfl
    · exact hb _ rfl
    · rfl
  | ⟨6, _⟩ =>
    show _ = X6 (ix2 r k)
    refine concatenate_apply_piece (t := S6144x256) 0 _ _ _ 6 ?_ S512x256 X6 ?_ rfl 3072 ?_ (ix2 r k) ?_ ?_
    · show 6 < 12
      omega
    · rfl
    · rfl
    · exact hb _ rfl
    · rfl
  | ⟨7, _⟩ =>
    show _ = X7 (ix2 r k)
    refine concatenate_apply_piece (t := S6144x256) 0 _ _ _ 7 ?_ S512x256 X7 ?_ rfl 3584 ?_ (ix2 r k) ?_ ?_
    · show 7 < 12
      omega
    · rfl
    · rfl
    · exact hb _ rfl
    · rfl
  | ⟨8, _⟩ =>
    show _ = X8 (ix2 r k)
    refine concatenate_apply_piece (t := S6144x256) 0 _ _ _ 8 ?_ S512x256 X8 ?_ rfl 4096 ?_ (ix2 r k) ?_ ?_
    · show 8 < 12
      omega
    · rfl
    · rfl
    · exact hb _ rfl
    · rfl
  | ⟨9, _⟩ =>
    show _ = X9 (ix2 r k)
    refine concatenate_apply_piece (t := S6144x256) 0 _ _ _ 9 ?_ S512x256 X9 ?_ rfl 4608 ?_ (ix2 r k) ?_ ?_
    · show 9 < 12
      omega
    · rfl
    · rfl
    · exact hb _ rfl
    · rfl
  | ⟨10, _⟩ =>
    show _ = X10 (ix2 r k)
    refine concatenate_apply_piece (t := S6144x256) 0 _ _ _ 10 ?_ S512x256 X10 ?_ rfl 5120 ?_ (ix2 r k) ?_ ?_
    · show 10 < 12
      omega
    · rfl
    · rfl
    · exact hb _ rfl
    · rfl
  | ⟨11, _⟩ =>
    show _ = X11 (ix2 r k)
    refine concatenate_apply_piece (t := S6144x256) 0 _ _ _ 11 ?_ S512x256 X11 ?_ rfl 5632 ?_ (ix2 r k) ?_ ?_
    · show 11 < 12
      omega
    · rfl
    · rfl
    · exact hb _ rfl
    · rfl

theorem rows_right (g : Fin 6 → FVec Ideal S512x256 .f32) (x6 : S256x256.Idx → EReal) (p : Fin 6) (r : Fin 512) (c : Fin 256) :
    rows (Step.scan (F := Ideal) g x6) p 0 (ix2 r c) = ∑ k : Fin 256, splitRight (F := Ideal) (g p) (ix2 r k) * x6 (ix2 k c) := by
  unfold Step.scan
  rw [rows_product]
  refine Finset.sum_congr rfl fun k _ => congrArg (· * x6 (ix2 k c)) ?_
  have e : (⟨1024 * p.val + 512 * ((0 : Fin 2)).val + r.val, by omega⟩ : Fin 6144) = ⟨512 * (⟨2 * p.val + 0, by omega⟩ : Fin 12).val + r.val, by omega⟩ :=
    Fin.ext (by show 1024 * p.val + 512 * 0 + r.val = 512 * (2 * p.val + 0) + r.val; omega)
  rw [e, stack_apply]
  fin_cases p <;> rfl

theorem rows_left (g : Fin 6 → FVec Ideal S512x256 .f32) (x6 : S256x256.Idx → EReal) (p : Fin 6) (r : Fin 512) (c : Fin 256) :
    rows (Step.scan (F := Ideal) g x6) p 1 (ix2 r c) = ∑ k : Fin 256, splitLeft (F := Ideal) (g p) (ix2 r k) * x6 (ix2 k c) := by
  unfold Step.scan
  rw [rows_product]
  refine Finset.sum_congr rfl fun k _ => congrArg (· * x6 (ix2 k c)) ?_
  have e : (⟨1024 * p.val + 512 * ((1 : Fin 2)).val + r.val, by omega⟩ : Fin 6144) = ⟨512 * (⟨2 * p.val + 1, by omega⟩ : Fin 12).val + r.val, by omega⟩ :=
    Fin.ext (by show 1024 * p.val + 512 * 1 + r.val = 512 * (2 * p.val + 1) + r.val; omega)
  rw [e, stack_apply]
  fin_cases p <;> rfl

theorem carry_apply (br bl : S512x256.Idx → EReal) (cy : S512x128.Idx → EReal) (r : Fin 512) (l : Fin 128) :
    carry (F := Ideal) br bl cy (ix2 r l) = cy (ix2 r l) + br (ix2 r ⟨128 + l.val, by omega⟩) + bl (ix2 r ⟨128 + l.val, by omega⟩) := by
  unfold carry right
  pointwise

theorem wts_left (lb br bl : S512x256.Idx → EReal) (cy : S512x128.Idx → EReal) (r : Fin 512) (c : Fin 256) (hc : c.val < 128) :
    wts (F := Ideal) lb br bl cy (ix2 r c)
      = Ideal.exp2 (lb (ix2 r c) + bl (ix2 r c) + (cy (ix2 r ⟨c.val, hc⟩) + br (ix2 r ⟨128 + c.val, by omega⟩))) := by
  unfold wts right left
  pointwise
  rw [dif_pos hc]
  rfl

theorem wts_right (lb br bl : S512x256.Idx → EReal) (cy : S512x128.Idx → EReal) (r : Fin 512) (c : Fin 256) (hc : ¬ c.val < 128) :
    wts (F := Ideal) lb br bl cy (ix2 r c)
      = Ideal.exp2 (lb (ix2 r c) + br (ix2 r ⟨c.val - 128, by omega⟩) + cy (ix2 r ⟨c.val - 128, by omega⟩)) := by
  unfold wts right left
  pointwise
  have e : (⟨128 + (c.val - 128), by omega⟩ : Fin 256) = c := Fin.ext (by show 128 + (c.val - 128) = c.val; omega)
  rw [dif_neg hc, e]
  rfl

theorem pv_apply (w : S512x256.Idx → EReal) (ve vo : S256x128.Idx → EReal) (r : Fin 256) (l : Fin 128) :
    pv (F := Ideal) w ve vo (ix2 r l)
      = ∑ c : Fin 256, w (ix2 ⟨r.val, by omega⟩ c) * ve (ix2 c l) + ∑ c : Fin 256, w (ix2 ⟨256 + r.val, by omega⟩ c) * vo (ix2 c l) := by
  unfold pv
  pointwise [k0_pay281]

/-! ### The scan's sums -/

/-- Sum of a half block's terms after `c`, or of all of them past column `128`. -/
theorem scan_sum (H : Blk x0 x1 x2 x3 x4 x5 x6 qr kr βr vr) (f : Fin 256 → EReal) (s : ℕ → ℝ) (c : Fin 256)
    (hf : ∀ k : Fin 256, f k = ((if k.val < 128 then s k.val * L else 0 : ℝ) : EReal)) :
    ∑ k : Fin 256, f k * x6 (ix2 k c)
      = ((-(∑ k ∈ Finset.Ico (if c.val < 128 then c.val + 1 else 0) 128, s k) * L : ℝ) : EReal) := by
  have e : ∀ k : Fin 256, f k * x6 (ix2 k c)
      = ((if k.val < 128 ∧ (if c.val < 128 then c.val + 1 else 0) ≤ k.val then -(s k.val * L) else 0 : ℝ) : EReal) := by
    intro k
    rw [hf, H.b6, ← EReal.coe_mul]
    congr 1
    by_cases hk : k.val < 128 <;> by_cases hc : c.val < 128 <;> simp [hk, hc]
    rw [Nat.mod_eq_of_lt hk]
    by_cases hkc : k.val ≤ c.val
    · rw [if_pos hkc, if_neg (by omega)]
    · rw [if_neg hkc, if_pos (by omega)]
  rw [Finset.sum_congr rfl fun k _ => e k, coe_sum]
  congr 1
  rw [Fin.sum_univ_eq_sum_range (fun k => if k < 128 ∧ (if c.val < 128 then c.val + 1 else 0) ≤ k then -(s k * L) else 0) 256,
    ← Finset.sum_filter, neg_mul, Finset.sum_mul, ← Finset.sum_neg_distrib]
  refine Finset.sum_congr ?_ fun _ _ => rfl
  ext k
  simp only [Finset.mem_filter, Finset.mem_range, Finset.mem_Ico]
  omega

/-- The scan's rows for the right half of a block, from the block's terms `s`. -/
theorem rows_right_eq (H : Blk x0 x1 x2 x3 x4 x5 x6 qr kr βr vr) (g : Fin 6 → FVec Ideal S512x256 .f32) (p : Fin 6) (r : Fin 512)
    (s : ℕ → ℝ) (hg : ∀ c : Fin 256, g p (ix2 r c) = ((s c.val * L : ℝ) : EReal)) (c : Fin 256) :
    rows (Step.scan (F := Ideal) g x6) p 0 (ix2 r c)
      = ((-(∑ k ∈ Finset.Ico (if c.val < 128 then c.val + 1 else 0) 128, s (128 + k)) * L : ℝ) : EReal) := by
  rw [rows_right]
  refine scan_sum H _ (fun k => s (128 + k)) c fun k => ?_
  rw [splitRight_apply (g p) r k _ (hg _)]
  by_cases hk : k.val < 128
  · rw [if_pos hk, if_pos hk]
    show ((s (128 + k.val % 128) * L : ℝ) : EReal) = _
    rw [Nat.mod_eq_of_lt hk]
  · rw [if_neg hk, if_neg hk]

/-- The scan's rows for the left half. -/
theorem rows_left_eq (H : Blk x0 x1 x2 x3 x4 x5 x6 qr kr βr vr) (g : Fin 6 → FVec Ideal S512x256 .f32) (p : Fin 6) (r : Fin 512)
    (s : ℕ → ℝ) (hg : ∀ c : Fin 256, g p (ix2 r c) = ((s c.val * L : ℝ) : EReal)) (c : Fin 256) :
    rows (Step.scan (F := Ideal) g x6) p 1 (ix2 r c)
      = ((-(∑ k ∈ Finset.Ico (if c.val < 128 then c.val + 1 else 0) 128, s k) * L : ℝ) : EReal) := by
  rw [rows_left]
  refine scan_sum H _ s c fun k => ?_
  rw [splitLeft_apply (g p) r k _ (hg _)]
  by_cases hk : k.val < 128
  · rw [if_pos hk, if_pos hk]
    show ((s (k.val % 128) * L : ℝ) : EReal) = _
    rw [Nat.mod_eq_of_lt hk]
  · rw [if_neg hk, if_neg hk]

theorem sum_shift (s : ℕ → ℝ) (n : ℕ) : ∑ k ∈ Finset.Ico n 128, s (128 + k) = ∑ k ∈ Finset.Ico (128 + n) 256, s k := by
  rw [Finset.sum_Ico_add s n 128 128, Nat.add_comm n 128]

/-- The carry grows by the whole block's sum. -/
theorem carry_eq (H : Blk x0 x1 x2 x3 x4 x5 x6 qr kr βr vr) (g : Fin 6 → FVec Ideal S512x256 .f32) (p : Fin 6) (r : Fin 512)
    (s : ℕ → ℝ) (hg : ∀ c : Fin 256, g p (ix2 r c) = ((s c.val * L : ℝ) : EReal)) (cy : S512x128.Idx → EReal) (l : Fin 128) (a : ℝ)
    (hc : cy (ix2 r l) = ((-a * L : ℝ) : EReal)) :
    carry (F := Ideal) (rows (Step.scan g x6) p 0) (rows (Step.scan g x6) p 1) cy (ix2 r l)
      = ((-((∑ k ∈ Finset.range 256, s k) + a) * L : ℝ) : EReal) := by
  rw [carry_apply, rows_right_eq H g p r s hg, rows_left_eq H g p r s hg, hc, ← EReal.coe_add, ← EReal.coe_add]
  have hn : ¬ 128 + l.val < 128 := by omega
  simp only [if_neg hn]
  congr 1
  rw [sum_shift, Finset.range_eq_Ico, ← Finset.sum_Ico_consecutive s (by omega : 0 ≤ 128) (by omega : 128 ≤ 256)]
  ring

/-- The weight: the logarithm of the key's share, less the sum of what comes after it. -/
theorem wts_eq (H : Blk x0 x1 x2 x3 x4 x5 x6 qr kr βr vr) (g : Fin 6 → FVec Ideal S512x256 .f32) (p : Fin 6) (r : Fin 512)
    (s : ℕ → ℝ) (hg : ∀ c : Fin 256, g p (ix2 r c) = ((s c.val * L : ℝ) : EReal)) (lb : S512x256.Idx → EReal) (cy : S512x128.Idx → EReal)
    (a b : ℝ) (hc : ∀ l : Fin 128, cy (ix2 r l) = ((-a * L : ℝ) : EReal)) (c : Fin 256) (hl : lb (ix2 r c) = ((b * L : ℝ) : EReal)) :
    wts (F := Ideal) lb (rows (Step.scan g x6) p 0) (rows (Step.scan g x6) p 1) cy (ix2 r c)
      = ((Real.exp (b - ((∑ k ∈ Finset.Ico (c.val + 1) 256, s k) + a)) : ℝ) : EReal) := by
  by_cases h : c.val < 128
  · rw [wts_left _ _ _ _ _ _ h, rows_right_eq H g p r s hg, rows_left_eq H g p r s hg, hc, hl, ← EReal.coe_add, ← EReal.coe_add,
      ← EReal.coe_add, ← exp2_L]
    have hn : ¬ 128 + c.val < 128 := by omega
    simp only [if_neg hn, if_pos h]
    congr 2
    rw [sum_shift, ← Finset.sum_Ico_consecutive s (by omega : c.val + 1 ≤ 128) (by omega : 128 ≤ 256)]
    ring
  · rw [wts_right _ _ _ _ _ _ h, rows_right_eq H g p r s hg, hc, hl, ← EReal.coe_add, ← EReal.coe_add, ← exp2_L]
    have hn : c.val - 128 < 128 := by omega
    simp only [if_pos hn]
    congr 2
    rw [sum_shift, show 128 + (c.val - 128 + 1) = c.val + 1 by omega]
    ring

end Cert.Read

end
-- ==== Proof.Steps.lean ====
/- One grid point's walk over the blocks of keys, over the extended reals: after each block the carry
   is the tail of the soft pluses and the accumulator the sum of the weighted values so far. -/
module

public import proofs.«01_k».proof.Proof.Read

@[expose] public section

set_option maxRecDepth 16384

noncomputable section

namespace Cert.Steps

open Cert.KernelIdeal Cert.KernelIdeal.Gen Idealize.ShloMosaic Idealize.ShloMosaic.TcCoe Cert.Step Cert.Soft Cert.Spec Cert.Read

variable {x0 : S12.Idx → EReal} {x1 x2 : S256x768.Idx → EReal} {x3 : S768x2048.Idx → EReal}
  {x4 x5 : S2048x768.Idx → EReal} {x6 : S256x256.Idx → EReal}
  {qr : Fin 256 → Fin 12 → Fin 64 → ℝ} {kr : ℕ → Fin 12 → Fin 64 → ℝ} {βr : Fin 12 → ℝ} {vr : ℕ → Fin 12 → Fin 64 → EReal}

/-- The soft plus of key `col + c` where that key precedes query `t`, else zero. -/
def sv (z : ℕ → ℝ) (t col c : ℕ) : ℝ := if col + c < t then sp (z (col + c)) else 0

/-- A block's soft pluses after its key `c`, and the tail past the block. -/
theorem tail_after (z : ℕ → ℝ) (t col c : ℕ) (hc : c ≤ 256) :
    (∑ k ∈ Finset.Ico c 256, sv z t col k) + tail z t (col + 256) = tail z t (col + c) := by
  rw [Finset.sum_Ico_eq_sum_range, ← tail_block z t (col + c) (256 - c), show col + c + (256 - c) = col + 256 by omega]
  congr 1
  refine Finset.sum_congr rfl fun k _ => ?_
  unfold sv
  rw [show col + (c + k) = col + c + k by omega]

theorem tail_empty (z : ℕ → ℝ) (t n : ℕ) (h : t ≤ n) : tail z t n = 0 := by
  unfold tail
  rw [Finset.Ico_eq_empty (by omega), Finset.sum_empty]

/-- What holds after `n` steps below the diagonal at query block `i`: the carry is the tail from the
    last block read, the accumulator the sum from there to the diagonal. -/
def Good (qr : Fin 256 → Fin 12 → Fin 64 → ℝ) (kr : ℕ → Fin 12 → Fin 64 → ℝ) (βr : Fin 12 → ℝ) (vr : ℕ → Fin 12 → Fin 64 → EReal)
    (i n : ℕ) (cy : Fin 6 → FVec Ideal S512x128 .f32) (a : Fin 6 → FVec Ideal S256x128 .f32) : Prop :=
  (∀ (p : Fin 6) (r : Fin 512) (l : Fin 128),
      cy p (ix2 r l) = ((-tail (zr qr kr βr (qi r) (hd p r)) (256 * i + (qi r).val) (256 * (i - n)) * L : ℝ) : EReal)) ∧
  ∀ (p : Fin 6) (r : Fin 256) (l : Fin 128),
    a p (ix2 r l) = ∑ s ∈ Finset.Ico (256 * (i - n)) (256 * (i + 1)),
      ((weight (zr qr kr βr r (hl p l)) (256 * i + r.val) s : ℝ) : EReal) * vr s (hl p l) (dl l)

theorem sft_apply (H : Blk x0 x1 x2 x3 x4 x5 x6 qr kr βr vr) (col : ℕ) (h : col + 256 ≤ 2048) (p : Fin 6) (r : Fin 512) (c : Fin 256) :
    sft (F := Ideal) k0_pay212 x0 x1 x2 x3 col h p (ix2 r c) = ((sp (zr qr kr βr (qi r) (hd p r) (col + c.val)) * L : ℝ) : EReal) :=
  soft_apply _ _ _ (zed_apply H col h p r c)

theorem lbt_apply (H : Blk x0 x1 x2 x3 x4 x5 x6 qr kr βr vr) (col : ℕ) (h : col + 256 ≤ 2048) (p : Fin 6) (r : Fin 512) (c : Fin 256) :
    lbt (F := Ideal) k0_pay212 x0 x1 x2 x3 col h p (ix2 r c)
      = (((zr qr kr βr (qi r) (hd p r) (col + c.val) - sp (zr qr kr βr (qi r) (hd p r) (col + c.val))) * L : ℝ) : EReal) := by
  show zed (F := Ideal) k0_pay212 x0 x1 x2 x3 col h p (ix2 r c) - sft (F := Ideal) k0_pay212 x0 x1 x2 x3 col h p (ix2 r c) = _
  rw [zed_apply H, sft_apply H, ← EReal.coe_sub, sub_mul]

theorem vAt_apply (x : S2048x768.Idx → EReal) (p : Fin 6) (col : ℕ) (h : col + 256 ≤ 2048) (c : Fin 256) (l : Fin 128) :
    vAt (F := Ideal) x p col h (ix2 c l) = x (ix2 ⟨col + c.val, by omega⟩ ⟨128 * p.val + l.val, by omega⟩) := by
  unfold vAt
  pointwise

/-- The block's weights times its values: the terms of the block's keys. -/
theorem pv_eq (H : Blk x0 x1 x2 x3 x4 x5 x6 qr kr βr vr) (col : ℕ) (h : col + 256 ≤ 2048) (p : Fin 6) (i : ℕ) (w : S512x256.Idx → EReal)
    (hw : ∀ (r : Fin 512) (c : Fin 256),
      w (ix2 r c) = ((weight (zr qr kr βr (qi r) (hd p r)) (256 * i + (qi r).val) (col + c.val) : ℝ) : EReal))
    (r : Fin 256) (l : Fin 128) :
    pv (F := Ideal) w (vAt x4 p col h) (vAt x5 p col h) (ix2 r l)
      = ∑ s ∈ Finset.Ico col (col + 256),
          ((weight (zr qr kr βr r (hl p l)) (256 * i + r.val) s : ℝ) : EReal) * vr s (hl p l) (dl l) := by
  rw [Finset.sum_Ico_eq_sum_range, Nat.add_sub_cancel_left,
    ← Fin.sum_univ_eq_sum_range (fun c => ((weight (zr qr kr βr r (hl p l)) (256 * i + r.val) (col + c) : ℝ) : EReal) * vr (col + c) (hl p l) (dl l)) 256,
    pv_apply]
  have e0 : qi ⟨r.val, by omega⟩ = r := Fin.ext (Nat.mod_eq_of_lt r.isLt)
  have e1 : qi ⟨256 + r.val, by omega⟩ = r := Fin.ext (by show (256 + r.val) % 256 = r.val; omega)
  simp only [vAt_apply, H.b4, H.b5, hw, e0, e1]
  by_cases hl64 : l.val < 64
  · have eh : hd p ⟨r.val, by omega⟩ = hl p l := Fin.ext (by show 2 * p.val + r.val / 256 = 2 * p.val + l.val / 64; omega)
    simp only [if_pos hl64, mul_zero, Finset.sum_const_zero, add_zero, eh]
  · have eh : hd p ⟨256 + r.val, by omega⟩ = hl p l :=
      Fin.ext (by show 2 * p.val + (256 + r.val) / 256 = 2 * p.val + l.val / 64; omega)
    simp only [if_neg hl64, mul_zero, Finset.sum_const_zero, zero_add, eh]

theorem weight_eq (z : ℕ → ℝ) (t col c : ℕ) (hc : c < 256) (ht : col + c < t) :
    Real.exp (z (col + c) - sp (z (col + c)) - ((∑ k ∈ Finset.Ico (c + 1) 256, sv z t col k) + tail z t (col + 256))) = weight z t (col + c) := by
  unfold weight
  rw [if_pos ht, tail_after _ _ _ _ (by omega)]
  rfl

/-- The diagonal step. -/
theorem good_zero (H : Blk x0 x1 x2 x3 x4 x5 x6 qr kr βr vr) (i col : ℕ) (h : col + 256 ≤ 2048) (hcol : col = 256 * i) :
    Good qr kr βr vr i 0 (mnewC (F := Ideal) k0_pay212 k0_pay213 x0 x1 x2 x3 x6 col h)
      (mnewA (F := Ideal) k0_pay212 k0_pay213 x0 x1 x2 x3 x4 x5 x6 col h) := by
  have hg : ∀ (p : Fin 6) (r : Fin 512) (c : Fin 256), msft (F := Ideal) k0_pay212 k0_pay213 x0 x1 x2 x3 col h p (ix2 r c)
      = ((sv (zr qr kr βr (qi r) (hd p r)) (256 * i + (qi r).val) col c.val * L : ℝ) : EReal) := by
    intro p r c
    show Scalar.select (k0_pay213 (ix2 r c)) (sft (F := Ideal) k0_pay212 x0 x1 x2 x3 col h p (ix2 r c)) (Scalar.ofBits (F := Ideal) .f32 0x00000000#32) = _
    rw [msk_apply, WordCmp.select_decide, sft_apply H]
    unfold sv
    have hq : (qi r).val = r.val % 256 := rfl
    by_cases hc : c.val < r.val % 256
    · rw [if_pos hc, if_pos (by omega)]
    · rw [if_neg hc, if_neg (by omega), zero_mul]
      simp
  have h0 : ∀ y, zeros (F := Ideal) S512x128 y = ((-0 * L : ℝ) : EReal) := by
    intro y
    show Scalar.ofBits (F := Ideal) .f32 0x00000000#32 = _
    simp
  have ht : ∀ (p : Fin 6) (r : Fin 512), tail (zr qr kr βr (qi r) (hd p r)) (256 * i + (qi r).val) (col + 256) = 0 := by
    intro p r
    have := (qi r).isLt
    exact tail_empty _ _ _ (by omega)
  constructor
  · intro p r l
    show carry (F := Ideal) (rows (Step.scan (msft k0_pay212 k0_pay213 x0 x1 x2 x3 col h) x6) p 0)
      (rows (Step.scan (msft k0_pay212 k0_pay213 x0 x1 x2 x3 col h) x6) p 1) (zeros S512x128) (ix2 r l) = _
    rw [carry_eq H _ p r _ (hg p r) _ l 0 (h0 _), ← ht p r, Finset.range_eq_Ico, tail_after _ _ _ _ (by omega), Nat.sub_zero, ← hcol,
      Nat.add_zero]
  · intro p r l
    rw [show 256 * (i - 0) = col by omega, show 256 * (i + 1) = col + 256 by omega]
    refine pv_eq H col h p i _ (fun r c => ?_) r l
    show Scalar.select (k0_pay213 (ix2 r c)) (wts (F := Ideal) (lbt k0_pay212 x0 x1 x2 x3 col h p)
      (rows (Step.scan (msft k0_pay212 k0_pay213 x0 x1 x2 x3 col h) x6) p 0)
      (rows (Step.scan (msft k0_pay212 k0_pay213 x0 x1 x2 x3 col h) x6) p 1) (zeros S512x128) (ix2 r c))
      (Scalar.ofBits (F := Ideal) .f32 0x00000000#32) = _
    rw [msk_apply, WordCmp.select_decide]
    have hq : (qi r).val = r.val % 256 := rfl
    by_cases hc : c.val < r.val % 256
    · rw [if_pos hc, wts_eq H _ p r _ (hg p r) _ _ 0 _ (fun l => h0 _) c (lbt_apply H col h p r c), ← ht p r,
        weight_eq _ _ _ _ c.isLt (by omega)]
    · rw [if_neg hc, weight_of_le _ (by omega)]
      simp

/-- A step below the diagonal. -/
theorem good_succ (H : Blk x0 x1 x2 x3 x4 x5 x6 qr kr βr vr) (i k col : ℕ) (hk : k < i) (h : col + 256 ≤ 2048) (hcol : col = 256 * (i - 1 - k))
    (cy : Fin 6 → FVec Ideal S512x128 .f32) (a : Fin 6 → FVec Ideal S256x128 .f32) (hG : Good qr kr βr vr i k cy a) :
    Good qr kr βr vr i (k + 1) (newC (F := Ideal) k0_pay212 x0 x1 x2 x3 x6 col h cy)
      (newA (F := Ideal) k0_pay212 x0 x1 x2 x3 x4 x5 x6 col h cy a) := by
  obtain ⟨hC, hA⟩ := hG
  have e1 : 256 * (i - k) = col + 256 := by omega
  have e2 : 256 * (i - (k + 1)) = col := by omega
  rw [e1] at hC hA
  have hlt : ∀ (r : Fin 512) (c : ℕ), c < 256 → col + c < 256 * i + (qi r).val := by
    intro r c hc
    omega
  have hg : ∀ (p : Fin 6) (r : Fin 512) (c : Fin 256), sft (F := Ideal) k0_pay212 x0 x1 x2 x3 col h p (ix2 r c)
      = ((sv (zr qr kr βr (qi r) (hd p r)) (256 * i + (qi r).val) col c.val * L : ℝ) : EReal) := by
    intro p r c
    rw [sft_apply H]
    unfold sv
    rw [if_pos (hlt r c.val c.isLt)]
  constructor
  · intro p r l
    show carry (F := Ideal) (rows (Step.scan (sft k0_pay212 x0 x1 x2 x3 col h) x6) p 0)
      (rows (Step.scan (sft k0_pay212 x0 x1 x2 x3 col h) x6) p 1) (cy p) (ix2 r l) = _
    rw [carry_eq H _ p r _ (hg p r) _ l _ (hC p r l), Finset.range_eq_Ico, tail_after _ _ _ _ (by omega), e2, Nat.add_zero]
  · intro p r l
    show a p (ix2 r l) + pv (F := Ideal) (wt k0_pay212 x0 x1 x2 x3 x6 col h cy p) (vAt x4 p col h) (vAt x5 p col h) (ix2 r l) = _
    rw [hA, e2, ← Finset.sum_Ico_consecutive _ (by omega : col ≤ col + 256) (by omega : col + 256 ≤ 256 * (i + 1)), add_comm]
    congr 1
    refine pv_eq H col h p i _ (fun r c => ?_) r l
    show wts (F := Ideal) (lbt k0_pay212 x0 x1 x2 x3 col h p)
      (rows (Step.scan (sft k0_pay212 x0 x1 x2 x3 col h) x6) p 0)
      (rows (Step.scan (sft k0_pay212 x0 x1 x2 x3 col h) x6) p 1) (cy p) (ix2 r c) = _
    rw [wts_eq H _ p r _ (hg p r) _ _ _ _ (fun l => hC p r l) c (lbt_apply H col h p r c),
      weight_eq _ _ _ _ c.isLt (hlt r c.val c.isLt)]

/-- After all steps the accumulator holds the whole sum over the keys: those from the query on weigh nothing. -/
theorem good_done (i : ℕ) (hi : i < 8) (cy : Fin 6 → FVec Ideal S512x128 .f32) (a : Fin 6 → FVec Ideal S256x128 .f32)
    (hG : Good qr kr βr vr i i cy a) (p : Fin 6) (r : Fin 256) (l : Fin 128) :
    a p (ix2 r l) = ∑ s ∈ Finset.range 2048,
      ((weight (zr qr kr βr r (hl p l)) (256 * i + r.val) s : ℝ) : EReal) * vr s (hl p l) (dl l) := by
  rw [hG.2, Nat.sub_self, Nat.mul_zero, Finset.range_eq_Ico,
    ← Finset.sum_Ico_consecutive _ (by omega : 0 ≤ 256 * (i + 1)) (by omega : 256 * (i + 1) ≤ 2048)]
  symm
  refine (congrArg _ (Finset.sum_eq_zero fun s hs => ?_)).trans (add_zero _)
  have := (Finset.mem_Ico.mp hs).1
  rw [weight_of_le _ (by omega)]
  simp

end Cert.Steps

end
-- ==== Proof.Entry.lean ====
/- The arrays the kernel is given, as its host lines leave them, read at an index. -/
module

public import proofs.«01_k».proof.Proof.Gen.KernelIdeal.Frame
public import proofs.«01_k».proof.Proof.Read
public import Idealize.ShloMosaic.Lib.Pipeline.ValueKit

@[expose] public section

set_option maxRecDepth 16384

noncomputable section

namespace Cert.Entry

open Cert.KernelIdeal Cert.KernelIdeal.Gen Idealize.ShloMosaic Idealize.ShloMosaic.TcCoe Cert.Soft Cert.Spec Idealize.SL.Sem

variable (m : (ℓ : Loc nD τ sig) → Buf (Elt Ideal) ℓ) (c : Dev nD)

/-- The queries, keys, values and biases a memory holds. -/
abbrev aQ : S16x2048x12x64.Idx → EReal := m ((c : Thread nD τ).loc main_arg0)
@[inherit_doc aQ] abbrev aK : S16x2048x12x64.Idx → EReal := m ((c : Thread nD τ).loc main_arg1)
@[inherit_doc aQ] abbrev aV : S16x2048x12x64.Idx → EReal := m ((c : Thread nD τ).loc main_arg2)
@[inherit_doc aQ] abbrev aB : S1x12.Idx → EReal := m ((c : Thread nD τ).loc main_arg3)

/-! ### Words and constants of the host lines -/

/-- The parity of a column's head, as the host lines compute it. -/
theorem even_word (n : Fin 768) :
    IntOp.cmpi CmpIPredicate.eq (IntOp.andi (IntOp.shrsi ArithUnit.host (BitVec.ofNat 32 n.val) 6#32) 1#32) 0#32
      = BitVec.ofBool (decide (n.val / 64 % 2 = 0)) :=
  (by decide +kernel : ∀ n : Fin 768,
    IntOp.cmpi CmpIPredicate.eq (IntOp.andi (IntOp.shrsi ArithUnit.host (BitVec.ofNat 32 n.val) 6#32) 1#32) 0#32
      = BitVec.ofBool (decide (n.val / 64 % 2 = 0))) n

/-- The row's number modulo `128`, as the host lines compute it. -/
theorem mod_word (r : Fin 256) :
    (Scalar.select
            (IntOp.andi
              (IntOp.cmpi CmpIPredicate.ne
                (IntOp.cmpi CmpIPredicate.slt
                  (IntOp.remsi ArithUnit.host (BitVec.ofNat 32 r.val)
                    (Scalar.select (IntOp.cmpi CmpIPredicate.eq 128#32 0#32) 1#32 128#32))
                  0#32)
                (IntOp.cmpi CmpIPredicate.slt (Scalar.select (IntOp.cmpi CmpIPredicate.eq 128#32 0#32) 1#32 128#32)
                  0#32))
              (IntOp.cmpi CmpIPredicate.ne
                (IntOp.remsi ArithUnit.host (BitVec.ofNat 32 r.val)
                  (Scalar.select (IntOp.cmpi CmpIPredicate.eq 128#32 0#32) 1#32 128#32))
                0#32))
            (IntOp.addi
              (IntOp.remsi ArithUnit.host (BitVec.ofNat 32 r.val)
                (Scalar.select (IntOp.cmpi CmpIPredicate.eq 128#32 0#32) 1#32 128#32))
              (Scalar.select (IntOp.cmpi CmpIPredicate.eq 128#32 0#32) 1#32 128#32))
            (IntOp.remsi ArithUnit.host (BitVec.ofNat 32 r.val)
              (Scalar.select (IntOp.cmpi CmpIPredicate.eq 128#32 0#32) 1#32 128#32)))
      = BitVec.ofNat 32 (r.val % 128) := by
  revert r
  decide +kernel

theorem eighth_val : Ideal.ofBits FTy.f32 0x3E000000#32 = ((1 / 8 : ℝ) : EReal) := by
  simp [Ideal.ofBits, Ideal.ieee, -EReal.coe_mul]
  norm_num

theorem two_val : Ideal.ofBits FTy.f32 0x40000000#32 = ((2 : ℝ) : EReal) := by
  simp [Ideal.ofBits, Ideal.ieee, -EReal.coe_mul]
  norm_num

theorem minus_one_val : Ideal.ofBits FTy.f32 0xBF800000#32 = ((-1 : ℝ) : EReal) := by
  simp [Ideal.ofBits, Ideal.ieee, -EReal.coe_mul]
  norm_num

/-- The queries' factor: one eighth over the logarithm of two. -/
theorem factor_val : Ideal.div (Ideal.ofBits FTy.f32 0x3E000000#32) (Ideal.log (Ideal.ofBits FTy.f32 0x40000000#32)) = ((L / 8 : ℝ) : EReal) := by
  rw [eighth_val, two_val, Ideal.log_coe, if_neg (by norm_num), Ideal.div_coe log2_pos.ne', ← EReal.coe_mul]
  congr 1
  unfold L
  ring

/-! ### The arrays -/

/-- The biases, as one row. -/
theorem bias_apply (n : Fin 12) : (V m c main_v24 : S12.Idx → EReal) (ix1 n) = aB m c (ix2 0 n) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  pointwise

/-- The queries, scaled, in the even heads' columns, the others zero. -/
theorem qe_apply (r : Fin 32768) (n : Fin 768) : (V m c main_v18 : S32768x768.Idx → EReal) (ix2 r n)
    = (if n.val / 64 % 2 = 0 then aQ m c (ix4 ⟨r.val / 2048, by omega⟩ ⟨r.val % 2048, Nat.mod_lt _ (by decide)⟩ ⟨n.val / 64, by omega⟩ ⟨n.val % 64, Nat.mod_lt _ (by decide)⟩) * ((L / 8 : ℝ) : EReal) else 0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  simp only [StableHlo.TRef.ofBuf_toBuf]
  simp only [StableHlo.TRef.toBuf, StableHlo.TRef.ofBuf, cast_eq, id_eq]
  pointwise
  rw [even_word, WordCmp.select_decide, factor_val]

/-- The queries, scaled, in the odd heads' columns, the others zero. -/
theorem qo_apply (r : Fin 32768) (n : Fin 768) : (V m c main_v20 : S32768x768.Idx → EReal) (ix2 r n)
    = (if n.val / 64 % 2 = 0 then 0 else aQ m c (ix4 ⟨r.val / 2048, by omega⟩ ⟨r.val % 2048, Nat.mod_lt _ (by decide)⟩ ⟨n.val / 64, by omega⟩ ⟨n.val % 64, Nat.mod_lt _ (by decide)⟩) * ((L / 8 : ℝ) : EReal) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  simp only [StableHlo.TRef.ofBuf_toBuf]
  simp only [StableHlo.TRef.toBuf, StableHlo.TRef.ofBuf, cast_eq, id_eq]
  pointwise
  rw [even_word, WordCmp.select_decide, factor_val]

/-- The values in the even heads' columns, the others zero. -/
theorem ve_apply (r : Fin 32768) (n : Fin 768) : (V m c main_v14 : S32768x768.Idx → EReal) (ix2 r n)
    = (if n.val / 64 % 2 = 0 then aV m c (ix4 ⟨r.val / 2048, by omega⟩ ⟨r.val % 2048, Nat.mod_lt _ (by decide)⟩ ⟨n.val / 64, by omega⟩ ⟨n.val % 64, Nat.mod_lt _ (by decide)⟩) else 0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  simp only [StableHlo.TRef.ofBuf_toBuf]
  simp only [StableHlo.TRef.toBuf, StableHlo.TRef.ofBuf, cast_eq, id_eq]
  pointwise
  rw [even_word, WordCmp.select_decide]

/-- The values in the odd heads' columns, the others zero. -/
theorem vo_apply (r : Fin 32768) (n : Fin 768) : (V m c main_v16 : S32768x768.Idx → EReal) (ix2 r n)
    = (if n.val / 64 % 2 = 0 then 0 else aV m c (ix4 ⟨r.val / 2048, by omega⟩ ⟨r.val % 2048, Nat.mod_lt _ (by decide)⟩ ⟨n.val / 64, by omega⟩ ⟨n.val % 64, Nat.mod_lt _ (by decide)⟩) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  simp only [StableHlo.TRef.ofBuf_toBuf]
  simp only [StableHlo.TRef.toBuf, StableHlo.TRef.ofBuf, cast_eq, id_eq]
  pointwise
  rw [even_word, WordCmp.select_decide]

/-- The keys, a batch's heads and lanes down the rows. -/
theorem k_apply (r : Fin 12288) (s : Fin 2048) : (V m c main_v23 : S12288x2048.Idx → EReal) (ix2 r s)
    = aK m c
        (ix4 ⟨r.val / 768, by omega⟩ s ⟨r.val % 768 / 64, by omega⟩ ⟨r.val % 64, Nat.mod_lt _ (by decide)⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  pointwise
  congr 2
  exact Fin.ext (by show r.val / 64 % 12 = r.val % 768 / 64; omega)

/-- The matrix of the exclusive sums and of the whole sums, negated. -/
theorem scan_apply (k : Fin 256) (n : Fin 256) : (V m c main_v37 : S256x256.Idx → EReal) (ix2 k n)
    = (((if n.val < 128 ∧ k.val % 128 ≤ n.val then 0 else -1 : ℝ)) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  simp only [StableHlo.TRef.ofBuf_toBuf]
  simp only [StableHlo.TRef.toBuf, StableHlo.TRef.ofBuf, cast_eq, id_eq]
  pointwise
  rw [mod_word, WordCmp.cmpi_slt_ofNat (a := n.val) (b := 128) (by omega) (by omega),
    WordCmp.cmpi_sgt_ofNat (a := k.val % 128) (b := n.val) (by omega) (by omega), WordCmp.select_decide, minus_one_val]
  by_cases hn : n.val < 128
  · rw [if_pos hn, WordCmp.select_decide]
    by_cases hk : n.val < k.val % 128
    · rw [if_pos hk, if_neg (by omega)]
    · rw [if_neg hk, if_pos (by omega)]
      rfl
  · rw [if_neg hn, if_neg (by omega)]
    rfl

end Cert.Entry

end
-- ==== Proof.Grid.lean ====
/- The whole grid: a point's blocks hold what the step lemmas ask of them, so the kernel's result is the
   attention of the arguments. -/
module

public import proofs.«01_k».proof.Proof.Gen.KernelIdeal.Value
public import proofs.«01_k».proof.Proof.Out
public import proofs.«01_k».proof.Proof.Steps
public import proofs.«01_k».proof.Proof.Entry

@[expose] public section

set_option maxRecDepth 16384

noncomputable section

namespace Cert.Grid

open Cert.KernelIdeal Cert.KernelIdeal.Gen Idealize.ShloMosaic Idealize.ShloMosaic.TcCoe Cert.Soft Cert.Spec Cert.Read Cert.Entry Cert.Out Cert.Trip Idealize.SL.Sem

variable (m : (ℓ : Loc nD τ sig) → Buf (Elt Ideal) ℓ) (c : Dev nD)

/-- The windows' index maps: point `t` is batch `t / 8`, query block `t % 8`. -/
theorem idx : ∀ t : Fin cfg0.N, win0_0.index t = ![0] ∧ win0_1.index t = ![t.val, 0] ∧ win0_2.index t = ![t.val, 0]
    ∧ win0_3.index t = ![t.val / 8, 0] ∧ win0_4.index t = ![t.val / 8, 0] ∧ win0_5.index t = ![t.val / 8, 0]
    ∧ win0_6.index t = ![0, 0] ∧ win0_7.index t = ![t.val, 0] ∧ t.val < 128 ∧ (grid0.coords t 1).val = t.val % 8 :=
  (by decide +kernel : ∀ t : Fin grid0.N, _)

variable (t : Fin cfg0.N)

theorem blk0 (n : Fin 12) : (iblk m c 0 t : S12.Idx → EReal) (ix1 n) = aB m c (ix2 0 n) := by
  obtain ⟨e0, -⟩ := idx t
  rw [← bias_apply]
  blk_ext [iblk, e0]

theorem blk1 (r : Fin 256) (n : Fin 768) : (iblk m c 1 t : S256x768.Idx → EReal) (ix2 r n)
    = (V m c main_v18 : S32768x768.Idx → EReal) (ix2 ⟨256 * t.val + r.val, by have := (idx t).2.2.2.2.2.2.2.2.1; omega⟩ n) := by
  obtain ⟨-, e1, -⟩ := idx t
  blk_ext [iblk, e1]

theorem blk2 (r : Fin 256) (n : Fin 768) : (iblk m c 2 t : S256x768.Idx → EReal) (ix2 r n)
    = (V m c main_v20 : S32768x768.Idx → EReal) (ix2 ⟨256 * t.val + r.val, by have := (idx t).2.2.2.2.2.2.2.2.1; omega⟩ n) := by
  obtain ⟨-, -, e2, -⟩ := idx t
  blk_ext [iblk, e2]

theorem blk3 (n : Fin 768) (s : Fin 2048) : (iblk m c 3 t : S768x2048.Idx → EReal) (ix2 n s)
    = (V m c main_v23 : S12288x2048.Idx → EReal) (ix2 ⟨768 * (t.val / 8) + n.val, by have := (idx t).2.2.2.2.2.2.2.2.1; omega⟩ s) := by
  obtain ⟨-, -, -, e3, -⟩ := idx t
  blk_ext [iblk, e3]

theorem blk4 (s : Fin 2048) (n : Fin 768) : (iblk m c 4 t : S2048x768.Idx → EReal) (ix2 s n)
    = (V m c main_v14 : S32768x768.Idx → EReal) (ix2 ⟨2048 * (t.val / 8) + s.val, by have := (idx t).2.2.2.2.2.2.2.2.1; omega⟩ n) := by
  obtain ⟨-, -, -, -, e4, -⟩ := idx t
  blk_ext [iblk, e4]

theorem blk5 (s : Fin 2048) (n : Fin 768) : (iblk m c 5 t : S2048x768.Idx → EReal) (ix2 s n)
    = (V m c main_v16 : S32768x768.Idx → EReal) (ix2 ⟨2048 * (t.val / 8) + s.val, by have := (idx t).2.2.2.2.2.2.2.2.1; omega⟩ n) := by
  obtain ⟨-, -, -, -, -, e5, -⟩ := idx t
  blk_ext [iblk, e5]

theorem blk6 (k n : Fin 256) : (iblk m c 6 t : S256x256.Idx → EReal) (ix2 k n) = (V m c main_v37 : S256x256.Idx → EReal) (ix2 k n) := by
  obtain ⟨-, -, -, -, -, -, e6, -⟩ := idx t
  blk_ext [iblk, e6]

/-! ### The point's tables -/

theorem batch_lt : t.val / 8 < 16 := by have := (idx t).2.2.2.2.2.2.2.2.1; omega

/-- The batch of a point. -/
def bt : Fin 16 := ⟨t.val / 8, batch_lt t⟩

/-- A point's queries, keys and biases, as reals, and its values. -/
def qr (r : Fin 256) (h : Fin 12) (d : Fin 64) : ℝ := (at4 (aQ m c) (bt t) (256 * (t.val % 8) + r.val) h d).toReal
@[inherit_doc qr] def kr (s : ℕ) (h : Fin 12) (d : Fin 64) : ℝ := (at4 (aK m c) (bt t) s h d).toReal
@[inherit_doc qr] def βr (h : Fin 12) : ℝ := (aB m c (ix2 0 h)).toReal
@[inherit_doc qr] def vr (s : ℕ) (h : Fin 12) (d : Fin 64) : EReal := at4 (aV m c) (bt t) s h d

/-- One element of an argument at coordinates that are equal numbers. -/
theorem at_congr (x : S16x2048x12x64.Idx → EReal) {b b' : Fin 16} {s s' : Fin 2048} {h h' : Fin 12} {d d' : Fin 64}
    (hb : b.val = b'.val) (hs : s.val = s'.val) (hh : h.val = h'.val) (hd : d.val = d'.val) : x (ix4 b s h d) = x (ix4 b' s' h' d') := by
  rw [Fin.ext hb, Fin.ext hs, Fin.ext hh, Fin.ext hd]

/-- A point's blocks hold its tables. -/
theorem blk (hq : IsReal (aQ m c)) (hk : IsReal (aK m c)) (hβ : IsReal (aB m c)) :
    Blk (iblk m c 0 t) (iblk m c 1 t) (iblk m c 2 t) (iblk m c 3 t) (iblk m c 4 t) (iblk m c 5 t) (iblk m c 6 t)
      (qr m c t) (kr m c t) (βr m c) (vr m c t) where
  b0 n := by rw [blk0]; exact hβ.coe_toReal _
  b1e r p d := by
    rw [blk1, qe_apply, if_pos (by show (128 * p.val + d.val) / 64 % 2 = 0; omega), EReal.coe_mul]
    congr 1
    unfold qr at4
    refine Eq.trans (at_congr _ ?_ ?_ ?_ ?_) (hq.coe_toReal _)
    · show (256 * t.val + r.val) / 2048 = t.val / 8; omega
    · show (256 * t.val + r.val) % 2048 = (256 * (t.val % 8) + r.val) % 2048; omega
    · show (128 * p.val + d.val) / 64 = 2 * p.val; omega
    · show (128 * p.val + d.val) % 64 = d.val; omega
  b1o r p d := by
    rw [blk1, qe_apply, if_neg (by show ¬ (128 * p.val + (64 + d.val)) / 64 % 2 = 0; omega)]
  b2e r p d := by
    rw [blk2, qo_apply, if_pos (by show (128 * p.val + d.val) / 64 % 2 = 0; omega)]
  b2o r p d := by
    rw [blk2, qo_apply, if_neg (by show ¬ (128 * p.val + (64 + d.val)) / 64 % 2 = 0; omega), EReal.coe_mul]
    congr 1
    unfold qr at4
    refine Eq.trans (at_congr _ ?_ ?_ ?_ ?_) (hq.coe_toReal _)
    · show (256 * t.val + r.val) / 2048 = t.val / 8; omega
    · show (256 * t.val + r.val) % 2048 = (256 * (t.val % 8) + r.val) % 2048; omega
    · show (128 * p.val + (64 + d.val)) / 64 = 2 * p.val + 1; omega
    · show (128 * p.val + (64 + d.val)) % 64 = d.val; omega
  b3e s p d := by
    rw [blk3, k_apply]
    unfold kr at4
    refine Eq.trans (at_congr _ ?_ ?_ ?_ ?_) (hk.coe_toReal _)
    · show (768 * (t.val / 8) + (128 * p.val + d.val)) / 768 = t.val / 8; omega
    · show s.val = s.val % 2048; omega
    · show (768 * (t.val / 8) + (128 * p.val + d.val)) % 768 / 64 = 2 * p.val; omega
    · show (768 * (t.val / 8) + (128 * p.val + d.val)) % 64 = d.val; omega
  b3o s p d := by
    rw [blk3, k_apply]
    unfold kr at4
    refine Eq.trans (at_congr _ ?_ ?_ ?_ ?_) (hk.coe_toReal _)
    · show (768 * (t.val / 8) + (128 * p.val + (64 + d.val))) / 768 = t.val / 8; omega
    · show s.val = s.val % 2048; omega
    · show (768 * (t.val / 8) + (128 * p.val + (64 + d.val))) % 768 / 64 = 2 * p.val + 1; omega
    · show (768 * (t.val / 8) + (128 * p.val + (64 + d.val))) % 64 = d.val; omega
  b4 s p l := by
    rw [blk4, ve_apply]
    by_cases hl : l.val < 64
    · rw [if_pos (by show (128 * p.val + l.val) / 64 % 2 = 0; omega), if_pos hl]
      unfold vr at4
      refine at_congr _ ?_ ?_ ?_ ?_
      · show (2048 * (t.val / 8) + s.val) / 2048 = t.val / 8; omega
      · show (2048 * (t.val / 8) + s.val) % 2048 = s.val % 2048; omega
      · show (128 * p.val + l.val) / 64 = 2 * p.val + l.val / 64; omega
      · show (128 * p.val + l.val) % 64 = l.val % 64; omega
    · rw [if_neg (by show ¬ (128 * p.val + l.val) / 64 % 2 = 0; omega), if_neg hl]
  b5 s p l := by
    rw [blk5, vo_apply]
    by_cases hl : l.val < 64
    · rw [if_pos (by show (128 * p.val + l.val) / 64 % 2 = 0; omega), if_pos hl]
    · rw [if_neg (by show ¬ (128 * p.val + l.val) / 64 % 2 = 0; omega), if_neg hl]
      unfold vr at4
      refine at_congr _ ?_ ?_ ?_ ?_
      · show (2048 * (t.val / 8) + s.val) / 2048 = t.val / 8; omega
      · show (2048 * (t.val / 8) + s.val) % 2048 = s.val % 2048; omega
      · show (128 * p.val + l.val) / 64 = 2 * p.val + l.val / 64; omega
      · show (128 * p.val + l.val) % 64 = l.val % 64; omega
  b6 k n := by rw [blk6, scan_apply]

/-- What a point leaves in its block of the result. -/
theorem point (hq : IsReal (aQ m c)) (hk : IsReal (aK m c)) (hβ : IsReal (aB m c)) (r : Fin 256) (n : Fin 768) :
    (outsAt0 (F := Ideal) m c t : S256x768.Idx → EReal) (ix2 r n)
      = out (aQ m c) (aK m c) (aV m c) (aB m c) (bt t) (256 * (t.val % 8) + r.val) ⟨n.val / 64, by omega⟩ ⟨n.val % 64, Nat.mod_lt _ (by decide)⟩ := by
  have H := blk m c t hq hk hβ
  have ei : (grid0.coords t 1).val = t.val % 8 := (idx t).2.2.2.2.2.2.2.2.2
  obtain ⟨cy, a, e, hG⟩ := out_eq (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _)
    (iblk m c 0 t) (iblk m c 1 t) (iblk m c 2 t) (iblk m c 3 t) (iblk m c 4 t) (iblk m c 5 t) (iblk m c 6 t)
    (Steps.Good (qr m c t) (kr m c t) (βr m c) (vr m c t) (grid0.coords t 1).val)
    (Steps.good_zero H _ _ (col0_le _) (col0_eq _))
    (fun k cy a hG => Steps.good_succ H _ _ _ (by have h := k.isLt; exact h.trans_eq (trips_eq _)) (col_le _ k) (colOf_eq _ k) cy a hG)
  unfold outsAt0
  rw [e]
  show a ⟨n.val / 128, _⟩ (ix2 r ⟨n.val % 128, _⟩) = _
  rw [Steps.good_done _ (by omega) cy a hG, ei]
  have eh : hl ⟨n.val / 128, by omega⟩ ⟨n.val % 128, by omega⟩ = ⟨n.val / 64, by omega⟩ :=
    Fin.ext (by show 2 * (n.val / 128) + n.val % 128 / 64 = n.val / 64; omega)
  have ed : dl ⟨n.val % 128, by omega⟩ = ⟨n.val % 64, by omega⟩ :=
    Fin.ext (by show n.val % 128 % 64 = n.val % 64; omega)
  rw [eh, ed]
  rfl

/-- The attention as one array: row `2048 b + t`, column `64 h + d`. -/
def attn (q k v : S16x2048x12x64.Idx → EReal) (β : S1x12.Idx → EReal) (y : S32768x768.Idx) : EReal :=
  out q k v β ⟨(y 0).val / 2048, by have : (y 0).val < 32768 := (y 0).isLt; omega⟩ ((y 0).val % 2048)
    ⟨(y 1).val / 64, by have : (y 1).val < 768 := (y 1).isLt; omega⟩ ⟨(y 1).val % 64, Nat.mod_lt _ (by decide)⟩

theorem out_congr (q k v : S16x2048x12x64.Idx → EReal) (β : S1x12.Idx → EReal) {b b' : Fin 16} {s s' : ℕ} {h h' : Fin 12} {d d' : Fin 64}
    (hb : b.val = b'.val) (hs : s = s') (hh : h.val = h'.val) (hd : d.val = d'.val) : out q k v β b s h d = out q k v β b' s' h' d' := by
  rw [Fin.ext hb, hs, Fin.ext hh, Fin.ext hd]

/-- The kernel's result is the attention of its arguments. -/
theorem result (hq : IsReal (aQ m c)) (hk : IsReal (aK m c)) (hβ : IsReal (aB m c)) :
    (dats m 0 c).arrAt 7 cfg0.N = attn (aQ m c) (aK m c) (aV m c) (aB m c) := by
  refine (dats m 0 c).arrAt_eq_of_covers 7 _ (by decide +kernel) fun t hf y => ?_
  have e7 := (idx t).2.2.2.2.2.2.2.1
  have h0 : ((((cfg0.win 7).blk t).view.emb y) 0 : ℕ) = t.val * 256 + (y 0).val := by blk_simp [e7]
  have h1 : ((((cfg0.win 7).blk t).view.emb y) 1 : ℕ) = (y 1).val := by blk_simp [e7]
  have l0 : (y 0).val < 256 := (y 0).isLt
  have l1 : (y 1).val < 768 := (y 1).isLt
  blk_simp
  rw [after0_7]
  have ey : (y : S256x768.Idx) = ix2 (⟨(y 0).val, l0⟩ : Fin 256) (⟨(y 1).val, l1⟩ : Fin 768) := eq_ix2 _
  refine ((congrArg _ ey).trans (point m c t hq hk hβ ⟨(y 0).val, l0⟩ ⟨(y 1).val, l1⟩)).trans ?_
  refine out_congr _ _ _ _ ?_ ?_ ?_ ?_
  · show t.val / 8 = (((cfg0.win 7).blk t).view.emb y 0 : ℕ) / 2048
    rw [h0]; omega
  · show 256 * (t.val % 8) + (y 0).val = (((cfg0.win 7).blk t).view.emb y 0 : ℕ) % 2048
    rw [h0]; omega
  · show (y 1).val / 64 = (((cfg0.win 7).blk t).view.emb y 1 : ℕ) / 64
    rw [h1]
  · show (y 1).val % 64 = (((cfg0.win 7).blk t).view.emb y 1 : ℕ) % 64
    rw [h1]

end Cert.Grid

end
-- ==== Proof.Finite.lean ====
/- What the claim's precondition says: the queries, the keys and the biases are reals. -/
module

public import proofs.«01_k».proof.Defs
public import proofs.«01_k».proof.Pre_finite
public import proofs.«01_k».proof.Proof.Spec
public import Idealize.ShloMosaic.Lib.Pointwise
public import Idealize.ShloMosaic.Lib.ReduceAll

@[expose] public section

noncomputable section

namespace Cert.Finite

open Idealize.ShloMosaic Cert.Pre_finite Cert.Spec

variable [Cert.Pre_finite.Facts]

theorem top_val : Ideal.ofBits FTy.f32 0x7F800000#32 = ⊤ := by
  simp [Ideal.ofBits, Ideal.ieee]

theorem bot_val : Ideal.ofBits FTy.f32 0xFF800000#32 = ⊥ := by
  simp [Ideal.ofBits, Ideal.ieee]

/-- An array that lies between the infinities, by its comparisons' words, is real. -/
theorem real_of_words {s : Shape} (x : FVec Ideal s .f32) (h : ∀ i, IntOp.andi (FloatOps.cmpf (F := Ideal) .ogt (x i) (Ideal.ofBits FTy.f32 0xFF800000#32))
      (FloatOps.cmpf (F := Ideal) .olt (x i) (Ideal.ofBits FTy.f32 0x7F800000#32)) = 1#1) : IsReal (x : s.Idx → EReal) := by
  intro i
  obtain ⟨h1, h2⟩ := IntOp.andi_eq_one.1 (h i)
  rw [bot_val] at h1
  rw [top_val] at h2
  have a1 : (⊥ : EReal) < x i := by
    change BitVec.ofBool (decide ((⊥ : EReal) < x i)) = 1#1 at h1
    by_contra hn
    rw [decide_eq_false hn] at h1
    exact absurd h1 (by decide)
  have a2 : (x i : EReal) < ⊤ := by
    change BitVec.ofBool (decide ((x i : EReal) < ⊤)) = 1#1 at h2
    by_contra hn
    rw [decide_eq_false hn] at h2
    exact absurd h2 (by decide)
  exact ⟨(x i : EReal).toReal, (EReal.coe_toReal a2.ne a1.ne').symm⟩

/-- The precondition's one word is `1` only where all three arrays are real. -/
theorem reals (q k v : FVec Ideal S16x2048x12x64 .f32) (β : FVec Ideal S1x12 .f32) (i : S_.Idx) (h : fn (F := Ideal) q k v β i = 1#1) :
    IsReal (q : S16x2048x12x64.Idx → EReal) ∧ IsReal (k : S16x2048x12x64.Idx → EReal) ∧ IsReal (β : S1x12.Idx → EReal) := by
  have : Subsingleton S_.Idx := ⟨fun a b => funext fun d => d.elim0⟩
  obtain ⟨h12, h3⟩ := IntOp.andi_eq_one.1 h
  obtain ⟨h1, h2⟩ := IntOp.andi_eq_one.1 h12
  exact ⟨real_of_words _ fun j => Host.reduce_andi_all _ _ _ _ _ h1 j, real_of_words _ fun j => Host.reduce_andi_all _ _ _ _ _ h2 j,
    real_of_words _ fun j => Host.reduce_andi_all _ _ _ _ _ h3 j⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.FfnGrid
public import proofs.«01_k».proof.Proof.MemKv
public import proofs.«01_k».proof.Proof.MixOut
public import proofs.«01_k».proof.Proof.MixAGrid
public import proofs.«01_k».proof.Proof.MixARef
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.MixA
public import proofs.«01_k».proof.Proof.Gen.MixA.Skeleton
public import proofs.«01_k».proof.Proof.Gen.MixA.Launch
public import proofs.«01_k».proof.Proof.Gen.MixA.Points
public import proofs.«01_k».proof.Proof.Gen.MixA.Frame
public import proofs.«01_k».proof.Proof.Gen.MixAIdeal
public import proofs.«01_k».proof.Proof.Gen.MixAIdeal.Skeleton
public import proofs.«01_k».proof.Proof.Gen.MixAIdeal.Launch
public import proofs.«01_k».proof.Proof.Gen.MixAIdeal.Points
public import proofs.«01_k».proof.Proof.Gen.MixAIdeal.Frame
public import proofs.«01_k».proof.Proof.Gen.MixAIdeal.Value
public import proofs.«01_k».proof.Proof.Gen.MixAReferenceIdeal
public import proofs.«01_k».proof.Proof.Gen.MixAReferenceIdeal.Run
public import proofs.«01_k».proof.Proof.Gen.MixAReferenceIdeal.Read
public import proofs.«01_k».proof.Proof.Gen.Pre_finite

public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import proofs.«01_k».proof.Proof.Grid
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs on the host alone: its arguments stay and it holds no counter. -/
theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

/-- Both rewrites are what their rules say. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.bf16_pack.statement _⟩

/-- The reference's result is the attention of its arguments. -/
theorem reference_value (q k v : Cert.KernelIdeal.S16x2048x12x64.Idx → EReal) (β : Cert.KernelIdeal.S1x12.Idx → EReal)
    (hq : Cert.Spec.IsReal q) (hk : Cert.Spec.IsReal k) (hβ : Cert.Spec.IsReal β) :
    Cert.ReferenceIdeal.Read.val_main_v28 (F := Ideal) q k v β = Cert.Grid.attn q k v β := by
  funext i
  have h0 : (i 0).val < 32768 := (i 0).isLt
  have h1 : (i 1).val < 768 := (i 1).isLt
  exact Cert.Ref.result_apply q k v β hq hk hβ ⟨(i 0).val / 2048, by omega⟩ ⟨(i 0).val % 2048, by omega⟩
    ⟨(i 1).val / 64, by omega⟩ ⟨(i 1).val % 64, by omega⟩ i
    (by show (i 0).val = 2048 * ((i 0).val / 2048) + (i 0).val % 2048; omega)
    (by show (i 1).val = 64 * ((i 1).val / 64) + (i 1).val % 64; omega)

/-- Kernel and reference both end with the attention of the arguments. -/
theorem algebraic : Cert.algebraic_KernelIdeal_ReferenceIdeal_pre_finite := by
  intro m g m' g' hp hm
  have hr := fun c : Dev Cert.KernelIdeal.nD => Cert.Finite.reals _ _ _ _ (fun d => d.elim0) (congrFun (hp c) _)
  refine ⟨fun c => Cert.Grid.attn (Cert.Entry.aQ m c) (Cert.Entry.aK m c) (Cert.Entry.aV m c) (Cert.Entry.aB m c), ?_, ?_⟩
  · refine (θ_run Cert.KernelIdeal.defs _ _).mono (fun r h c => ?_) (Cert.KernelIdeal.Value.run_blocks (F := Ideal) m g)
    obtain ⟨h1, h2⟩ := h c
    exact ⟨h1.trans (Cert.Grid.result m c (hr c).1 (hr c).2.1 (hr c).2.2), h2⟩
  · refine (θ_run Cert.ReferenceIdeal.defs _ _).mono (fun r h c => ?_) (Cert.ReferenceIdeal.Value.run (F := Ideal) m' g')
    obtain ⟨h1, h2⟩ := h c
    refine ⟨h1.trans ?_, h2⟩
    obtain ⟨e0, e1, e2, e3⟩ := hm c
    rw [Cert.ReferenceIdeal.Read.val_main_v28_eq]
    refine Eq.trans ?_ (reference_value _ _ _ _ (hr c).1 (hr c).2.1 (hr c).2.2)
    rw [e0, e1, e2, e3]

/-- The feed-forward reference runs on the host alone. -/
theorem frame_ffn_reference : Cert.quiescent_FfnReferenceIdeal := fun m ρ _ =>
  (θ_run Cert.FfnReferenceIdeal.defs _ _).mono (fun r h => ⟨fun c => (h c).2.2.2, sem_eq_zero_of_no_sems rfl _⟩)
    (Cert.FfnReferenceIdeal.Value.run (F := Ideal) m ρ)

section Ffn

variable (x : Cert.FfnIdeal.S16x2048x1024.Idx → EReal) (n2 n3 : Cert.FfnIdeal.S1x1024.Idx → EReal) (wu : Cert.FfnIdeal.S1024x5632.Idx → EReal)
  (cw : Cert.FfnIdeal.S3x5632.Idx → EReal) (cb : Cert.FfnIdeal.S1x5632.Idx → EReal) (wd : Cert.FfnIdeal.S2816x1024.Idx → EReal)

/-- The feed-forward reference's first result is the sub-layer's output. -/
theorem ffn_value_x : Cert.FfnReferenceIdeal.Read.val_main_v76 (F := Ideal) x n2 n3 wu cw cb wd = Cert.FfnGrid.outArr x n2 n3 wu cw cb wd := by
  funext i
  have ei : (i : Cert.FfnIdeal.S32768x1024.Idx) = ix2 (i 0) (i 1) := eq_ix2 i
  refine Eq.trans (congrArg _ ei) ?_
  exact Cert.FfnRef.result_x x n2 n3 wu cw cb wd (i 0) (i 1)

/-- Its second and third are the last rows of the up projection. -/
theorem ffn_value_a : Cert.FfnReferenceIdeal.Read.val_main_v77 (F := Ideal) x n2 wu = Cert.FfnGrid.tailArr 0 x n2 wu := by
  funext i
  have ei : (i : Cert.FfnIdeal.S512x2816.Idx) = ix2 (i 0) (i 1) := eq_ix2 i
  refine Eq.trans (congrArg _ ei) ((Cert.FfnRef.result_a x n2 wu (i 0) (i 1)).trans ?_)
  unfold Cert.FfnGrid.tailArr
  rw [Nat.zero_add]

theorem ffn_value_g : Cert.FfnReferenceIdeal.Read.val_main_v78 (F := Ideal) x n2 wu = Cert.FfnGrid.tailArr 2816 x n2 wu := by
  funext i
  have ei : (i : Cert.FfnIdeal.S512x2816.Idx) = ix2 (i 0) (i 1) := eq_ix2 i
  exact Eq.trans (congrArg _ ei) (Cert.FfnRef.result_g x n2 wu (i 0) (i 1))

end Ffn

/-- Kernel and reference of the feed-forward sub-layer end with the same three arrays. -/
theorem algebraic_ffn : Cert.algebraic_FfnIdeal_FfnReferenceIdeal := by
  intro m g m' g' _ hm
  refine ⟨fun c => Cert.FfnGrid.outArr (Cert.FfnGrid.aX m c) (Cert.FfnGrid.aN2 m c) (Cert.FfnGrid.aN3 m c) (Cert.FfnGrid.aWu m c)
      (Cert.FfnGrid.aCw m c) (Cert.FfnGrid.aCb m c) (Cert.FfnGrid.aWd m c),
    fun c => Cert.FfnGrid.tailArr 0 (Cert.FfnGrid.aX m c) (Cert.FfnGrid.aN2 m c) (Cert.FfnGrid.aWu m c),
    fun c => Cert.FfnGrid.tailArr 2816 (Cert.FfnGrid.aX m c) (Cert.FfnGrid.aN2 m c) (Cert.FfnGrid.aWu m c), ?_, ?_⟩
  · refine (θ_run Cert.FfnIdeal.defs _ _).mono (fun r h c => ?_) (Cert.FfnIdeal.Value.run_blocks (F := Ideal) m g)
    obtain ⟨h1, h2, h3, h4⟩ := h c
    exact ⟨h1.trans (Cert.FfnGrid.result_x m c), h2.trans (Cert.FfnGrid.result_a m c), h3.trans (Cert.FfnGrid.result_g m c), h4⟩
  · refine (θ_run Cert.FfnReferenceIdeal.defs _ _).mono (fun r h c => ?_) (Cert.FfnReferenceIdeal.Value.run (F := Ideal) m' g')
    obtain ⟨h1, h2, h3, h4⟩ := h c
    obtain ⟨e0, e1, e2, e3, e4, e5, e6⟩ := hm c
    refine ⟨h1.trans ?_, h2.trans ?_, h3.trans ?_, h4⟩
    · rw [Cert.FfnReferenceIdeal.Read.val_main_v76_eq]
      refine Eq.trans ?_ (ffn_value_x _ _ _ _ _ _ _)
      rw [e0, e1, e2, e3, e4, e5, e6]
    · refine (Cert.FfnReferenceIdeal.Read.val_main_v77_eq _ _ _).trans (Eq.trans ?_ (ffn_value_a _ _ _))
      rw [e0, e1, e3]
    · refine (Cert.FfnReferenceIdeal.Read.val_main_v78_eq _ _ _).trans (Eq.trans ?_ (ffn_value_g _ _ _))
      rw [e0, e1, e3]

/-- The memory's reference runs, leaves its arguments as they were and frees its semaphores. -/
theorem frame_mem_reference : Cert.quiescent_MemKvReferenceIdeal := fun m ρ _ =>
  (θ_run Cert.MemKvReferenceIdeal.defs _ _).mono (fun r h => ⟨fun c => (h c).2.2, sem_eq_zero_of_no_sems rfl _⟩)
    (Cert.MemKvReferenceIdeal.Value.run (F := Ideal) m ρ)

/-- The output projection's reference runs, leaves its arguments as they were and frees its semaphores. -/
theorem frame_mix_reference : Cert.quiescent_MixOutReferenceIdeal := fun m ρ _ =>
  (θ_run Cert.MixOutReferenceIdeal.defs _ _).mono (fun r h => ⟨fun c => (h c).2, sem_eq_zero_of_no_sems rfl _⟩)
    (Cert.MixOutReferenceIdeal.Value.run (F := Ideal) m ρ)

/-- The first mixer's reference runs, leaves its arguments as they were and frees its semaphores. -/
theorem frame_mixa_reference : Cert.quiescent_MixAReferenceIdeal := fun m ρ _ =>
  (θ_run Cert.MixAReferenceIdeal.defs _ _).mono (fun r h => ⟨fun c => (h c).2, sem_eq_zero_of_no_sems rfl _⟩)
    (Cert.MixAReferenceIdeal.Value.run (F := Ideal) m ρ)

/-- Kernel and reference end with the same keys and values of the memory. -/
theorem algebraic_mem : Cert.algebraic_MemKvIdeal_MemKvReferenceIdeal := by
  intro m g m' g' _ hm
  refine ⟨fun c => Cert.MemProof.arr 0 (by norm_num) (Cert.MemProof.aX m c) (Cert.MemProof.aW m c),
    fun c => Cert.MemProof.arr 256 le_rfl (Cert.MemProof.aX m c) (Cert.MemProof.aW m c), ?_, ?_⟩
  · refine (θ_run Cert.MemKvIdeal.defs _ _).mono (fun r h c => ?_) (Cert.MemKvIdeal.Value.run_blocks (F := Ideal) m g)
    obtain ⟨h1, h2, h3⟩ := h c
    exact ⟨h1.trans (Cert.MemProof.result_k m c), h2.trans (Cert.MemProof.result_v m c), h3⟩
  · refine (θ_run Cert.MemKvReferenceIdeal.defs _ _).mono (fun r h c => ?_) (Cert.MemKvReferenceIdeal.Value.run (F := Ideal) m' g')
    obtain ⟨h1, h2, h3⟩ := h c
    obtain ⟨e0, e1⟩ := hm c
    refine ⟨h1.trans ?_, h2.trans ?_, h3⟩
    · refine (Cert.MemKvReferenceIdeal.Read.val_main_v4_eq _ _).trans (Eq.trans ?_ (Cert.MemProof.reference_k _ _))
      rw [e0, e1]
    · refine (Cert.MemKvReferenceIdeal.Read.val_main_v7_eq _ _).trans (Eq.trans ?_ (Cert.MemProof.reference_v _ _))
      rw [e0, e1]

/-- Kernel and reference of the mixer's output projection end with the same rows. -/
theorem algebraic_mix : Cert.algebraic_MixOutIdeal_MixOutReferenceIdeal := by
  intro m g m' g' _ hm
  refine ⟨fun c => Cert.MixOutProof.arr (Cert.MixOutProof.aX m c) (Cert.MixOutProof.aSb m c) (Cert.MixOutProof.aM m c)
    (Cert.MixOutProof.aW m c) (Cert.MixOutProof.aG m c), ?_, ?_⟩
  · refine (θ_run Cert.MixOutIdeal.defs _ _).mono (fun r h c => ?_) (Cert.MixOutIdeal.Value.run_blocks (F := Ideal) m g)
    obtain ⟨h1, h2⟩ := h c
    exact ⟨h1.trans (Cert.MixOutProof.result m c), h2⟩
  · refine (θ_run Cert.MixOutReferenceIdeal.defs _ _).mono (fun r h c => ?_) (Cert.MixOutReferenceIdeal.Value.run (F := Ideal) m' g')
    obtain ⟨h1, h2⟩ := h c
    obtain ⟨e0, e1, e2, e3, e4⟩ := hm c
    refine ⟨h1.trans ?_, h2⟩
    refine (Cert.MixOutReferenceIdeal.Read.val_main_v17_eq _ _ _ _ _).trans (Eq.trans ?_ (Cert.MixOutProof.reference _ _ _ _ _))
    rw [e0, e1, e2, e3, e4]

/-- Kernel and reference of the first mixer end with the same rows. -/
theorem algebraic_mixa : Cert.algebraic_MixAIdeal_MixAReferenceIdeal := by
  intro m g m' g' _ hm
  refine ⟨fun c => Cert.MixAPay.arr (Cert.MixAGrid.P m c), ?_, ?_⟩
  · refine (θ_run Cert.MixAIdeal.defs _ _).mono (fun r h c => ?_) (Cert.MixAIdeal.Value.run_blocks (F := Ideal) m g)
    obtain ⟨h1, h2⟩ := h c
    exact ⟨h1.trans (Cert.MixAGrid.result m c), h2⟩
  · refine (θ_run Cert.MixAReferenceIdeal.defs _ _).mono (fun r h c => ?_) (Cert.MixAReferenceIdeal.Value.run (F := Ideal) m' g')
    obtain ⟨h1, h2⟩ := h c
    obtain ⟨e0, e1, e2, e3, e4, e5, e6, e7, e8, e9⟩ := hm c
    refine ⟨h1.trans ?_, h2⟩
    refine (Cert.MixAReferenceIdeal.Read.val_main_v104_eq _ _).trans (Eq.trans ?_ (Cert.MixARef.reference _ _ _ _ _ _ _ _ _ _))
    rw [e0, e1, e2, e3, e4, e5, e6, e7, e8, e9]

/-- The frames, the ledger and the values of the five programs. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.MemKv.Gen.facts, Cert.MemKvIdeal.Gen.facts, Cert.MemKvReferenceIdeal.Gen.facts,
  Cert.MixOut.Gen.facts, Cert.MixOutIdeal.Gen.facts, Cert.MixOutReferenceIdeal.Gen.facts,
  Cert.MixA.Gen.facts, Cert.MixAIdeal.Gen.facts, Cert.MixAReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Ffn.Gen.frame m ρ, fun m ρ _ => Cert.FfnIdeal.Gen.frame m ρ, frame_ffn_reference,
  fun m ρ _ => Cert.MemKv.Gen.frame m ρ, fun m ρ _ => Cert.MemKvIdeal.Gen.frame m ρ, frame_mem_reference,
  fun m ρ _ => Cert.MixOut.Gen.frame m ρ, fun m ρ _ => Cert.MixOutIdeal.Gen.frame m ρ, frame_mix_reference,
  fun m ρ _ => Cert.MixA.Gen.frame m ρ, fun m ρ _ => Cert.MixAIdeal.Gen.frame m ρ, frame_mixa_reference,
  preserves, algebraic, trivial, algebraic_ffn, trivial, algebraic_mem, trivial, algebraic_mix, trivial, algebraic_mixa⟩

end Cert.Proof

end
